-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_qk [hPre_finite_qk : Cert.Pre_finite_qk.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_w [hPre_finite_w : Cert.Pre_finite_w.Facts] (m : (ℓ : Loc Cert.InprojIdeal.nD Cert.InprojIdeal.τ Cert.InprojIdeal.sig) → Buf (Elt Ideal) ℓ) : Prop :=
  ∀ c : Dev Cert.InprojIdeal.nD,
    (Cert.Pre_finite_w.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_w [hPre_finite_w : Cert.Pre_finite_w.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_w.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_qk [hAttentionRefIdeal : Cert.AttentionRefIdeal.Facts] [hPre_finite_qk : Cert.Pre_finite_qk.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_qk m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_w [hInprojIdeal : Cert.InprojIdeal.Facts] [hPre_finite_w : Cert.Pre_finite_w.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_w m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_w [hInprojRefIdeal : Cert.InprojRefIdeal.Facts] [hPre_finite_w : Cert.Pre_finite_w.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_w m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Attention_AttentionIdeal : Prop :=
  True

def algebraic_AttentionIdeal_AttentionRefIdeal_pre_finite_qk [hAttentionIdeal : Cert.AttentionIdeal.Facts] [hAttentionRefIdeal : Cert.AttentionRefIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_qk m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v24) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal_pre_finite_w [hInprojIdeal : Cert.InprojIdeal.Facts] [hInprojRefIdeal : Cert.InprojRefIdeal.Facts] [hPre_finite_w : Cert.Pre_finite_w.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_w m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v133_0)) (v1 : (c : Dev Cert.InprojIdeal.nD) → Buf (Elt Ideal) ((c.tc : Thread Cert.InprojIdeal.nD Cert.InprojIdeal.τ).loc Cert.InprojIdeal.main_v133_1)) (v2 : (c : Dev Cert.InprojIdeal.nD) → Buf (Elt Ideal) ((c.tc : Thread Cert.InprojIdeal.nD Cert.InprojIdeal.τ).loc Cert.InprojIdeal.main_v133_2)) (v3 : (c : Dev Cert.InprojIdeal.nD) → Buf (Elt Ideal) ((c.tc : Thread Cert.InprojIdeal.nD Cert.InprojIdeal.τ).loc Cert.InprojIdeal.main_v133_3)) (v4 : (c : Dev Cert.InprojIdeal.nD) → Buf (Elt Ideal) ((c.tc : Thread Cert.InprojIdeal.nD Cert.InprojIdeal.τ).loc Cert.InprojIdeal.main_v133_4)) (v5 : (c : Dev Cert.InprojIdeal.nD) → Buf (Elt Ideal) ((c.tc : Thread Cert.InprojIdeal.nD Cert.InprojIdeal.τ).loc Cert.InprojIdeal.main_v133_5)) (v6 : (c : Dev Cert.InprojIdeal.nD) → Buf (Elt Ideal) ((c.tc : Thread Cert.InprojIdeal.nD Cert.InprojIdeal.τ).loc Cert.InprojIdeal.main_v133_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v133_0) = v0 c
          ∧ r.2.mem ((c.tc : Thread Cert.InprojIdeal.nD Cert.InprojIdeal.τ).loc Cert.InprojIdeal.main_v133_1) = v1 c
          ∧ r.2.mem ((c.tc : Thread Cert.InprojIdeal.nD Cert.InprojIdeal.τ).loc Cert.InprojIdeal.main_v133_2) = v2 c
          ∧ r.2.mem ((c.tc : Thread Cert.InprojIdeal.nD Cert.InprojIdeal.τ).loc Cert.InprojIdeal.main_v133_3) = v3 c
          ∧ r.2.mem ((c.tc : Thread Cert.InprojIdeal.nD Cert.InprojIdeal.τ).loc Cert.InprojIdeal.main_v133_4) = v4 c
          ∧ r.2.mem ((c.tc : Thread Cert.InprojIdeal.nD Cert.InprojIdeal.τ).loc Cert.InprojIdeal.main_v133_5) = v5 c
          ∧ r.2.mem ((c.tc : Thread Cert.InprojIdeal.nD Cert.InprojIdeal.τ).loc Cert.InprojIdeal.main_v133_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v211) = v0 c
          ∧ r.2.mem ((c.tc : Thread Cert.InprojRefIdeal.nD Cert.InprojRefIdeal.τ).loc Cert.InprojRefIdeal.main_v213) = v1 c
          ∧ r.2.mem ((c.tc : Thread Cert.InprojRefIdeal.nD Cert.InprojRefIdeal.τ).loc Cert.InprojRefIdeal.main_v214) = v2 c
          ∧ r.2.mem ((c.tc : Thread Cert.InprojRefIdeal.nD Cert.InprojRefIdeal.τ).loc Cert.InprojRefIdeal.main_v17) = v3 c
          ∧ r.2.mem ((c.tc : Thread Cert.InprojRefIdeal.nD Cert.InprojRefIdeal.τ).loc Cert.InprojRefIdeal.main_v217) = v4 c
          ∧ r.2.mem ((c.tc : Thread Cert.InprojRefIdeal.nD Cert.InprojRefIdeal.τ).loc Cert.InprojRefIdeal.main_v218) = v5 c
          ∧ r.2.mem ((c.tc : Thread Cert.InprojRefIdeal.nD Cert.InprojRefIdeal.τ).loc Cert.InprojRefIdeal.main_v219) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v44) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hAttention : Cert.Attention.Facts) (hAttentionIdeal : Cert.AttentionIdeal.Facts) (hAttentionRefIdeal : Cert.AttentionRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPool : Cert.Pool.Facts) (hPoolIdeal : Cert.PoolIdeal.Facts) (hPoolRefIdeal : Cert.PoolRefIdeal.Facts) (hPre_finite_qk : Cert.Pre_finite_qk.Facts) (hPre_finite_w : Cert.Pre_finite_w.Facts),
    quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionRefIdeal (hAttentionRefIdeal := hAttentionRefIdeal)
    ∧ quiescent_AttentionRefIdeal_pre_finite_qk (hAttentionRefIdeal := hAttentionRefIdeal) (hPre_finite_qk := hPre_finite_qk)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojIdeal_pre_finite_w (hInprojIdeal := hInprojIdeal) (hPre_finite_w := hPre_finite_w)
    ∧ quiescent_InprojRefIdeal (hInprojRefIdeal := hInprojRefIdeal)
    ∧ quiescent_InprojRefIdeal_pre_finite_w (hInprojRefIdeal := hInprojRefIdeal) (hPre_finite_w := hPre_finite_w)
    ∧ quiescent_Pool (hPool := hPool)
    ∧ quiescent_PoolIdeal (hPoolIdeal := hPoolIdeal)
    ∧ quiescent_PoolRefIdeal (hPoolRefIdeal := hPoolRefIdeal)
    ∧ preserves_Attention_AttentionIdeal
    ∧ algebraic_AttentionIdeal_AttentionRefIdeal_pre_finite_qk (hAttentionIdeal := hAttentionIdeal) (hAttentionRefIdeal := hAttentionRefIdeal) (hPre_finite_qk := hPre_finite_qk)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal_pre_finite_w (hInprojIdeal := hInprojIdeal) (hInprojRefIdeal := hInprojRefIdeal) (hPre_finite_w := hPre_finite_w)
    ∧ preserves_Pool_PoolIdeal
    ∧ algebraic_PoolIdeal_PoolRefIdeal (hPoolIdeal := hPoolIdeal) (hPoolRefIdeal := hPoolRefIdeal)
-- ==== Pre_finite_qk.lean ====
abbrev S32768x512 : Shape := ⟨2, ![32768, 512]⟩
abbrev S32768x128 : Shape := ⟨2, ![32768, 128]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S32768x512 .bf16) (main_arg1 : FVec F S32768x128 .bf16) (main_arg2 : FVec F S32768x128 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : IVec S_ 1 := andi main_v4 main_v9
  main_v10
-- ==== Pre_finite_w.lean ====
abbrev S32768x1024 : Shape := ⟨2, ![32768, 1024]⟩
abbrev S1024 : Shape := ⟨1, ![1024]⟩
abbrev S1024x5888 : Shape := ⟨2, ![1024, 5888]⟩
abbrev S64 : Shape := ⟨1, ![64]⟩
abbrev S_ : Shape := ⟨0, ![]⟩
abbrev S1024x640 : Shape := ⟨2, ![1024, 640]⟩

class Facts : Prop where
  bcast_S_S1024 : S_.BroadcastsInDim S1024 (![] : Fin 0 → Fin S1024.rank)
  reducesTo_S1024_S_d0 : S1024.ReducesTo [0] S_
  h_S_ : 0 < S_.numel
  slices_S1024x5888_S1024x640_0_0 : S1024x5888.Slices ![0, 0] S1024x640
  bcast_S_S1024x640 : S_.BroadcastsInDim S1024x640 (![] : Fin 0 → Fin S1024x640.rank)
  reducesTo_S1024x640_S_d0_1 : S1024x640.ReducesTo [0, 1] S_

variable [Facts]

def fn {F : FTy → Type} [FloatOps F] (main_arg0 : FVec F S32768x1024 .f32) (main_arg1 : FVec F S1024 .f32) (main_arg2 : FVec F S1024x5888 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x640 .f32 := (extractStridedSlice S1024x640 ![0, 0] · slices_S1024x5888_S1024x640_0_0) main_arg2
  let main_v5 : FVec F S1024x640 .f32 := Host.absf main_v4
  let main_cst_0 : FVec F S_ .f32 := constant S_ .f32 0x7F800000#32
  let main_v6 : FVec F S1024x640 .f32 := broadcastInDim S1024x640 ![] bcast_S_S1024x640 main_cst_0
  let main_v7 : IVec S1024x640 1 := cmpf .olt main_v5 main_v6
  let main_c_1 : IVec S_ 1 := constantI S_ 1 1#1
  let main_v8 : IVec S_ 1 := (fun x v => Host.reduce IntOp.andi x v reducesTo_S1024x640_S_d0_1 h_S_) main_v7 main_c_1
  let main_v9 : IVec S_ 1 := andi main_v3 main_v8
  main_v9
-- ==== Attention.lean ====
abbrev S32768x512 : Shape := ⟨2, ![32768, 512]⟩
abbrev S32768x128 : Shape := ⟨2, ![32768, 128]⟩
abbrev S256x512 : Shape := ⟨2, ![256, 512]⟩
abbrev S2048x128 : Shape := ⟨2, ![2048, 128]⟩
abbrev S256x128 : Shape := ⟨2, ![256, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionRefIdeal.lean ====
abbrev S32768x512 : Shape := ⟨2, ![32768, 512]⟩
abbrev S32768x128 : Shape := ⟨2, ![32768, 128]⟩
abbrev S16x2048x4x2x64 : Shape := ⟨5, ![16, 2048, 4, 2, 64]⟩
abbrev S16x2048x2x4x64 : Shape := ⟨5, ![16, 2048, 2, 4, 64]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .bf16⟩
  | .hbm, ⟨3, _⟩ => ⟨S32768x512, .f32⟩
  | .hbm, ⟨4, _⟩ => ⟨S16x2048x4x2x64, .f32⟩
  | .hbm, ⟨5, _⟩ => ⟨S16x2048x2x4x64, .f32⟩
  | .hbm, ⟨6, _⟩ => ⟨S32768x128, .f32⟩
  | .hbm, ⟨7, _⟩ => ⟨S16x2048x2x64, .f32⟩
  | .hbm, ⟨8, _⟩ => ⟨S32768x128, .f32⟩
  | .hbm, ⟨9, _⟩ => ⟨S16x2048x2x64, .f32⟩
  | .hbm, ⟨10, _⟩ => ⟨S16x2x2048x2048x4, .f32⟩
  | .hbm, ⟨11, _⟩ => ⟨S16x2x4x2048x2048, .f32⟩
  | .hbm, ⟨12, _⟩ => ⟨S_, .f32⟩
  | .hbm, ⟨13, _⟩ => ⟨S16x2x4x2048, .f32⟩
  | .hbm, ⟨14, _⟩ => ⟨S_, .f32⟩
  | .hbm, ⟨15, _⟩ => ⟨S16x2x4x2048, .f32⟩
  | .hbm, ⟨16, _⟩ => ⟨S16x2x4x2048, .f32⟩
  | .hbm, ⟨17, _⟩ => ⟨S16x2x4x2048x1, .f32⟩
  | .hbm, ⟨18, _⟩ => ⟨S16x2x4x2048x2048, .f32⟩
  | .hbm, ⟨19, _⟩ => ⟨S16x2x4x2048x2048, .f32⟩
  | .hbm, ⟨20, _⟩ => ⟨S16x2x4x2048x2048, .f32⟩
  | .hbm, ⟨21, _⟩ => ⟨S_, .f32⟩
  | .hbm, ⟨22, _⟩ => ⟨S16x2x4x2048, .f32⟩
  | .hbm, ⟨23, _⟩ => ⟨S16x2x4x2048x1, .f32⟩
  | .hbm, ⟨24, _⟩ => ⟨S16x2x4x2048x2048, .f32⟩
  | .hbm, ⟨25, _⟩ => ⟨S16x2x4x2048x2048, .f32⟩
  | .hbm, ⟨26, _⟩ => ⟨S16x2x64x4x2048, .f32⟩
  | .hbm, ⟨27, _⟩ => ⟨S16x2048x2x4x64, .f32⟩
  | .hbm, ⟨28, _⟩ => ⟨S16x2048x4x2x64, .f32⟩
  | .hbm, ⟨29, _⟩ => ⟨S32768x512, .f32⟩
  | .hbm, ⟨30, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1x1024 : Shape := ⟨2, ![1, 1024]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1024x3072, .bf16⟩
  | .hbm, ⟨6, _⟩ => ⟨S1x3072, .f32⟩
  | .hbm, ⟨7, _⟩ => ⟨S3x512x1024, .bf16⟩
  | .hbm, ⟨8, _⟩ => ⟨S1024x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x1024 : Shape := ⟨2, ![32768, 1024]⟩
abbrev S32768x512 : Shape := ⟨2, ![32768, 512]⟩
abbrev S1x1024 : Shape := ⟨2, ![1, 1024]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩
abbrev S32768x1x512 : Shape := ⟨3, ![32768, 1, 512]⟩
abbrev S32768x3x512 : Shape := ⟨3, ![32768, 3, 512]⟩
abbrev S3x1024x32768 : Shape := ⟨3, ![3, 1024, 32768]⟩
abbrev S32768x3x1024 : Shape := ⟨3, ![32768, 3, 1024]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S1x1024, .f32⟩
  | .hbm, ⟨5, _⟩ => ⟨S1024x3072, .bf16⟩
  | .hbm, ⟨6, _⟩ => ⟨S1x3072, .f32⟩
  | .hbm, ⟨7, _⟩ => ⟨S3x512x1024, .bf16⟩
  | .hbm, ⟨8, _⟩ => ⟨S1024x1024, .bf16⟩
  | .hbm, ⟨9, _⟩ => ⟨S1x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S1024x3072, .f32⟩
  | .hbm, ⟨26, _⟩ => ⟨S32768x3072, .f32⟩
  | .hbm, ⟨27, _⟩ => ⟨S32768x1x512, .bf16⟩
  | .hbm, ⟨28, _⟩ => ⟨S32768x1x512, .bf16⟩
  | .hbm, ⟨29, _⟩ => ⟨S32768x1x512, .bf16⟩
  | .hbm, ⟨30, _⟩ => ⟨S32768x3x512, .bf16⟩
  | .hbm, ⟨31, _⟩ => ⟨S32768x3x512, .f32⟩
  | .hbm, ⟨32, _⟩ => ⟨S3x512x1024, .f32⟩
  | .hbm, ⟨33, _⟩ => ⟨S3x1024x32768, .f32⟩
  | .hbm, ⟨34, _⟩ => ⟨S32768x3x1024, .f32⟩
  | .hbm, ⟨35, _⟩ => ⟨S32768x3072, .f32⟩
  | .hbm, ⟨36, _⟩ => ⟨S32768x3072, .f32⟩
  | .hbm, ⟨37, _⟩ => ⟨S32768x3072, .f32⟩
  | .hbm, ⟨38, _⟩ => ⟨S32768x3072, .f32⟩
  | .hbm, ⟨39, _⟩ => ⟨S_, .f32⟩
  | .hbm, ⟨40, _⟩ => ⟨S32768x3072, .f32⟩
  | .hbm, ⟨41, _⟩ => ⟨S32768x3072, .f32⟩
  | .hbm, ⟨42, _⟩ => ⟨S_, .f32⟩
  | .hbm, ⟨43, _⟩ => ⟨S32768x3072, .f32⟩
  | .hbm, ⟨44, _⟩ => ⟨S32768x3072, .f32⟩
  | .hbm, ⟨45, _⟩ => ⟨S32768x3x1024, .f32⟩
  | .hbm, ⟨46, _⟩ => ⟨S32768x3x1024, .f32⟩
  | .hbm, ⟨47, _⟩ => ⟨S_, .f32⟩
  | .hbm, ⟨48, _⟩ => ⟨S32768x1024, .f32⟩
  | .hbm, ⟨49, _⟩ => ⟨S1024x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x2x11x256 : Shape := ⟨4, ![1024, 2, 11, 256]⟩
abbrev S2x11x1024x256 : Shape := ⟨4, ![2, 11, 1024, 256]⟩
abbrev S3x2x11x1x256 : Shape := ⟨5, ![3, 2, 11, 1, 256]⟩
abbrev S2x11x1x256 : Shape := ⟨4, ![2, 11, 1, 256]⟩
abbrev S11x256x1024 : Shape := ⟨3, ![11, 256, 1024]⟩
abbrev S1x1024 : Shape := ⟨2, ![1, 1024]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S512x256 : Shape := ⟨2, ![512, 256]⟩
abbrev S1x1x1024x256 : Shape := ⟨4, ![1, 1, 1024, 256]⟩
abbrev S1024x256 : Shape := ⟨2, ![1024, 256]⟩
abbrev S528x256 : Shape := ⟨2, ![528, 256]⟩
abbrev S1x256 : Shape := ⟨2, ![1, 256]⟩
abbrev S1x1x1x1x256 : Shape := ⟨5, ![1, 1, 1, 1, 256]⟩
abbrev S1x1x1x256 : Shape := ⟨4, ![1, 1, 1, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x2x11x256, .f32⟩
  | .hbm, ⟨8, _⟩ => ⟨S2x11x1024x256, .f32⟩
  | .hbm, ⟨9, _⟩ => ⟨S2x11x1024x256, .bf16⟩
  | .hbm, ⟨10, _⟩ => ⟨S3x2x11x1x256, .f32⟩
  | .hbm, ⟨11, _⟩ => ⟨S2x11x1x256, .f32⟩
  | .hbm, ⟨12, _⟩ => ⟨S11x256x1024, .f32⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S2x11x1024x256, .bf16⟩
  | .local _ .vmem, ⟨8, _⟩ => ⟨S3x2x11x1x256, .f32⟩
  | .local _ .vmem, ⟨9, _⟩ => ⟨S2x11x1x256, .f32⟩
  | .local _ .vmem, ⟨10, _⟩ => ⟨S11x256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_14 : BitVec 32 := 0#32
  let c11_i32 : BitVec 32 := 11#32
  let v44 : BitVec 32 := Scalar.addi c0_i32_14 c11_i32
  let c1_i32_15 : BitVec 32 := 1#32
  ⟨c0_i32_14, v44, c1_i32_15⟩
def k0_off1 (k0_t1 : Fin k0_t1_loop.trips) : Fin 4 → Nat :=
  let c0_28 : Index := 0#32
  let c0_i32_14 : BitVec 32 := 0#32
  let c1_i32_15 : BitVec 32 := 1#32
  let arg12 : BitVec 32 := Scf.iv c0_i32_14 c1_i32_15 k0_t1
  let v63 : Index := Scalar.indexCast arg12
  let c0_29 : Index := 0#32
  let c0_30 : Index := 0#32
  ![0, v63.toNat, 0, 0]
def k0_off2 (k0_t1 : Fin k0_t1_loop.trips) : Fin 5 → Nat :=
  let c0_34 : Index := 0#32
  let c0_35 : Index := 0#32
  let c0_i32_14 : BitVec 32 := 0#32
  let c1_i32_15 : BitVec 32 := 1#32
  let arg12 : BitVec 32 := Scf.iv c0_i32_14 c1_i32_15 k0_t1
  let v78 : Index := Scalar.indexCast arg12
  let c0_36 : Index := 0#32
  let c0_37 : Index := 0#32
  ![0, 0, v78.toNat, 0, 0]
def k0_off3 (k0_t1 : Fin k0_t1_loop.trips) : Fin 5 → Nat :=
  let c1 : Index := 1#32
  let c0_38 : Index := 0#32
  let c0_i32_14 : BitVec 32 := 0#32
  let c1_i32_15 : BitVec 32 := 1#32
  let arg12 : BitVec 32 := Scf.iv c0_i32_14 c1_i32_15 k0_t1
  let v83 : Index := Scalar.indexCast arg12
  let c0_39 : Index := 0#32
  let c0_40 : Index := 0#32
  ![1, 0, v83.toNat, 0, 0]
def k0_off4 (k0_t1 : Fin k0_t1_loop.trips) : Fin 5 → Nat :=
  let c2 : Index := 2#32
  let c0_41 : Index := 0#32
  let c0_i32_14 : BitVec 32 := 0#32
  let c1_i32_15 : BitVec 32 := 1#32
  let arg12 : BitVec 32 := Scf.iv c0_i32_14 c1_i32_15 k0_t1
  let v89 : Index := Scalar.indexCast arg12
  let c0_42 : Index := 0#32
  let c0_43 : Index := 0#32
  ![2, 0, v89.toNat, 0, 0]
def k0_off5 (k0_t1 : Fin k0_t1_loop.trips) : Fin 4 → Nat :=
  let c0_44 : Index := 0#32
  let c0_i32_14 : BitVec 32 := 0#32
  let c1_i32_15 : BitVec 32 := 1#32
  let arg12 : BitVec 32 := Scf.iv c0_i32_14 c1_i32_15 k0_t1
  let v95 : Index := Scalar.indexCast arg12
  let c0_45 : Index := 0#32
  let c0_46 : Index := 0#32
  ![0, v95.toNat, 0, 0]
def k0_off6 (k0_t1 : Fin k0_t1_loop.trips) : Fin 4 → Nat :=
  let c1_47 : Index := 1#32
  let c0_i32_14 : BitVec 32 := 0#32
  let c1_i32_15 : BitVec 32 := 1#32
  let arg12 : BitVec 32 := Scf.iv c0_i32_14 c1_i32_15 k0_t1
  let v100 : Index := Scalar.indexCast arg12
  let c0_48 : Index := 0#32
  let c0_49 : Index := 0#32
  ![1, v100.toNat, 0, 0]
def k0_off7 (k0_t1 : Fin k0_t1_loop.trips) : Fin 5 → Nat :=
  let c0_53 : Index := 0#32
  let c1_54 : Index := 1#32
  let c0_i32_14 : BitVec 32 := 0#32
  let c1_i32_15 : BitVec 32 := 1#32
  let arg12 : BitVec 32 := Scf.iv c0_i32_14 c1_i32_15 k0_t1
  let v115 : Index := Scalar.indexCast arg12
  let c0_55 : Index := 0#32
  let c0_56 : Index := 0#32
  ![0, 1, v115.toNat, 0, 0]
def k0_off8 (k0_t1 : Fin k0_t1_loop.trips) : Fin 5 → Nat :=
  let c1_57 : Index := 1#32
  let c1_58 : Index := 1#32
  let c0_i32_14 : BitVec 32 := 0#32
  let c1_i32_15 : BitVec 32 := 1#32
  let arg12 : BitVec 32 := Scf.iv c0_i32_14 c1_i32_15 k0_t1
  let v120 : Index := Scalar.indexCast arg12
  let c0_59 : Index := 0#32
  let c0_60 : Index := 0#32
  ![1, 1, v120.toNat, 0, 0]
def k0_off9 (k0_t1 : Fin k0_t1_loop.trips) : Fin 5 → Nat :=
  let c2_61 : Index := 2#32
  let c1_62 : Index := 1#32
  let c0_i32_14 : BitVec 32 := 0#32
  let c1_i32_15 : BitVec 32 := 1#32
  let arg12 : BitVec 32 := Scf.iv c0_i32_14 c1_i32_15 k0_t1
  let v126 : Index := Scalar.indexCast arg12
  let c0_63 : Index := 0#32
  let c0_64 : Index := 0#32
  ![2, 1, v126.toNat, 0, 0]
def k0_off10 (k0_t1 : Fin k0_t1_loop.trips) : Fin 4 → Nat :=
  let c1_65 : Index := 1#32
  let c0_i32_14 : BitVec 32 := 0#32
  let c1_i32_15 : BitVec 32 := 1#32
  let arg12 : BitVec 32 := Scf.iv c0_i32_14 c1_i32_15 k0_t1
  let v132 : Index := Scalar.indexCast arg12
  let c0_66 : Index := 0#32
  let c0_67 : Index := 0#32
  ![1, v132.toNat, 0, 0]
def k0_off11 (k0_t1 : Fin k0_t1_loop.trips) : Fin 3 → Nat :=
  let c0_i32_14 : BitVec 32 := 0#32
  let c1_i32_15 : BitVec 32 := 1#32
  let arg12 : BitVec 32 := Scf.iv c0_i32_14 c1_i32_15 k0_t1
  let v152 : Index := Scalar.indexCast arg12
  let c0_72 : Index := 0#32
  let c0_73 : Index := 0#32
  ![v152.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2x11x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x11x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x5632, .f32⟩
  | .hbm, ⟨25, _⟩ => ⟨S_, .i32⟩
  | .hbm, ⟨26, _⟩ => ⟨S_, .f32⟩
  | .hbm, ⟨27, _⟩ => ⟨S16x2050x5632, .f32⟩
  | .hbm, ⟨28, _⟩ => ⟨S16x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S16x2048x5632, .f32⟩
  | .hbm, ⟨33, _⟩ => ⟨S16x2048x5632, .f32⟩
  | .hbm, ⟨34, _⟩ => ⟨S16x2048x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S16x2048x5632, .f32⟩
  | .hbm, ⟨39, _⟩ => ⟨S16x2048x5632, .f32⟩
  | .hbm, ⟨40, _⟩ => ⟨S16x2048x5632, .f32⟩
  | .hbm, ⟨41, _⟩ => ⟨S16x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S16x2048x5632, .f32⟩
  | .hbm, ⟨46, _⟩ => ⟨S16x2048x5632, .f32⟩
  | .hbm, ⟨47, _⟩ => ⟨S16x2048x5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S_, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x5888 : Shape := ⟨2, ![1024, 5888]⟩
abbrev S64 : Shape := ⟨1, ![64]⟩
abbrev S256x128 : Shape := ⟨2, ![256, 128]⟩
abbrev S_ : Shape := ⟨0, ![]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x2304 : Shape := ⟨2, ![1024, 2304]⟩
abbrev S1024x2816 : Shape := ⟨2, ![1024, 2816]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x64 : Shape := ⟨2, ![1, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩

abbrev nBuf : Space → Nat
  | .hbm => 239
  | .vmem => 23
  | .smem => 0
  | _ => 0

abbrev hbmTy0_0 (i : Nat) : BufTy := match i % 128 with
  | 0 => ⟨S32768x1024, .f32⟩
  | 1 => ⟨S1024, .f32⟩
  | 2 => ⟨S1024x5888, .f32⟩
  | 3 => ⟨S64, .f32⟩
  | 4 => ⟨S64, .f32⟩
  | 5 => ⟨S256x128, .i32⟩
  | 6 => ⟨S256x128, .i32⟩
  | 7 => ⟨S_, .i32⟩
  | 8 => ⟨S256x128, .i32⟩
  | 9 => ⟨S256x128, .i32⟩
  | 10 => ⟨S_, .i32⟩
  | 11 => ⟨S256x128, .i32⟩
  | 12 => ⟨S256x128, .i32⟩
  | 13 => ⟨S256x128, .i1⟩
  | 14 => ⟨S_, .f32⟩
  | 15 => ⟨S_, .f32⟩
  | 16 => ⟨S256x128, .f32⟩
  | 17 => ⟨S256x128, .f32⟩
  | 18 => ⟨S256x128, .f32⟩
  | 19 => ⟨S256x128, .bf16⟩
  | 20 => ⟨S1024x512, .f32⟩
  | 21 => ⟨S1024x2x4x64, .f32⟩
  | 22 => ⟨S1024x4x2x64, .f32⟩
  | 23 => ⟨S1024x512, .f32⟩
  | 24 => ⟨S1024x2304, .f32⟩
  | 25 => ⟨S1024x2816, .f32⟩
  | 26 => ⟨S1024x2816, .bf16⟩
  | 27 => ⟨S2048, .i32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S_, .i32⟩
  | 43 => ⟨S_, .i32⟩
  | 44 => ⟨S2048, .i32⟩
  | 45 => ⟨S2048, .i32⟩
  | 46 => ⟨S2048, .i32⟩
  | 47 => ⟨S_, .i32⟩
  | 48 => ⟨S2048, .i32⟩
  | 49 => ⟨S2048, .i1⟩
  | 50 => ⟨S2048, .i32⟩
  | 51 => ⟨S2048, .i32⟩
  | 52 => ⟨S_, .i32⟩
  | 53 => ⟨S2048, .i32⟩
  | 54 => ⟨S2048, .i1⟩
  | 55 => ⟨S2048, .i1⟩
  | 56 => ⟨S_, .i32⟩
  | 57 => ⟨S2048, .i32⟩
  | 58 => ⟨S2048, .i32⟩
  | 59 => ⟨S2048, .i32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x16, .f32⟩
  | 67 => ⟨S2048x16, .f32⟩
  | 68 => ⟨S2048x32, .f32⟩
  | 69 => ⟨S2048x16, .f32⟩
  | 70 => ⟨S2048x32, .f32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i1⟩
  | 85 => ⟨S_, .i32⟩
  | 86 => ⟨S_, .i1⟩
  | 87 => ⟨S2048, .i1⟩
  | 88 => ⟨S2048, .i1⟩
  | 89 => ⟨S2048, .i1⟩
  | 90 => ⟨S2048, .i32⟩
  | 91 => ⟨S2048, .i32⟩
  | 92 => ⟨S2048, .i32⟩
  | 93 => ⟨S2048, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x16, .f32⟩
  | 100 => ⟨S2048x16, .f32⟩
  | 101 => ⟨S2048x32, .f32⟩
  | 102 => ⟨S2048x16, .f32⟩
  | 103 => ⟨S2048x32, .f32⟩
  | 104 => ⟨S2048x64, .f32⟩
  | 105 => ⟨S2048x64, .f32⟩
  | 106 => ⟨S16, .f32⟩
  | 107 => ⟨S16, .f32⟩
  | 108 => ⟨S16, .f32⟩
  | 109 => ⟨S16, .f32⟩
  | 110 => ⟨S64, .f32⟩
  | 111 => ⟨S_, .f32⟩
  | 112 => ⟨S64, .f32⟩
  | 113 => ⟨S64, .f32⟩
  | 114 => ⟨S1x64, .f32⟩
  | 115 => ⟨S2048x64, .f32⟩
  | 116 => ⟨S2048x64, .f32⟩
  | 117 => ⟨S_, .f32⟩
  | 118 => ⟨S64, .f32⟩
  | 119 => ⟨S64, .f32⟩
  | 120 => ⟨S1x64, .f32⟩
  | 121 => ⟨S2048x64, .f32⟩
  | 122 => ⟨S2048x64, .f32⟩
  | 123 => ⟨S1x2048x1x64, .f32⟩
  | 124 => ⟨S1x2048x2x64, .f32⟩
  | 125 => ⟨S2048x128, .f32⟩
  | 126 => ⟨S1x2048x1x64, .f32⟩
  | 127 => ⟨S1x2048x2x64, .f32⟩
  | _ => ⟨S32768x1024, .f32⟩

abbrev hbmTy0_1 (i : Nat) : BufTy := match i % 128 with
  | 0 => ⟨S2048x128, .f32⟩
  | 1 => ⟨S2048, .i32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S_, .i32⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i1⟩
  | 24 => ⟨S2048, .i32⟩
  | 25 => ⟨S2048, .i32⟩
  | 26 => ⟨S_, .i32⟩
  | 27 => ⟨S2048, .i32⟩
  | 28 => ⟨S2048, .i1⟩
  | 29 => ⟨S2048, .i1⟩
  | 30 => ⟨S_, .i32⟩
  | 31 => ⟨S2048, .i32⟩
  | 32 => ⟨S2048, .i32⟩
  | 33 => ⟨S2048, .i32⟩
  | 34 => ⟨S2048, .f32⟩
  | 35 => ⟨S2048x1, .f32⟩
  | 36 => ⟨S1x16, .f32⟩
  | 37 => ⟨S2048x16, .f32⟩
  | 38 => ⟨S2048x16, .f32⟩
  | 39 => ⟨S2048x16, .f32⟩
  | 40 => ⟨S2048x16, .f32⟩
  | 41 => ⟨S2048x16, .f32⟩
  | 42 => ⟨S2048x32, .f32⟩
  | 43 => ⟨S2048x16, .f32⟩
  | 44 => ⟨S2048x32, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i1⟩
  | 59 => ⟨S_, .i32⟩
  | 60 => ⟨S_, .i1⟩
  | 61 => ⟨S2048, .i1⟩
  | 62 => ⟨S2048, .i1⟩
  | 63 => ⟨S2048, .i1⟩
  | 64 => ⟨S2048, .i32⟩
  | 65 => ⟨S2048, .i32⟩
  | 66 => ⟨S2048, .i32⟩
  | 67 => ⟨S2048, .f32⟩
  | 68 => ⟨S2048x1, .f32⟩
  | 69 => ⟨S1x16, .f32⟩
  | 70 => ⟨S2048x16, .f32⟩
  | 71 => ⟨S2048x16, .f32⟩
  | 72 => ⟨S2048x16, .f32⟩
  | 73 => ⟨S2048x16, .f32⟩
  | 74 => ⟨S2048x16, .f32⟩
  | 75 => ⟨S2048x32, .f32⟩
  | 76 => ⟨S2048x16, .f32⟩
  | 77 => ⟨S2048x32, .f32⟩
  | 78 => ⟨S2048x64, .f32⟩
  | 79 => ⟨S2048x64, .f32⟩
  | 80 => ⟨S16, .f32⟩
  | 81 => ⟨S16, .f32⟩
  | 82 => ⟨S16, .f32⟩
  | 83 => ⟨S16, .f32⟩
  | 84 => ⟨S64, .f32⟩
  | 85 => ⟨S_, .f32⟩
  | 86 => ⟨S64, .f32⟩
  | 87 => ⟨S64, .f32⟩
  | 88 => ⟨S1x64, .f32⟩
  | 89 => ⟨S2048x64, .f32⟩
  | 90 => ⟨S2048x64, .f32⟩
  | 91 => ⟨S_, .f32⟩
  | 92 => ⟨S64, .f32⟩
  | 93 => ⟨S64, .f32⟩
  | 94 => ⟨S1x64, .f32⟩
  | 95 => ⟨S2048x64, .f32⟩
  | 96 => ⟨S2048x64, .f32⟩
  | 97 => ⟨S1x2048x1x64, .f32⟩
  | 98 => ⟨S1x2048x2x64, .f32⟩
  | 99 => ⟨S2048x128, .f32⟩
  | 100 => ⟨S1x2048x1x64, .f32⟩
  | 101 => ⟨S1x2048x2x64, .f32⟩
  | 102 => ⟨S2048x128, .f32⟩
  | 103 => ⟨S1x1024, .f32⟩
  | 104 => ⟨S32768x512, .bf16⟩
  | 105 => ⟨S32768x128, .bf16⟩
  | 106 => ⟨S32768x128, .bf16⟩
  | 107 => ⟨S32768x512, .f32⟩
  | 108 => ⟨S32768x512, .bf16⟩
  | 109 => ⟨S32768x512, .bf16⟩
  | 110 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x128, .bf16⟩
  | .local _ .vmem, ⟨9, _⟩ => ⟨S512x512, .bf16⟩
  | .local _ .vmem, ⟨10, _⟩ => ⟨S512x512, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_7 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_v5 : Ref sig .tc := ⟨.hbm, 80, rfl⟩
abbrev main_call2_v6 : Ref sig .tc := ⟨.hbm, 81, rfl⟩
abbrev main_call2_c_2 : Ref sig .tc := ⟨.hbm, 82, rfl⟩
abbrev main_call2_v7 : Ref sig .tc := ⟨.hbm, 83, rfl⟩
abbrev main_call2_v8 : Ref sig .tc := ⟨.hbm, 84, rfl⟩
abbrev main_call2_c_3 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_8 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_9 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_10 : Ref sig .tc := ⟨.hbm, 131, rfl⟩
abbrev main_v76 : Ref sig .tc := ⟨.hbm, 132, rfl⟩
abbrev main_v77 : Ref sig .tc := ⟨.hbm, 133, rfl⟩
abbrev main_cst_11 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_12 : Ref sig .tc := ⟨.hbm, 138, rfl⟩
abbrev main_v81 : Ref sig .tc := ⟨.hbm, 139, rfl⟩
abbrev main_v82 : Ref sig .tc := ⟨.hbm, 140, rfl⟩
abbrev main_cst_13 : Ref sig .tc := ⟨.hbm, 141, rfl⟩
abbrev main_v83 : Ref sig .tc := ⟨.hbm, 142, rfl⟩
abbrev main_v84 : Ref sig .tc := ⟨.hbm, 143, rfl⟩
abbrev main_c_14 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_v7 : Ref sig .tc := ⟨.hbm, 152, rfl⟩
abbrev main_call3_v8 : Ref sig .tc := ⟨.hbm, 153, rfl⟩
abbrev main_call3_c : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_0 : Ref sig .tc := ⟨.hbm, 158, rfl⟩
abbrev main_call3_v12 : Ref sig .tc := ⟨.hbm, 159, rfl⟩
abbrev main_call3_v13 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_c_15 : Ref sig .tc := ⟨.hbm, 173, rfl⟩
abbrev main_call4_v0 : Ref sig .tc := ⟨.hbm, 174, rfl⟩
abbrev main_call4_c : Ref sig .tc := ⟨.hbm, 175, rfl⟩
abbrev main_call4_v1 : Ref sig .tc := ⟨.hbm, 176, rfl⟩
abbrev main_call4_c_0 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_c_1 : Ref sig .tc := ⟨.hbm, 181, rfl⟩
abbrev main_call4_v5 : Ref sig .tc := ⟨.hbm, 182, rfl⟩
abbrev main_call4_v6 : Ref sig .tc := ⟨.hbm, 183, rfl⟩
abbrev main_call4_c_2 : Ref sig .tc := ⟨.hbm, 184, rfl⟩
abbrev main_call4_v7 : Ref sig .tc := ⟨.hbm, 185, rfl⟩
abbrev main_call4_v8 : Ref sig .tc := ⟨.hbm, 186, rfl⟩
abbrev main_call4_c_3 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_v13 : Ref sig .tc := ⟨.hbm, 192, rfl⟩
abbrev main_call4_v14 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_cst_16 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_cst_17 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133_0 : Ref sig .tc := ⟨.hbm, 232, rfl⟩
abbrev main_v133_1 : Ref sig .tc := ⟨.hbm, 233, rfl⟩
abbrev main_v133_2 : Ref sig .tc := ⟨.hbm, 234, rfl⟩
abbrev main_v133_3 : Ref sig .tc := ⟨.hbm, 235, rfl⟩
abbrev main_v133_4 : Ref sig .tc := ⟨.hbm, 236, rfl⟩
abbrev main_v133_5 : Ref sig .tc := ⟨.hbm, 237, rfl⟩
abbrev main_v133_6 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c4_i32 : BitVec 32 := 4#32
  let c0_i32 : BitVec 32 := 0#32
  let v16 : BitVec 1 := Scalar.cmpi .eq c4_i32 c0_i32
  let c1_i32 : BitVec 32 := 1#32
  let v17 : BitVec 32 := Scalar.select v16 c1_i32 c4_i32
  let v18 : BitVec 32 := Scalar.remsi arg0 v17
  let c0_i32_6 : BitVec 32 := 0#32
  let v20 : BitVec 1 := Scalar.cmpi .slt v18 c0_i32_6
  let c0_i32_7 : BitVec 32 := 0#32
  let v21 : BitVec 1 := Scalar.cmpi .slt v17 c0_i32_7
  let v22 : BitVec 1 := Scalar.xori v20 v21
  let c0_i32_5 : BitVec 32 := 0#32
  let v19 : BitVec 1 := Scalar.cmpi .ne v18 c0_i32_5
  let v23 : BitVec 1 := Scalar.andi v22 v19
  let v24 : BitVec 32 := Scalar.addi v18 v17
  let v25 : BitVec 32 := Scalar.select v23 v24 v18
  let c512_i32 : BitVec 32 := 512#32
  let v26 : BitVec 32 := Scalar.muli v25 c512_i32
  v26
def k0_off1 (i : grid0.Coords) : Fin 2 → Nat :=
  let arg0 : BitVec 32 := BitVec.ofNat 32 (i 0).val
  let c4_i32 : BitVec 32 := 4#32
  let c0_i32 : BitVec 32 := 0#32
  let v16 : BitVec 1 := Scalar.cmpi .eq c4_i32 c0_i32
  let c1_i32 : BitVec 32 := 1#32
  let v17 : BitVec 32 := Scalar.select v16 c1_i32 c4_i32
  let v18 : BitVec 32 := Scalar.remsi arg0 v17
  let c0_i32_6 : BitVec 32 := 0#32
  let v20 : BitVec 1 := Scalar.cmpi .slt v18 c0_i32_6
  let c0_i32_7 : BitVec 32 := 0#32
  let v21 : BitVec 1 := Scalar.cmpi .slt v17 c0_i32_7
  let v22 : BitVec 1 := Scalar.xori v20 v21
  let c0_i32_5 : BitVec 32 := 0#32
  let v19 : BitVec 1 := Scalar.cmpi .ne v18 c0_i32_5
  let v23 : BitVec 1 := Scalar.andi v22 v19
  let v24 : BitVec 32 := Scalar.addi v18 v17
  let v25 : BitVec 32 := Scalar.select v23 v24 v18
  let c512_i32 : BitVec 32 := 512#32
  let v26 : BitVec 32 := Scalar.muli v25 c512_i32
  let v27 : BitVec 32 := v26
  let v63 : Index := Scalar.indexCast v27
  let c0_20 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojRefIdeal.lean ====
abbrev S32768x1024 : Shape := ⟨2, ![32768, 1024]⟩
abbrev S1024 : Shape := ⟨1, ![1024]⟩
abbrev S1024x5888 : Shape := ⟨2, ![1024, 5888]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5888 : Shape := ⟨2, ![32768, 5888]⟩
abbrev S32768x512 : Shape := ⟨2, ![32768, 512]⟩
abbrev S32768x128 : Shape := ⟨2, ![32768, 128]⟩
abbrev S2048 : Shape := ⟨1, ![2048]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x8x32 : Shape := ⟨4, ![16, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x2x32 : Shape := ⟨4, ![16, 2048, 2, 32]⟩
abbrev S16x2048x2x16 : Shape := ⟨4, ![16, 2048, 2, 16]⟩
abbrev S16x2048x2x4x64 : Shape := ⟨5, ![16, 2048, 2, 4, 64]⟩
abbrev S16x2048x4x2x64 : Shape := ⟨5, ![16, 2048, 4, 2, 64]⟩

abbrev nBuf : Space → Nat
  | .hbm => 290
  | .vmem => 0
  | .smem => 0
  | _ => 0

abbrev hbmTy0_0 (i : Nat) : BufTy := match i % 128 with
  | 0 => ⟨S32768x1024, .f32⟩
  | 1 => ⟨S1024, .f32⟩
  | 2 => ⟨S1024x5888, .f32⟩
  | 3 => ⟨S64, .f32⟩
  | 4 => ⟨S64, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x5888, .f32⟩
  | 22 => ⟨S32768x512, .f32⟩
  | 23 => ⟨S32768x128, .f32⟩
  | 24 => ⟨S32768x128, .f32⟩
  | 25 => ⟨S32768x512, .f32⟩
  | 26 => ⟨S32768x512, .f32⟩
  | 27 => ⟨S32768x512, .f32⟩
  | 28 => ⟨S32768x512, .f32⟩
  | 29 => ⟨S2048, .i32⟩
  | 30 => ⟨S_, .i32⟩
  | 31 => ⟨S_, .i32⟩
  | 32 => ⟨S2048, .i32⟩
  | 33 => ⟨S2048, .i32⟩
  | 34 => ⟨S2048, .i32⟩
  | 35 => ⟨S_, .i32⟩
  | 36 => ⟨S2048, .i32⟩
  | 37 => ⟨S2048, .i1⟩
  | 38 => ⟨S2048, .i32⟩
  | 39 => ⟨S2048, .i32⟩
  | 40 => ⟨S_, .i32⟩
  | 41 => ⟨S2048, .i32⟩
  | 42 => ⟨S2048, .i1⟩
  | 43 => ⟨S2048, .i1⟩
  | 44 => ⟨S_, .i32⟩
  | 45 => ⟨S2048, .i32⟩
  | 46 => ⟨S2048, .i32⟩
  | 47 => ⟨S2048, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i1⟩
  | 59 => ⟨S_, .i32⟩
  | 60 => ⟨S2048, .i32⟩
  | 61 => ⟨S2048, .i1⟩
  | 62 => ⟨S_, .i32⟩
  | 63 => ⟨S_, .i1⟩
  | 64 => ⟨S2048, .i1⟩
  | 65 => ⟨S2048, .i1⟩
  | 66 => ⟨S2048, .i1⟩
  | 67 => ⟨S2048, .i32⟩
  | 68 => ⟨S2048, .i32⟩
  | 69 => ⟨S2048, .i32⟩
  | 70 => ⟨S16x2048x8x64, .f32⟩
  | 71 => ⟨S16x2048x8x64, .f32⟩
  | 72 => ⟨S_, .f32⟩
  | 73 => ⟨S16x2048x8, .f32⟩
  | 74 => ⟨S16x2048x8x1, .f32⟩
  | 75 => ⟨S_, .f32⟩
  | 76 => ⟨S16x2048x8x1, .f32⟩
  | 77 => ⟨S16x2048x8x1, .f32⟩
  | 78 => ⟨S_, .f32⟩
  | 79 => ⟨S16x2048x8x1, .f32⟩
  | 80 => ⟨S16x2048x8x1, .f32⟩
  | 81 => ⟨S16x2048x8x1, .f32⟩
  | 82 => ⟨S16x2048x8x64, .f32⟩
  | 83 => ⟨S16x2048x8x64, .f32⟩
  | 84 => ⟨S1x1x1x64, .f32⟩
  | 85 => ⟨S16x2048x8x64, .f32⟩
  | 86 => ⟨S16x2048x8x64, .f32⟩
  | 87 => ⟨S16x2048x2x64, .f32⟩
  | 88 => ⟨S16x2048x2x64, .f32⟩
  | 89 => ⟨S_, .f32⟩
  | 90 => ⟨S16x2048x2, .f32⟩
  | 91 => ⟨S16x2048x2x1, .f32⟩
  | 92 => ⟨S_, .f32⟩
  | 93 => ⟨S16x2048x2x1, .f32⟩
  | 94 => ⟨S16x2048x2x1, .f32⟩
  | 95 => ⟨S_, .f32⟩
  | 96 => ⟨S16x2048x2x1, .f32⟩
  | 97 => ⟨S16x2048x2x1, .f32⟩
  | 98 => ⟨S16x2048x2x1, .f32⟩
  | 99 => ⟨S16x2048x2x64, .f32⟩
  | 100 => ⟨S16x2048x2x64, .f32⟩
  | 101 => ⟨S1x1x1x64, .f32⟩
  | 102 => ⟨S16x2048x2x64, .f32⟩
  | 103 => ⟨S16x2048x2x64, .f32⟩
  | 104 => ⟨S16x2048x8x32, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S2048, .f32⟩
  | 120 => ⟨S2048x1, .f32⟩
  | 121 => ⟨S1x16, .f32⟩
  | 122 => ⟨S2048x16, .f32⟩
  | 123 => ⟨S2048x16, .f32⟩
  | 124 => ⟨S2048x16, .f32⟩
  | 125 => ⟨S2048x16, .f32⟩
  | 126 => ⟨S2048x1x16, .f32⟩
  | 127 => ⟨S2048x16, .f32⟩
  | _ => ⟨S32768x1024, .f32⟩

abbrev hbmTy0_1 (i : Nat) : BufTy := match i % 128 with
  | 0 => ⟨S2048x1x16, .f32⟩
  | 1 => ⟨S16x2048x8x16, .f32⟩
  | 2 => ⟨S16x2048x8x16, .f32⟩
  | 3 => ⟨S1x2048x1x16, .f32⟩
  | 4 => ⟨S16x2048x8x16, .f32⟩
  | 5 => ⟨S16x2048x8x16, .f32⟩
  | 6 => ⟨S1x2048x1x16, .f32⟩
  | 7 => ⟨S16x2048x8x16, .f32⟩
  | 8 => ⟨S16x2048x8x16, .f32⟩
  | 9 => ⟨S16x2048x8x16, .f32⟩
  | 10 => ⟨S1x2048x1x16, .f32⟩
  | 11 => ⟨S16x2048x8x16, .f32⟩
  | 12 => ⟨S16x2048x8x16, .f32⟩
  | 13 => ⟨S1x2048x1x16, .f32⟩
  | 14 => ⟨S16x2048x8x16, .f32⟩
  | 15 => ⟨S16x2048x8x16, .f32⟩
  | 16 => ⟨S16x2048x8x16, .f32⟩
  | 17 => ⟨S16x2048x8x32, .f32⟩
  | 18 => ⟨S16x2048x8x32, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S2048, .f32⟩
  | 34 => ⟨S2048x1, .f32⟩
  | 35 => ⟨S1x16, .f32⟩
  | 36 => ⟨S2048x16, .f32⟩
  | 37 => ⟨S2048x16, .f32⟩
  | 38 => ⟨S2048x16, .f32⟩
  | 39 => ⟨S2048x16, .f32⟩
  | 40 => ⟨S2048x1x16, .f32⟩
  | 41 => ⟨S2048x16, .f32⟩
  | 42 => ⟨S2048x1x16, .f32⟩
  | 43 => ⟨S16x2048x8x16, .f32⟩
  | 44 => ⟨S16x2048x8x16, .f32⟩
  | 45 => ⟨S1x2048x1x16, .f32⟩
  | 46 => ⟨S16x2048x8x16, .f32⟩
  | 47 => ⟨S16x2048x8x16, .f32⟩
  | 48 => ⟨S1x2048x1x16, .f32⟩
  | 49 => ⟨S16x2048x8x16, .f32⟩
  | 50 => ⟨S16x2048x8x16, .f32⟩
  | 51 => ⟨S16x2048x8x16, .f32⟩
  | 52 => ⟨S1x2048x1x16, .f32⟩
  | 53 => ⟨S16x2048x8x16, .f32⟩
  | 54 => ⟨S16x2048x8x16, .f32⟩
  | 55 => ⟨S1x2048x1x16, .f32⟩
  | 56 => ⟨S16x2048x8x16, .f32⟩
  | 57 => ⟨S16x2048x8x16, .f32⟩
  | 58 => ⟨S16x2048x8x16, .f32⟩
  | 59 => ⟨S16x2048x8x32, .f32⟩
  | 60 => ⟨S16x2048x8x64, .f32⟩
  | 61 => ⟨S_, .f32⟩
  | 62 => ⟨S16x2048x8x64, .f32⟩
  | 63 => ⟨S16x2048x8x64, .f32⟩
  | 64 => ⟨S16x2048x2x32, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S2048, .f32⟩
  | 80 => ⟨S2048x1, .f32⟩
  | 81 => ⟨S1x16, .f32⟩
  | 82 => ⟨S2048x16, .f32⟩
  | 83 => ⟨S2048x16, .f32⟩
  | 84 => ⟨S2048x16, .f32⟩
  | 85 => ⟨S2048x16, .f32⟩
  | 86 => ⟨S2048x1x16, .f32⟩
  | 87 => ⟨S2048x16, .f32⟩
  | 88 => ⟨S2048x1x16, .f32⟩
  | 89 => ⟨S16x2048x2x16, .f32⟩
  | 90 => ⟨S16x2048x2x16, .f32⟩
  | 91 => ⟨S1x2048x1x16, .f32⟩
  | 92 => ⟨S16x2048x2x16, .f32⟩
  | 93 => ⟨S16x2048x2x16, .f32⟩
  | 94 => ⟨S1x2048x1x16, .f32⟩
  | 95 => ⟨S16x2048x2x16, .f32⟩
  | 96 => ⟨S16x2048x2x16, .f32⟩
  | 97 => ⟨S16x2048x2x16, .f32⟩
  | 98 => ⟨S1x2048x1x16, .f32⟩
  | 99 => ⟨S16x2048x2x16, .f32⟩
  | 100 => ⟨S16x2048x2x16, .f32⟩
  | 101 => ⟨S1x2048x1x16, .f32⟩
  | 102 => ⟨S16x2048x2x16, .f32⟩
  | 103 => ⟨S16x2048x2x16, .f32⟩
  | 104 => ⟨S16x2048x2x16, .f32⟩
  | 105 => ⟨S16x2048x2x32, .f32⟩
  | 106 => ⟨S16x2048x2x32, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S2048, .f32⟩
  | 122 => ⟨S2048x1, .f32⟩
  | 123 => ⟨S1x16, .f32⟩
  | 124 => ⟨S2048x16, .f32⟩
  | 125 => ⟨S2048x16, .f32⟩
  | 126 => ⟨S2048x16, .f32⟩
  | 127 => ⟨S2048x16, .f32⟩
  | _ => ⟨S32768x1024, .f32⟩

abbrev hbmTy0_2 (i : Nat) : BufTy := match i % 128 with
  | 0 => ⟨S2048x1x16, .f32⟩
  | 1 => ⟨S2048x16, .f32⟩
  | 2 => ⟨S2048x1x16, .f32⟩
  | 3 => ⟨S16x2048x2x16, .f32⟩
  | 4 => ⟨S16x2048x2x16, .f32⟩
  | 5 => ⟨S1x2048x1x16, .f32⟩
  | 6 => ⟨S16x2048x2x16, .f32⟩
  | 7 => ⟨S16x2048x2x16, .f32⟩
  | 8 => ⟨S1x2048x1x16, .f32⟩
  | 9 => ⟨S16x2048x2x16, .f32⟩
  | 10 => ⟨S16x2048x2x16, .f32⟩
  | 11 => ⟨S16x2048x2x16, .f32⟩
  | 12 => ⟨S1x2048x1x16, .f32⟩
  | 13 => ⟨S16x2048x2x16, .f32⟩
  | 14 => ⟨S16x2048x2x16, .f32⟩
  | 15 => ⟨S1x2048x1x16, .f32⟩
  | 16 => ⟨S16x2048x2x16, .f32⟩
  | 17 => ⟨S16x2048x2x16, .f32⟩
  | 18 => ⟨S16x2048x2x16, .f32⟩
  | 19 => ⟨S16x2048x2x32, .f32⟩
  | 20 => ⟨S16x2048x2x64, .f32⟩
  | 21 => ⟨S16x2048x2x4x64, .f32⟩
  | 22 => ⟨S16x2048x4x2x64, .f32⟩
  | 23 => ⟨S32768x512, .f32⟩
  | 24 => ⟨S32768x512, .bf16⟩
  | 25 => ⟨S32768x128, .f32⟩
  | 26 => ⟨S32768x128, .bf16⟩
  | 27 => ⟨S32768x128, .bf16⟩
  | 28 => ⟨S_, .f32⟩
  | 29 => ⟨S32768x512, .f32⟩
  | 30 => ⟨S32768x512, .f32⟩
  | 31 => ⟨S32768x512, .bf16⟩
  | 32 => ⟨S32768x512, .bf16⟩
  | 33 => ⟨S32768x512, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v22 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_6 : Ref sig .tc := ⟨.hbm, 89, rfl⟩
abbrev main_v40 : Ref sig .tc := ⟨.hbm, 90, rfl⟩
abbrev main_v41 : Ref sig .tc := ⟨.hbm, 91, rfl⟩
abbrev main_cst_7 : Ref sig .tc := ⟨.hbm, 92, rfl⟩
abbrev main_v42 : Ref sig .tc := ⟨.hbm, 93, rfl⟩
abbrev main_v43 : Ref sig .tc := ⟨.hbm, 94, rfl⟩
abbrev main_cst_8 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_9 : Ref sig .tc := ⟨.hbm, 106, rfl⟩
abbrev main_v54 : Ref sig .tc := ⟨.hbm, 107, rfl⟩
abbrev main_v55 : Ref sig .tc := ⟨.hbm, 108, rfl⟩
abbrev main_cst_10 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_11 : Ref sig .tc := ⟨.hbm, 113, rfl⟩
abbrev main_v59 : Ref sig .tc := ⟨.hbm, 114, rfl⟩
abbrev main_v60 : Ref sig .tc := ⟨.hbm, 115, rfl⟩
abbrev main_cst_12 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_13 : Ref sig .tc := ⟨.hbm, 148, rfl⟩
abbrev main_v92 : Ref sig .tc := ⟨.hbm, 149, rfl⟩
abbrev main_v93 : Ref sig .tc := ⟨.hbm, 150, rfl⟩
abbrev main_cst_14 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_15 : Ref sig .tc := ⟨.hbm, 155, rfl⟩
abbrev main_v97 : Ref sig .tc := ⟨.hbm, 156, rfl⟩
abbrev main_v98 : Ref sig .tc := ⟨.hbm, 157, rfl⟩
abbrev main_cst_16 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_17 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_18 : Ref sig .tc := ⟨.hbm, 194, rfl⟩
abbrev main_v133 : Ref sig .tc := ⟨.hbm, 195, rfl⟩
abbrev main_v134 : Ref sig .tc := ⟨.hbm, 196, rfl⟩
abbrev main_cst_19 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_20 : Ref sig .tc := ⟨.hbm, 201, rfl⟩
abbrev main_v138 : Ref sig .tc := ⟨.hbm, 202, rfl⟩
abbrev main_v139 : Ref sig .tc := ⟨.hbm, 203, rfl⟩
abbrev main_cst_21 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_cst_22 : Ref sig .tc := ⟨.hbm, 236, rfl⟩
abbrev main_v171 : Ref sig .tc := ⟨.hbm, 237, rfl⟩
abbrev main_v172 : Ref sig .tc := ⟨.hbm, 238, rfl⟩
abbrev main_cst_23 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_24 : Ref sig .tc := ⟨.hbm, 243, rfl⟩
abbrev main_v176 : Ref sig .tc := ⟨.hbm, 244, rfl⟩
abbrev main_v177 : Ref sig .tc := ⟨.hbm, 245, rfl⟩
abbrev main_cst_25 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_26 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩

abbrev nD : Nat := 1
abbrev τ : Topo := Topo.v7x

variable {F : FTy → Type} [FloatOps F]
-- ==== Pool.lean ====
abbrev S32768x512 : Shape := ⟨2, ![32768, 512]⟩
abbrev S4x128x128 : Shape := ⟨3, ![4, 128, 128]⟩
abbrev S1x512 : Shape := ⟨2, ![1, 512]⟩
abbrev S2048x512 : Shape := ⟨2, ![2048, 512]⟩
abbrev S2080x512 : Shape := ⟨2, ![2080, 512]⟩
abbrev S16x512 : Shape := ⟨2, ![16, 512]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S4x128x128, .bf16⟩
  | .hbm, ⟨2, _⟩ => ⟨S1x512, .f32⟩
  | .hbm, ⟨3, _⟩ => ⟨S32768x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S2080x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S32768x512 : Shape := ⟨2, ![32768, 512]⟩
abbrev S4x128x128 : Shape := ⟨3, ![4, 128, 128]⟩
abbrev S1x512 : Shape := ⟨2, ![1, 512]⟩
abbrev S16x2048x4x128 : Shape := ⟨4, ![16, 2048, 4, 128]⟩
abbrev S4 : Shape := ⟨1, ![4]⟩
abbrev S_ : Shape := ⟨0, ![]⟩
abbrev S4x1 : Shape := ⟨2, ![4, 1]⟩
abbrev S2048 : Shape := ⟨1, ![2048]⟩
abbrev S1x2048 : Shape := ⟨2, ![1, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x2048x2048 : Shape := ⟨3, ![4, 2048, 2048]⟩
abbrev S4x16x128x2048 : Shape := ⟨4, ![4, 16, 128, 2048]⟩
abbrev S2048x4 : Shape := ⟨2, ![2048, 4]⟩
abbrev S2048x4x1 : Shape := ⟨3, ![2048, 4, 1]⟩
abbrev S1x2048x4x1 : Shape := ⟨4, ![1, 2048, 4, 1]⟩
abbrev S4x128x16x2048 : Shape := ⟨4, ![4, 128, 16, 2048]⟩

abbrev nBuf : Space → Nat
  | .hbm => 63
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S4x128x128, .bf16⟩
  | .hbm, ⟨2, _⟩ => ⟨S1x512, .f32⟩
  | .hbm, ⟨3, _⟩ => ⟨S16x2048x4x128, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4x1, .i32⟩
  | .hbm, ⟨9, _⟩ => ⟨S2048, .i32⟩
  | .hbm, ⟨10, _⟩ => ⟨S1x2048, .i32⟩
  | .hbm, ⟨11, _⟩ => ⟨S4x2048, .i32⟩
  | .hbm, ⟨12, _⟩ => ⟨S4x2048, .i32⟩
  | .hbm, ⟨13, _⟩ => ⟨S4x2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4x2048, .i32⟩
  | .hbm, ⟨18, _⟩ => ⟨S4x2048, .i32⟩
  | .hbm, ⟨19, _⟩ => ⟨S_, .i32⟩
  | .hbm, ⟨20, _⟩ => ⟨S4x2048, .i32⟩
  | .hbm, ⟨21, _⟩ => ⟨S4x2048, .i32⟩
  | .hbm, ⟨22, _⟩ => ⟨S1x2048, .i32⟩
  | .hbm, ⟨23, _⟩ => ⟨S4x2048, .i32⟩
  | .hbm, ⟨24, _⟩ => ⟨S4x2048, .i32⟩
  | .hbm, ⟨25, _⟩ => ⟨S4x2048, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4x2048, .i32⟩
  | .hbm, ⟨30, _⟩ => ⟨S4x2048, .i32⟩
  | .hbm, ⟨31, _⟩ => ⟨S_, .i32⟩
  | .hbm, ⟨32, _⟩ => ⟨S4x2048, .i32⟩
  | .hbm, ⟨33, _⟩ => ⟨S4x2048, .i32⟩
  | .hbm, ⟨34, _⟩ => ⟨S4x2048x1, .i32⟩
  | .hbm, ⟨35, _⟩ => ⟨S1x1x2048, .i32⟩
  | .hbm, ⟨36, _⟩ => ⟨S4x2048x2048, .i32⟩
  | .hbm, ⟨37, _⟩ => ⟨S4x2048x2048, .i32⟩
  | .hbm, ⟨38, _⟩ => ⟨S4x2048x2048, .i1⟩
  | .hbm, ⟨39, _⟩ => ⟨S4x2048x1, .i32⟩
  | .hbm, ⟨40, _⟩ => ⟨S1x1x2048, .i32⟩
  | .hbm, ⟨41, _⟩ => ⟨S4x2048x2048, .i32⟩
  | .hbm, ⟨42, _⟩ => ⟨S4x2048x2048, .i32⟩
  | .hbm, ⟨43, _⟩ => ⟨S4x2048x2048, .i1⟩
  | .hbm, ⟨44, _⟩ => ⟨S4x2048x2048, .i1⟩
  | .hbm, ⟨45, _⟩ => ⟨S4x2048x2048, .f32⟩
  | .hbm, ⟨46, _⟩ => ⟨S4x16x128x2048, .f32⟩
  | .hbm, ⟨47, _⟩ => ⟨S16x2048x4x128, .f32⟩
  | .hbm, ⟨48, _⟩ => ⟨S4x2048, .i32⟩
  | .hbm, ⟨49, _⟩ => ⟨S4x2048, .f32⟩
  | .hbm, ⟨50, _⟩ => ⟨S2048x4, .f32⟩
  | .hbm, ⟨51, _⟩ => ⟨S2048x4x1, .f32⟩
  | .hbm, ⟨52, _⟩ => ⟨S1x2048x4x1, .f32⟩
  | .hbm, ⟨53, _⟩ => ⟨S16x2048x4x128, .f32⟩
  | .hbm, ⟨54, _⟩ => ⟨S16x2048x4x128, .f32⟩
  | .hbm, ⟨55, _⟩ => ⟨S16x2048x4x128, .f32⟩
  | .hbm, ⟨56, _⟩ => ⟨S4x128x128, .f32⟩
  | .hbm, ⟨57, _⟩ => ⟨S4x128x16x2048, .f32⟩
  | .hbm, ⟨58, _⟩ => ⟨S16x2048x4x128, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Softmax.lean ====
/-
  Softmax-weighted averages over the extended reals. The kernel divides the weighted sum once by the total weight; the
  reference divides every weight first. With real scores the total weight is a positive real, and multiplication by a
  nonnegative real distributes over any sum of extended reals, so the two agree whatever the averaged values are.
-/
module

public import Idealize.ShloMosaic.PureOps.Ideal.Laws
public import Idealize.ShloMosaic.Lib.ValueIdx

@[expose] public section

noncomputable section

namespace Cert.Softmax

open Idealize.ShloMosaic
open scoped BigOperators

variable {n : ℕ}

/-- The greatest score. -/
def peak (s : Fin n → EReal) : EReal := Finset.univ.fold max ⊥ s
/-- A score's weight: the exponential of its distance below the greatest. -/
def weight (s : Fin n → EReal) (j : Fin n) : EReal := Ideal.exp (s j - peak s)
/-- The total weight. -/
def mass (s : Fin n → EReal) : EReal := ∑ j, weight s j
/-- The weighted sum divided once by the total weight. -/
def once (s v : Fin n → EReal) : EReal := Ideal.div (∑ j, weight s j * v j) (mass s)
/-- The sum of the values, each times its weight divided by the total weight. -/
def each (s v : Fin n → EReal) : EReal := ∑ j, v j * Ideal.div (weight s j) (mass s)

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} (t : Finset ι) {f : ι → EReal} (h : ∀ i, IsReal (f i)) : IsReal (∑ i ∈ t, f i) := by
  choose g hg using h
  refine ⟨∑ i ∈ t, g i, ?_⟩
  rw [Finset.sum_congr rfl fun i _ => hg i]
  exact (map_sum (⟨⟨Real.toEReal, rfl⟩, EReal.coe_add⟩ : ℝ →+ EReal) g t).symm

/-- The greatest of finitely many, at least one, real scores is real. -/
theorem isReal_peak (hn : 0 < n) {s : Fin n → EReal} (hs : ∀ j, IsReal (s j)) : IsReal (peak s) := by
  have h : ∀ t : Finset (Fin n), t.fold max ⊥ s = ⊥ ∧ t = ∅ ∨ IsReal (t.fold max ⊥ s) := by
    intro t
    induction t using Finset.induction_on with
    | empty => exact .inl ⟨rfl, rfl⟩
    | insert a t ha ih =>
      right
      rw [Finset.fold_insert ha]
      rcases ih with ⟨h0, -⟩ | h1
      · rw [h0, max_bot_right]; exact hs a
      · rcases max_choice (s a) (t.fold max ⊥ s) with h2 | h2 <;> rw [h2]
        · exact hs a
        · exact h1
  rcases h Finset.univ with ⟨-, h0⟩ | h1
  · exact absurd (h0 ▸ Finset.mem_univ (⟨0, hn⟩ : Fin n)) (Finset.notMem_empty _)
  · exact h1

/-- Multiplication by a nonnegative real from the right distributes over a finite sum. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.2 hc) (EReal.coe_ne_top c), ih]

/-- **With real scores, dividing once and dividing each weight give the same average.** -/
theorem once_eq_each (hn : 0 < n) {s : Fin n → EReal} (hs : ∀ j, IsReal (s j)) (v : Fin n → EReal) : once s v = each s v := by
  obtain ⟨M, hM⟩ := isReal_peak hn hs
  choose r hr using hs
  have hw : ∀ j, weight s j = (Real.exp (r j - M) : EReal) := fun j => by
    unfold weight; rw [hM, hr j, ← EReal.coe_sub, Ideal.exp_coe]
  have hm : mass s = ((∑ j, Real.exp (r j - M) : ℝ) : EReal) := by
    unfold mass
    rw [Finset.sum_congr rfl fun j _ => hw j]
    exact (map_sum (⟨⟨Real.toEReal, rfl⟩, EReal.coe_add⟩ : ℝ →+ EReal) (fun j => Real.exp (r j - M)) Finset.univ).symm
  have hpos : 0 < ∑ j, Real.exp (r j - M) :=
    Finset.sum_pos (fun j _ => Real.exp_pos _) ⟨⟨0, hn⟩, Finset.mem_univ _⟩
  unfold once each
  rw [hm, Ideal.div_coe hpos.ne', sum_mul_real _ _ (one_div_nonneg.2 hpos.le)]
  refine Finset.sum_congr rfl fun j _ => ?_
  rw [Ideal.div_coe hpos.ne', mul_comm (weight s j) (v j), mul_assoc]

end Cert.Softmax

end
-- ==== Proof.AttnSpec.lean ====
/-
  The attention as one function of the queries, the keys and the values, index by index: token `R` of batch `R / 2048`
  attends to all 2048 tokens of its batch. Column `X` of the result belongs to query head `X / 64`, whose key head is
  that number modulo two.
-/
module

public import proofs.«01_k».proof.Proof.Softmax

@[expose] public section

noncomputable section

namespace Cert.Attn

open Idealize.ShloMosaic Idealize.ShloMosaic.ValueIdx Cert.Softmax
open scoped BigOperators

/-- Token `j` of `R`'s batch. -/
def tok (R : Fin 32768) (j : Fin 2048) : Fin 32768 := ⟨R.val / 2048 * 2048 + j.val, by have := R.isLt; have := j.isLt; omega⟩
/-- Lane `e` of the query head column `X` belongs to. -/
def qLane (X : Fin 512) (e : Fin 64) : Fin 512 := ⟨X.val / 64 * 64 + e.val, by have := X.isLt; have := e.isLt; omega⟩
/-- Lane `e` of the key head column `X` reads. -/
def kLane (X : Fin 512) (e : Fin 64) : Fin 128 := ⟨X.val / 64 % 2 * 64 + e.val, by have := X.isLt; have := e.isLt; omega⟩
/-- The column of the values column `X` averages. -/
def vLane (X : Fin 512) : Fin 128 := ⟨X.val % 128, by omega⟩

variable (q : FVec Ideal ⟨2, ![32768, 512]⟩ .bf16) (k v : FVec Ideal ⟨2, ![32768, 128]⟩ .bf16)

/-- The score of token `j` of the batch for token `R`, column `X`'s head. -/
def score (R : Fin 32768) (X : Fin 512) (j : Fin 2048) : EReal := ∑ e : Fin 64, q (ix2 R (qLane X e)) * k (ix2 (tok R j) (kLane X e))

/-- The attention's result at token `R`, column `X`. -/
def out (R : Fin 32768) (X : Fin 512) : EReal := once (score q k R X) fun j => v (ix2 (tok R j) (vLane X))

end Cert.Attn

end
-- ==== Proof.AttnChunk.lean ====
/-
  One column chunk of the attention kernel's body, read at an index. A chunk holds two heads side by side; the body
  stacks the chunk with the right half zeroed over the chunk with the left half zeroed, scores the stack against all
  keys, and keeps the upper half of the product's rows on the left lanes and the lower half on the right lanes.
-/
module

public import proofs.«01_k».proof.Proof.Softmax
public import proofs.«01_k».proof.Proof.Gen.AttentionIdeal.Frame
public import Idealize.ShloMosaic.Lib.Pipeline.Value
public import Idealize.ShloMosaic.Lib.MatmulPlain
public import Idealize.ShloMosaic.Lib.IdealHost

@[expose] public section

noncomputable section

namespace Cert.AttentionIdeal.Chunk

open Cert.AttentionIdeal Cert.AttentionIdeal.Gen Idealize.ShloMosaic Idealize.ShloMosaic.ValueIdx Cert.Softmax
open scoped BigOperators

/-- The query chunk with the lanes outside head `h` zeroed. -/
def masked (q : FVec Ideal S256x128 .bf16) (h : Fin 2) (r : Fin 256) (e : Fin 128) : EReal :=
  if e.val / 64 = h.val then q (ix2 r e) else 0

/-- The stacked chunk, as the body builds it. -/
def stack (q : FVec Ideal S256x128 .bf16) : FVec Ideal S512x128 .bf16 :=
  concatenate S512x128 0 [⟨S256x128, select k0_pay2 q (broadcast S256x128 (Scalar.ofBits .bf16 0x0000#16 : Ideal .bf16))⟩,
    ⟨S256x128, select k0_pay2 (broadcast S256x128 (Scalar.ofBits .bf16 0x0000#16 : Ideal .bf16)) q⟩] concatenates_S256x128_S256x128_S512x128_d0

/-- The stack's scores against all keys. -/
def scores (k : FVec Ideal S2048x128 .bf16) (q : FVec Ideal S256x128 .bf16) : FVec Ideal S512x2048 .f32 :=
  matmul dot_S512x128_S2048x128_S512x2048_1_1_0_0_n_n none (stack q) k (constant S512x2048 .f32 0x00000000#32)

/-- The mask is on exactly at the left lanes. -/
theorem mask_apply (r : Fin 256) (e : Fin 128) : k0_pay2 (ix2 r e) = if e.val / 64 = 0 then 1#1 else 0#1 := by
  have h : ∀ e : Fin 128, IntOp.cmpi .slt (BitVec.ofNat 32 e.val) 64#32 = if e.val / 64 = 0 then 1#1 else 0#1 := by decide +kernel
  show IntOp.cmpi .slt (iota .tc S256x128 32 [1] iota_S256x128_d1_w32 (ix2 r e)) 64#32 = _
  rw [iota_single_apply]
  exact h e

/-- The stack at row `256·h + r`: the chunk's row `r` under head `h`'s lanes. -/
theorem stack_apply (q : FVec Ideal S256x128 .bf16) (h : Fin 2) (r : Fin 256) (i : Fin 512) (hi : i.val = 256 * h.val + r.val) (e : Fin 128) :
    stack q (ix2 i e) = masked q h r e := by
  have hz : (Scalar.ofBits .bf16 0x0000#16 : Ideal .bf16) = (0 : EReal) := by
    exact Ideal.ofBits_zero_bf16
  have hr := r.isLt
  have he := e.isLt
  unfold stack masked
  match h, hi with
  | ⟨0, _⟩, hi =>
    have hi' : i.val = r.val := by simpa using hi
    rw [concatenate_pair_apply_left (t := S512x128) (s₁ := S256x128) (s₂ := S256x128) 0 _ _ concatenates_S256x128_S256x128_S512x128_d0 (ix2 i e) rfl (ix2 r e)
      (fun b => match b with | ⟨0, _⟩ => hi'.symm | ⟨1, _⟩ => rfl)]
    rw [select_apply, mask_apply, broadcast_apply, hz]
    split <;> rfl
  | ⟨1, _⟩, hi =>
    have hi' : r.val + 256 = i.val := by simp at hi; omega
    rw [concatenate_pair_apply_right (t := S512x128) (s₁ := S256x128) (s₂ := S256x128) 0 _ _ concatenates_S256x128_S256x128_S512x128_d0 (ix2 i e) rfl rfl (ix2 r e)
      (fun b hb => match b, hb with | ⟨0, _⟩, hb => absurd rfl hb | ⟨1, _⟩, _ => rfl) hi']
    rw [select_apply, mask_apply, broadcast_apply, hz]
    by_cases h0 : e.val / 64 = 0
    · rw [if_pos h0, if_neg (by show ¬ e.val / 64 = 1; omega)]; rfl
    · rw [if_neg h0, if_pos (by show e.val / 64 = 1; omega)]; rfl

/-- A score: the stack's row against the key's row over the chunk's lanes. -/
theorem scores_apply (k : FVec Ideal S2048x128 .bf16) (q : FVec Ideal S256x128 .bf16) (h : Fin 2) (r : Fin 256) (i : Fin 512)
    (hi : i.val = 256 * h.val + r.val) (j : Fin 2048) :
    scores k q (ix2 i j) = ∑ e : Fin 128, masked q h r e * k (ix2 j e) := by
  have hd : dot_S512x128_S2048x128_S512x2048_1_1_0_0_n_n = DotDims.transposedRhs 512 128 2048 := rfl
  unfold scores
  rw [hd]
  refine (Ideal.matmul_transposedRhs_apply none (stack q) k (constant S512x2048 .f32 0x00000000#32) i j).trans ?_
  rw [constant_apply]
  simp only [Ideal.ofBits_zero_f32, zero_add]
  exact Finset.sum_congr rfl fun e _ => by rw [stack_apply q h r i hi]

/-- A row's greatest entry, as the body takes it. -/
theorem rowMax_apply (x : FVec Ideal S512x2048 .f32) (hφ : FKind.Formats .f32) (ha : (0xFF800000#32 : BitVec 32) = FKind.maximumf.neutral .f32 hφ) (i : Fin 512) :
    multiReduction .maximumf [1] S512 x 0xFF800000#32 reduces_S512x2048_S512 hφ ha (ix1 i) = peak fun j => x (ix2 i j) := by
  have hb : (FloatOps.ofBits .f32 0xFF800000#32 : Ideal .f32) = (⊥ : EReal) := by
    show Ideal.ofBits .f32 0xFF800000#32 = ⊥; simp [Ideal.ofBits, Ideal.ieee]
  refine (Ideal.multiReduction_maximumf_single x _ reduces_S512x2048_S512 hφ ha (ix1 i)).trans ?_
  rw [hb]
  refine Finset.fold_congr fun j _ => congrArg x (funext fun a => Fin.ext ?_)
  match a with
  | ⟨0, _⟩ => rfl
  | ⟨1, _⟩ => rfl

/-- A row's sum, as the body takes it. -/
theorem rowSum_apply (x : FVec Ideal S512x2048 .f32) (hφ : FKind.Formats .f32) (ha : (0x00000000#32 : BitVec 32) = FKind.add.neutral .f32 hφ) (i : Fin 512) :
    multiReduction .add [1] S512 x 0x00000000#32 reduces_S512x2048_S512 hφ ha (ix1 i) = ∑ j : Fin 2048, x (ix2 i j) := by
  refine (Ideal.multiReduction_add_single x _ reduces_S512x2048_S512 hφ ha (ix1 i)).trans ?_
  refine Finset.sum_congr rfl fun j _ => congrArg x (funext fun a => Fin.ext ?_)
  match a with
  | ⟨0, _⟩ => rfl
  | ⟨1, _⟩ => rfl

/-- A per-row value spread along a row of any length is that row's value. -/
theorem spread_apply {n : ℕ} (x : FVec Ideal S512 .f32) (hb : S512x1.Broadcasts ⟨2, ![512, n]⟩) (i : Fin 512) (j : Fin n) :
    broadcastTo ⟨2, ![512, n]⟩ (shapeCast S512x1 x shapeCasts_S512_S512x1) hb (ix2 i j) = x (ix1 i) := by
  refine (broadcastTo_apply _ hb (ix2 i j) (ix2 i (0 : Fin 1)) fun a => ?_).trans (shapeCast_apply x shapeCasts_S512_S512x1 (ix2 i (0 : Fin 1)) (ix1 i) ?_)
  · match a with
    | ⟨0, _⟩ => rfl
    | ⟨1, _⟩ => rfl
  · rw [Shape.rowMajor_val_two, Shape.rowMajor_val_one]; simp

/-- The weights before normalization. -/
theorem pay4_apply (k : FVec Ideal S2048x128 .bf16) (q : FVec Ideal S256x128 .bf16) (i : Fin 512) (j : Fin 2048) :
    k0_pay4 (F := Ideal) k q (ix2 i j) = weight (fun j => scores k q (ix2 i j)) j := by
  show Ideal.exp (scores k q (ix2 i j) - broadcastTo S512x2048 (shapeCast S512x1
    (multiReduction .maximumf [1] S512 (scores k q) 0xFF800000#32 reduces_S512x2048_S512 (.inl rfl) rfl) shapeCasts_S512_S512x1) broadcasts_S512x1_S512x2048 (ix2 i j)) = _
  rw [spread_apply]
  exact congrArg (fun M => Ideal.exp (scores k q (ix2 i j) - M)) (rowMax_apply _ _ _ i)

/-- The four stored chunks are one function of the keys, the values and the chunk of queries. -/
def chunk (k v : FVec Ideal S2048x128 .bf16) (q : FVec Ideal S256x128 .bf16) : FVec Ideal S256x128 .bf16 := k0_pay5 v k0_pay2 (k0_pay4 k q)

theorem pay3_eq (k v : FVec Ideal S2048x128 .bf16) (q : FVec Ideal S256x128 .bf16) : k0_pay3 k v q = chunk k v q := rfl
theorem pay6_eq (k v : FVec Ideal S2048x128 .bf16) (q : FVec Ideal S256x128 .bf16) : k0_pay6 k v k0_pay2 q = chunk k v q := rfl
theorem pay1_eq (k v : FVec Ideal S2048x128 .bf16) (q : FVec Ideal S256x128 .bf16) :
    k0_pay1 v k0_pay2 (k0_pay7 k k0_pay2 q) (k0_pay8 k k0_pay2 q) = chunk k v q := rfl

/-- The quotient at a stacked row: the softmax average of a column of the values. -/
def quotient (v : FVec Ideal S2048x128 .bf16) (p : FVec Ideal S512x2048 .f32) : FVec Ideal S512x128 .f32 :=
  divf (matmul dot_S512x2048_S2048x128_S512x128_1_0_0_1_n_n none (truncf .bf16 p bitsLt_bf16_f32) v (constant S512x128 .f32 0x00000000#32))
    (broadcastTo S512x128 (shapeCast S512x1 (multiReduction .add [1] S512 p 0x00000000#32 reduces_S512x2048_S512 (.inl rfl) rfl) shapeCasts_S512_S512x1) broadcasts_S512x1_S512x128)

theorem quotient_apply (k v : FVec Ideal S2048x128 .bf16) (q : FVec Ideal S256x128 .bf16) (i : Fin 512) (d : Fin 128) :
    quotient v (k0_pay4 k q) (ix2 i d) = once (fun j => scores k q (ix2 i j)) fun j => v (ix2 j d) := by
  have hd : dot_S512x2048_S2048x128_S512x128_1_0_0_1_n_n = DotDims.plain 512 2048 128 := rfl
  unfold quotient
  rw [divf_apply, spread_apply, hd]
  refine congrArg₂ Ideal.div ((Ideal.matmul_plain_apply none (truncf .bf16 (k0_pay4 k q) bitsLt_bf16_f32) v (constant S512x128 .f32 0x00000000#32) i d).trans ?_) ?_
  · rw [constant_apply]
    simp only [Ideal.ofBits_zero_f32, zero_add]
    exact Finset.sum_congr rfl fun j _ => by rw [truncf_apply, pay4_apply]
  · exact (rowSum_apply _ _ _ i).trans (Finset.sum_congr rfl fun j _ => pay4_apply k q i j)

/-- **A chunk at row `r`, lane `d`**: the softmax average of the values' column `d`, scored by the head that lane belongs to. -/
theorem chunk_apply (k v : FVec Ideal S2048x128 .bf16) (q : FVec Ideal S256x128 .bf16) (r : Fin 256) (d : Fin 128) (h : Fin 2) (hd : d.val / 64 = h.val) :
    chunk k v q (ix2 r d) = once (fun j : Fin 2048 => ∑ e : Fin 128, masked q h r e * k (ix2 j e)) fun j => v (ix2 j d) := by
  have hr := r.isLt
  have e1 : chunk k v q (ix2 r d) = Scalar.select (k0_pay2 (ix2 r d))
      (extractStridedSlice S256x128 ![0, 0] (quotient v (k0_pay4 k q)) slices_S512x128_o0_0_S256x128 (ix2 r d))
      (extractStridedSlice S256x128 ![256, 0] (quotient v (k0_pay4 k q)) slices_S512x128_o256_0_S256x128 (ix2 r d)) := rfl
  have e2 : ∀ i : Fin 512, i.val = 256 * h.val + r.val → quotient v (k0_pay4 k q) (ix2 i d)
      = once (fun j : Fin 2048 => ∑ e : Fin 128, masked q h r e * k (ix2 j e)) fun j => v (ix2 j d) := fun i hi => by
    rw [quotient_apply]
    exact congrArg (once · _) (funext fun j => scores_apply k q h r i hi j)
  rw [e1, mask_apply, hd]
  match h, e2 with
  | ⟨0, _⟩, e2 =>
    refine Eq.trans ?_ (e2 ⟨r.val, by omega⟩ (by simp))
    refine congrArg (quotient v (k0_pay4 k q)) (funext fun a => Fin.ext ?_)
    match a with
    | ⟨0, _⟩ => simp
    | ⟨1, _⟩ => simp
  | ⟨1, _⟩, e2 =>
    refine Eq.trans ?_ (e2 ⟨256 + r.val, by omega⟩ (by simp))
    refine congrArg (quotient v (k0_pay4 k q)) (funext fun a => Fin.ext ?_)
    match a with
    | ⟨0, _⟩ => simp
    | ⟨1, _⟩ => simp

end Cert.AttentionIdeal.Chunk

end
-- ==== Proof.AttnArray.lean ====
/-
  The attention kernel's result array after its run: `Attn.out` of the three argument arrays, index by index. A grid
  point stores four column chunks, each `Chunk.chunk` of the point's blocks; the blocks tile the array.
-/
module

public import proofs.«01_k».proof.Proof.AttnSpec
public import proofs.«01_k».proof.Proof.AttnChunk
public import proofs.«01_k».proof.Proof.Gen.AttentionIdeal.Value

@[expose] public section

noncomputable section

namespace Cert.AttentionIdeal.Array

open Cert.AttentionIdeal Cert.AttentionIdeal.Gen Cert.AttentionIdeal.Chunk Idealize.ShloMosaic Idealize.ShloMosaic.TcCoe Idealize.ShloMosaic.ValueIdx Cert.Softmax
open Idealize.ShloMosaic.Pipeline (Dat)
open scoped BigOperators

/-- A sum over two heads' lanes of terms that vanish off one head is the sum over that head's lanes. -/
theorem sum_head (h : Fin 2) (f : Fin 128 → EReal) :
    ∑ e : Fin 128, (if e.val / 64 = h.val then f e else 0) = ∑ e : Fin 64, f ⟨h.val * 64 + e.val, by have := h.isLt; have := e.isLt; omega⟩ := by
  rw [← (finProdFinEquiv (m := 2) (n := 64)).sum_comp, Fintype.sum_prod_type, Finset.sum_eq_single h]
  · refine Finset.sum_congr rfl fun e _ => ?_
    have he := e.isLt
    have hv : (finProdFinEquiv (h, e)).val = e.val + 64 * h.val := rfl
    rw [if_pos (by rw [hv]; omega)]
    exact congrArg f (Fin.ext (by rw [hv]; show _ = h.val * 64 + e.val; omega))
  · intro b _ hb
    refine Finset.sum_eq_zero fun e _ => ?_
    have he := e.isLt
    have hv : (finProdFinEquiv (b, e)).val = e.val + 64 * b.val := rfl
    rw [if_neg (by rw [hv]; intro h'; exact hb (Fin.ext (by omega)))]
  · intro hh; exact absurd (Finset.mem_univ _) hh

/-- What the body leaves in its output block, at a block index. -/
def blockOut (x0 : FVec Ideal S256x512 .bf16) (x1 x2 : FVec Ideal S2048x128 .bf16) (y : S256x512.Idx) : Ideal .bf16 :=
  once (fun j : Fin 2048 => ∑ e : Fin 64, x0 (ix2 (y 0) (Attn.qLane (y 1) e)) * x1 (ix2 j (Attn.kLane (y 1) e))) fun j => x2 (ix2 j (Attn.vLane (y 1)))

/-- A chunk loaded from columns `128·c …` of the query block is those columns of `blockOut`. -/
theorem chunk_eq (x0 : FVec Ideal S256x512 .bf16) (x1 x2 : FVec Ideal S2048x128 .bf16) (q : FVec Ideal S256x128 .bf16) (c : ℕ) (hc : c < 4)
    (hq : ∀ (r : Fin 256) (d : Fin 128), q (ix2 r d) = x0 (ix2 r ⟨128 * c + d.val, by have := d.isLt; omega⟩)) (r : Fin 256) (d : Fin 128) (y : S256x512.Idx)
    (hy0 : (y 0).val = r.val) (hy1 : (y 1).val = 128 * c + d.val) :
    chunk x1 x2 q (ix2 r d) = blockOut x0 x1 x2 y := by
  have hd := d.isLt
  have e0 : y 0 = r := Fin.ext hy0
  have e1 : (y 1 : Fin 512) = ⟨128 * c + d.val, by omega⟩ := Fin.ext hy1
  rw [chunk_apply x1 x2 q r d ⟨d.val / 64, by omega⟩ rfl]
  unfold blockOut
  rw [e0, e1]
  refine congrArg₂ once (funext fun j => ?_) (funext fun j => congrArg x2 ?_)
  · have e2 : ∀ e : Fin 128, masked q ⟨d.val / 64, by omega⟩ r e * x1 (ix2 j e)
        = if e.val / 64 = (⟨d.val / 64, by omega⟩ : Fin 2).val then q (ix2 r e) * x1 (ix2 j e) else 0 := fun e => by
      unfold masked; split <;> simp
    rw [Finset.sum_congr rfl fun e _ => e2 e, sum_head]
    refine Finset.sum_congr rfl fun e _ => ?_
    have he := e.isLt
    rw [hq]
    refine congrArg₂ (· * ·) (congrArg (fun z => x0 (ix2 r z)) (Fin.ext ?_)) (congrArg (fun z => x1 (ix2 j z)) (Fin.ext ?_))
    · show 128 * c + (d.val / 64 * 64 + e.val) = (128 * c + d.val) / 64 * 64 + e.val; omega
    · show d.val / 64 * 64 + e.val = (128 * c + d.val) / 64 % 2 * 64 + e.val; omega
  · refine congrArg (ix2 j) (Fin.ext ?_)
    show d.val = (128 * c + d.val) % 128; omega

theorem ld_whole (x : (⟨S2048x128, .bf16⟩ : BufTy).Contents (Elt Ideal)) : View.ld x r0_0 = x := by
  refine View.ld_unit_zero (S := S2048x128) ?_ _ x
  funext a
  match a with
  | ⟨0, _⟩ => rfl
  | ⟨1, _⟩ => rfl

/-- **The body's output block.** -/
theorem out_apply (x0 : (⟨S256x512, .bf16⟩ : BufTy).Contents (Elt Ideal)) (x1 x2 : (⟨S2048x128, .bf16⟩ : BufTy).Contents (Elt Ideal)) (y : S256x512.Idx) :
    out0_3 (F := Ideal) x0 x1 x2 y = blockOut x0 x1 x2 y := by
  have h1 := ld_whole x1
  have h2 := ld_whole x2
  have key : ∀ (c : ℕ) (hc : c < 4) (inb : ∀ a, (![0, 128 * c] : Fin 2 → ℕ) a + S256x128.size a ≤ S256x512.size a) (x : S256x128.Idx),
      chunk x1 x2 (View.ld (S := S256x512) (e' := .bf16) (Val := Elt Ideal) x0 (Rect.unit (s := S256x512) ![0, 128 * c] S256x128.size inb)) x
        = blockOut x0 x1 x2 ((Rect.unit (s := S256x512) ![0, 128 * c] S256x128.size inb).emb x) := fun c hc inb x => by
    rw [eq_ix2 x]
    refine chunk_eq x0 x1 x2 _ c hc (fun r d => ?_) (x 0) (x 1) _ ?_ ?_
    · refine congrArg x0 (funext fun a => Fin.ext ?_)
      match a with
      | ⟨0, _⟩ => show 0 + 1 * r.val = r.val; omega
      | ⟨1, _⟩ => show 128 * c + 1 * d.val = 128 * c + d.val; omega
    · show 0 + 1 * (x 0).val = (x 0).val; omega
    · show 128 * c + 1 * (x 1).val = 128 * c + (x 1).val; omega
  unfold out0_3
  refine View.canon_apply_of_pieces (Val := Elt Ideal) (blockOut x0 x1 x2) _ ?_ y (cover0_3 _ _ _ _ y)
  intro p hp x
  rw [h1, h2] at hp
  simp only [List.mem_cons, List.not_mem_nil, or_false] at hp
  rcases hp with rfl | rfl | rfl | rfl
  · exact (congrFun (pay1_eq x1 x2 _) x).trans (key 3 (by decide) _ x)
  · exact (congrFun (pay6_eq x1 x2 _) x).trans (key 2 (by decide) _ x)
  · exact key 1 (by decide) _ x
  · exact (congrFun (pay3_eq x1 x2 _) x).trans (key 0 (by decide) _ x)

/-- Where each window's block sits at a grid point. -/
theorem idx_facts : ∀ t : Fin cfg0.N, (win0_3.index t 0 = t.val ∧ win0_3.index t 1 = 0) ∧ (win0_0.index t 0 = t.val ∧ win0_0.index t 1 = 0)
    ∧ (win0_1.index t 0 = t.val / 8 ∧ win0_1.index t 1 = 0) ∧ (win0_2.index t 0 = t.val / 8 ∧ win0_2.index t 1 = 0) :=
  (by decide +kernel : ∀ t : Fin grid0.N, (win0_3.index t 0 = t.val ∧ win0_3.index t 1 = 0) ∧ (win0_0.index t 0 = t.val ∧ win0_0.index t 1 = 0)
    ∧ (win0_1.index t 0 = t.val / 8 ∧ win0_1.index t 1 = 0) ∧ (win0_2.index t 0 = t.val / 8 ∧ win0_2.index t 1 = 0))

variable (m : (ℓ : Loc nD τ sig) → Buf (Elt Ideal) ℓ) (c : Dev nD)

/-- The result array as one function of the arguments. -/
def result : Buf (Elt Ideal) ((c : Thread nD τ).loc main_v0) := fun i =>
  Attn.out (m ((c : Thread nD τ).loc main_arg0)) (m ((c : Thread nD τ).loc main_arg1)) (m ((c : Thread nD τ).loc main_arg2)) (i 0) (i 1)

theorem lt_N (t : Fin cfg0.N) : t.val < 128 := t.isLt

theorem iblk0_apply (t : Fin cfg0.N) (r : Fin 256) (X : Fin 512) :
    iblk m c 0 t (ix2 r X) = m ((c : Thread nD τ).loc main_arg0) (ix2 ⟨256 * t.val + r.val, by have := lt_N t; have := r.isLt; omega⟩ X) := by
  obtain ⟨-, ⟨ha, hb⟩, -⟩ := idx_facts t
  refine congrArg (m ((c : Thread nD τ).loc main_arg0)) (funext fun a => Fin.ext ?_)
  match a with
  | ⟨0, _⟩ => show win0_0.index t 0 * 256 + 1 * r.val = _; rw [ha]; show _ = 256 * t.val + r.val; omega
  | ⟨1, _⟩ => show win0_0.index t 1 * 512 + 1 * X.val = X.val; rw [hb]; omega

theorem iblk1_apply (t : Fin cfg0.N) (j : Fin 2048) (X : Fin 128) :
    iblk m c 1 t (ix2 j X) = m ((c : Thread nD τ).loc main_arg1) (ix2 ⟨t.val / 8 * 2048 + j.val, by have := lt_N t; have := j.isLt; omega⟩ X) := by
  obtain ⟨-, -, ⟨ha, hb⟩, -⟩ := idx_facts t
  refine congrArg (m ((c : Thread nD τ).loc main_arg1)) (funext fun a => Fin.ext ?_)
  match a with
  | ⟨0, _⟩ => show win0_1.index t 0 * 2048 + 1 * j.val = _; rw [ha]; show _ = t.val / 8 * 2048 + j.val; omega
  | ⟨1, _⟩ => show win0_1.index t 1 * 128 + 1 * X.val = X.val; rw [hb]; omega

theorem iblk2_apply (t : Fin cfg0.N) (j : Fin 2048) (X : Fin 128) :
    iblk m c 2 t (ix2 j X) = m ((c : Thread nD τ).loc main_arg2) (ix2 ⟨t.val / 8 * 2048 + j.val, by have := lt_N t; have := j.isLt; omega⟩ X) := by
  obtain ⟨-, -, -, ha, hb⟩ := idx_facts t
  refine congrArg (m ((c : Thread nD τ).loc main_arg2)) (funext fun a => Fin.ext ?_)
  match a with
  | ⟨0, _⟩ => show win0_2.index t 0 * 2048 + 1 * j.val = _; rw [ha]; show _ = t.val / 8 * 2048 + j.val; omega
  | ⟨1, _⟩ => show win0_2.index t 1 * 128 + 1 * X.val = X.val; rw [hb]; omega

/-- What a point writes back is its block of the result. -/
theorem flushed_eq (t : Fin cfg0.N) : (dats m 0 c).flushed 3 t = ((cfg0.win 3).blk t).view.read (Elt Ideal) (result m c) := by
  rw [Value.flushed3]
  have key : ∀ (r : Fin 256) (X : Fin 512), out0_3 (iblk m c 0 t) (iblk m c 1 t) (iblk m c 2 t) (ix2 r X)
      = ((cfg0.win 3).blk t).view.read (Elt Ideal) (result m c) (ix2 r X) := fun r X => by
    have ht := lt_N t
    have hr := r.isLt
    rw [out_apply]
    obtain ⟨⟨ha, hb⟩, -⟩ := idx_facts t
    have e : ((cfg0.win 3).blk t).view.read (Elt Ideal) (result m c) (ix2 r X)
        = Attn.out (m ((c : Thread nD τ).loc main_arg0)) (m ((c : Thread nD τ).loc main_arg1)) (m ((c : Thread nD τ).loc main_arg2)) ⟨256 * t.val + r.val, by omega⟩ X := by
      refine congrArg₂ (Attn.out _ _ _) (Fin.ext ?_) (Fin.ext ?_)
      · show win0_3.index t 0 * 256 + 1 * r.val = 256 * t.val + r.val; rw [ha]; omega
      · show win0_3.index t 1 * 512 + 1 * X.val = X.val; rw [hb]; omega
    rw [e]
    have htok : ∀ j : Fin 2048, Attn.tok ⟨256 * t.val + r.val, by omega⟩ j = ⟨t.val / 8 * 2048 + j.val, by have := j.isLt; omega⟩ := fun j =>
      Fin.ext (by show (256 * t.val + r.val) / 2048 * 2048 + j.val = t.val / 8 * 2048 + j.val; omega)
    unfold blockOut Attn.out Attn.score
    refine congrArg₂ once (funext fun j => Finset.sum_congr rfl fun e _ => ?_) (funext fun j => ?_)
    · rw [htok]; exact congrArg₂ (· * ·) (iblk0_apply m c t r _) (iblk1_apply m c t j _)
    · rw [htok]; exact iblk2_apply m c t j _
  funext y
  have hy : y = (ix2 (y 0) (y 1) : S256x512.Idx) := eq_ix2 (n0 := 256) (n1 := 512) y
  exact (congrArg (out0_3 (iblk m c 0 t) (iblk m c 1 t) (iblk m c 2 t)) hy).trans
    ((key (y 0) (y 1)).trans (congrArg (((cfg0.win 3).blk t).view.read (Elt Ideal) (result m c)) hy.symm))

theorem mem_blk (t : Fin cfg0.N) (i : S32768x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v0).slice (win0_3.rect t)).set ↔ _
  rw [View.set_slice_whole, Rect.mem_set_unit]
  exact Iff.rfl

/-- **The result array after the run.** -/
theorem array_eq : (dats m 0 c).arrAt 3 cfg0.N = result m c := by
  refine (dats m 0 c).arrAt_eq_of_cover 3 (result m c) (fun t _ => flushed_eq m c t) fun i => ?_
  have h0 : (i 0).val < 32768 := (i 0).isLt
  have h1 : (i 1).val < 512 := (i 1).isLt
  let t : Fin cfg0.N := ⟨(i 0).val / 256, by show _ < 128; omega⟩
  obtain ⟨⟨ha, hb⟩, -⟩ := idx_facts t
  refine ⟨t, flush0_3 t, ?_⟩
  rw [mem_blk]
  intro a
  match a with
  | ⟨0, _⟩ =>
    show win0_3.index t 0 * 256 ≤ (i 0).val ∧ (i 0).val < win0_3.index t 0 * 256 + 256
    rw [ha]; show (i 0).val / 256 * 256 ≤ _ ∧ _ < (i 0).val / 256 * 256 + 256; omega
  | ⟨1, _⟩ =>
    show win0_3.index t 1 * 512 ≤ (i 1).val ∧ (i 1).val < win0_3.index t 1 * 512 + 512
    rw [hb]; omega

end Cert.AttentionIdeal.Array

end
-- ==== Proof.AttnRef.lean ====
/-
  The attention reference's result at an index: `Softmax.each` of the same scores and values `Attn.out` averages.
-/
module

public import proofs.«01_k».proof.Proof.AttnSpec
public import proofs.«01_k».proof.Proof.Gen.AttentionRefIdeal.Read
public import Idealize.ShloMosaic.Lib.KernelVsHost

@[expose] public section

noncomputable section

namespace Cert.AttentionRefIdeal.Array

open Cert.AttentionRefIdeal Cert.AttentionRefIdeal.Gen Cert.AttentionRefIdeal.Read Idealize.ShloMosaic Idealize.ShloMosaic.TcCoe Idealize.ShloMosaic.ValueIdx Cert.Softmax
open scoped BigOperators

variable (q : (⟨S32768x512, .bf16⟩ : BufTy).Contents (Elt Ideal)) (k v : (⟨S32768x128, .bf16⟩ : BufTy).Contents (Elt Ideal))

/-- The reference's coordinates of a result index: batch, key head, query head within it, token within the batch. -/
def at4 (R : Fin 32768) (X : Fin 512) : S16x2x4x2048.Idx := fun a => match a with
  | ⟨0, _⟩ => ⟨R.val / 2048, by have := R.isLt; show _ < 16; omega⟩
  | ⟨1, _⟩ => ⟨X.val / 64 % 2, by show _ < 2; omega⟩
  | ⟨2, _⟩ => ⟨X.val / 128, by have := X.isLt; show _ < 4; omega⟩
  | ⟨3, _⟩ => ⟨R.val % 2048, by show _ < 2048; omega⟩

/-- The same, with the token attended to. -/
def at5 (R : Fin 32768) (X : Fin 512) (j : Fin 2048) : S16x2x4x2048x2048.Idx := fun a => match a with
  | ⟨0, _⟩ => ⟨R.val / 2048, by have := R.isLt; show _ < 16; omega⟩
  | ⟨1, _⟩ => ⟨X.val / 64 % 2, by show _ < 2; omega⟩
  | ⟨2, _⟩ => ⟨X.val / 128, by have := X.isLt; show _ < 4; omega⟩
  | ⟨3, _⟩ => ⟨R.val % 2048, by show _ < 2048; omega⟩
  | ⟨4, _⟩ => ⟨j.val, j.isLt⟩

theorem score_apply (R : Fin 32768) (X : Fin 512) (j : Fin 2048) : val_main_v8 (F := Ideal) q k (at5 R X j) = Attn.score q k R X j := by
  rw [val_main_v8_apply, val_main_v7_apply]
  unfold Attn.score
  refine Finset.sum_congr rfl fun e _ => ?_
  rw [val_main_v4_apply, val_main_v2_apply, val_main_v1_apply, val_main_v0_apply, val_main_v3_apply]
  have hR := R.isLt
  have hX := X.isLt
  have hj := j.isLt
  have he := e.isLt
  refine (mul_comm (_ : EReal) _).trans (congrArg₂ (fun a b : EReal => a * b) (congrArg q (funext fun a => Fin.ext ?_)) (congrArg k (funext fun a => Fin.ext ?_)))
  · match a with
    | ⟨0, _⟩ => show ((((R.val / 2048 * 2048 + R.val % 2048) * 4 + X.val / 128) * 2 + X.val / 64 % 2) * 64 + e.val) / 512 = R.val; omega
    | ⟨1, _⟩ => show ((((R.val / 2048 * 2048 + R.val % 2048) * 4 + X.val / 128) * 2 + X.val / 64 % 2) * 64 + e.val) % 512 = X.val / 64 * 64 + e.val; omega
  · match a with
    | ⟨0, _⟩ => show (((R.val / 2048 * 2048 + j.val) * 2 + X.val / 64 % 2) * 64 + e.val) / 128 = R.val / 2048 * 2048 + j.val; omega
    | ⟨1, _⟩ => show (((R.val / 2048 * 2048 + j.val) * 2 + X.val / 64 % 2) * 64 + e.val) % 128 = X.val / 64 % 2 * 64 + e.val; omega

/-- The reference's maximum over the tokens attended to. -/
theorem max_apply (x : FVec Ideal S16x2x4x2048x2048 .f32) (i : S16x2x4x2048.Idx) :
    Host.reduce FloatOps.maximumf x (val_main_cst (F := Ideal)) reducesTo_S16x2x4x2048x2048_S16x2x4x2048_d4 h_S_ i = peak fun j => x (idx_main_v16 i j) := by
  have hb : (FloatOps.ofBits .f32 0xFF800000#32 : Ideal .f32) = (⊥ : EReal) := by
    show Ideal.ofBits .f32 0xFF800000#32 = ⊥; simp [Ideal.ofBits, Ideal.ieee]
  have hr : S16x2x4x2048x2048.Reduces [4] S16x2x4x2048 := by decide
  refine (congrFun (hostReduce_maximumf_eq_multiReduction x 0xFF800000#32 reducesTo_S16x2x4x2048x2048_S16x2x4x2048_d4 h_S_ hr (.inl rfl) rfl) i).trans ?_
  refine (Ideal.multiReduction_maximumf_single x _ hr (.inl rfl) rfl i).trans ?_
  refine (congrArg (fun z : EReal => Finset.univ.fold max z (x ∘ hr.lift i)) hb).trans ?_
  refine Finset.fold_congr fun j _ => congrArg x (funext fun a => Fin.ext ?_)
  match a with
  | ⟨0, _⟩ => rfl
  | ⟨1, _⟩ => rfl
  | ⟨2, _⟩ => rfl
  | ⟨3, _⟩ => rfl
  | ⟨4, _⟩ => rfl

theorem peak_apply (R : Fin 32768) (X : Fin 512) : val_main_v11 (F := Ideal) q k (at4 R X) = peak (Attn.score q k R X) := by
  have hb : (FloatOps.ofBits .f32 0xFF800000#32 : Ideal .f32) = (⊥ : EReal) := by
    show Ideal.ofBits .f32 0xFF800000#32 = ⊥; simp [Ideal.ofBits, Ideal.ieee]
  have h9 : val_main_v9 (F := Ideal) q k (at4 R X) = peak (Attn.score q k R X) := by
    refine (max_apply (val_main_v8 (F := Ideal) q k) (at4 R X)).trans (congrArg peak (funext fun j => ?_))
    refine (congrArg (val_main_v8 (F := Ideal) q k) (funext fun a => ?_)).trans (score_apply q k R X j)
    match a with
    | ⟨0, _⟩ => rfl
    | ⟨1, _⟩ => rfl
    | ⟨2, _⟩ => rfl
    | ⟨3, _⟩ => rfl
    | ⟨4, _⟩ => rfl
  rw [val_main_v11_apply, h9, val_main_v10_apply, val_main_cst_0_apply, hb]
  exact max_bot_left _

theorem weight_apply (R : Fin 32768) (X : Fin 512) (j : Fin 2048) : val_main_v15 (F := Ideal) q k (at5 R X j) = weight (Attn.score q k R X) j := by
  rw [val_main_v15_apply, val_main_v14_apply, score_apply, val_main_v13_apply, val_main_v12_apply]
  have e : idx_main_v12 (idx_main_v13 (at5 R X j)) = at4 R X := funext fun a => by
    match a with
    | ⟨0, _⟩ => rfl
    | ⟨1, _⟩ => rfl
    | ⟨2, _⟩ => rfl
    | ⟨3, _⟩ => rfl
  rw [e, peak_apply]
  rfl

theorem mass_apply (R : Fin 32768) (X : Fin 512) : val_main_v16 (F := Ideal) q k (at4 R X) = mass (Attn.score q k R X) := by
  rw [val_main_v16_apply, val_main_cst_1_apply]
  have h0 : (FloatOps.ofBits .f32 0x00000000#32 : Ideal .f32) = (0 : EReal) := Ideal.ofBits_zero_f32
  rw [h0, zero_add]
  refine Finset.sum_congr rfl fun j _ => (congrArg (val_main_v15 (F := Ideal) q k) (funext fun a => ?_)).trans (weight_apply q k R X j)
  match a with
  | ⟨0, _⟩ => rfl
  | ⟨1, _⟩ => rfl
  | ⟨2, _⟩ => rfl
  | ⟨3, _⟩ => rfl
  | ⟨4, _⟩ => rfl

theorem share_apply (R : Fin 32768) (X : Fin 512) (j : Fin 2048) :
    val_main_v19 (F := Ideal) q k (at5 R X j) = Ideal.div (weight (Attn.score q k R X) j) (mass (Attn.score q k R X)) := by
  rw [val_main_v19_apply, weight_apply, val_main_v18_apply, val_main_v17_apply]
  have e : idx_main_v17 (idx_main_v18 (at5 R X j)) = at4 R X := funext fun a => by
    match a with
    | ⟨0, _⟩ => rfl
    | ⟨1, _⟩ => rfl
    | ⟨2, _⟩ => rfl
    | ⟨3, _⟩ => rfl
  rw [e, mass_apply]
  rfl

/-- **The reference's result at an index.** -/
theorem result_apply (i : S32768x512.Idx) :
    val_main_v24 (F := Ideal) q k v i = each (Attn.score q k (i 0) (i 1)) fun j => v (ix2 (Attn.tok (i 0) j) (Attn.vLane (i 1))) := by
  have h0 : (i 0).val < 32768 := (i 0).isLt
  have h1 : (i 1).val < 512 := (i 1).isLt
  rw [val_main_v24_apply, val_main_v23_apply, val_main_v22_apply, val_main_v21_apply]
  show val_main_v20 (F := Ideal) q k v _ = _
  rw [val_main_v20_apply]
  unfold each
  refine Finset.sum_congr rfl fun j _ => ?_
  have hj := j.isLt
  refine congrArg₂ (fun a b : EReal => a * b) ?_ ?_
  · rw [val_main_v6_apply, val_main_v5_apply]
    refine congrArg v (funext fun a => Fin.ext ?_)
    match a with
    | ⟨0, _⟩ =>
      show ((((((i 0).val * 512 + (i 1).val) / 1048576) * 2048 + j.val) * 2 + ((i 0).val * 512 + (i 1).val) / 64 % 2) * 64 + ((i 0).val * 512 + (i 1).val) % 64) / 128 = (i 0).val / 2048 * 2048 + j.val
      omega
    | ⟨1, _⟩ =>
      show ((((((i 0).val * 512 + (i 1).val) / 1048576) * 2048 + j.val) * 2 + ((i 0).val * 512 + (i 1).val) / 64 % 2) * 64 + ((i 0).val * 512 + (i 1).val) % 64) % 128 = (i 1).val % 128
      omega
  · refine (congrArg (val_main_v19 (F := Ideal) q k) (funext fun a => Fin.ext ?_)).trans (share_apply q k (i 0) (i 1) j)
    match a with
    | ⟨0, _⟩ => show ((i 0).val * 512 + (i 1).val) / 1048576 = (i 0).val / 2048; omega
    | ⟨1, _⟩ => show ((i 0).val * 512 + (i 1).val) / 64 % 2 = (i 1).val / 64 % 2; omega
    | ⟨2, _⟩ => show ((i 0).val * 512 + (i 1).val) / 128 % 4 = (i 1).val / 128; omega
    | ⟨3, _⟩ => show ((i 0).val * 512 + (i 1).val) / 512 % 2048 = (i 0).val % 2048; omega
    | ⟨4, _⟩ => rfl

end Cert.AttentionRefIdeal.Array

end
-- ==== Proof.AttnPre.lean ====
/-
  What the precondition says: every query and every key is a real number. So every score is one.
-/
module

public import proofs.«01_k».proof.Proof.AttnSpec
public import proofs.«01_k».proof.Proof.Gen.Pre_finite_qk
public import Idealize.ShloMosaic.Lib.ReduceAll

@[expose] public section

noncomputable section

namespace Cert.Attn

open Cert.Pre_finite_qk Idealize.ShloMosaic Idealize.ShloMosaic.ValueIdx Cert.Softmax
open scoped BigOperators

/-- An element whose absolute value compares below the +∞ word is a real number. -/
theorem isReal_of_lt {s : Shape} (x : FVec Ideal s .bf16) (hlt : FTy.bits .bf16 < FTy.bits .f32) (b : S_.BroadcastsInDim s (![] : Fin 0 → Fin s.rank)) (i : s.Idx)
    (h : cmpf (F := Ideal) .olt (Host.absf (extf .f32 x hlt)) (broadcastInDim s ![] b (constant S_ .f32 0x7F800000#32)) i = 1#1) : IsReal (x i) := by
  have ht : (FloatOps.ofBits .f32 0x7F800000#32 : Ideal .f32) = (⊤ : EReal) := by
    show Ideal.ofBits .f32 0x7F800000#32 = ⊤; simp [Ideal.ofBits, Ideal.ieee]
  have h' : Ideal.cmp .olt (max (x i : EReal) (-(x i : EReal))) ⊤ = 1#1 := by
    rw [← ht]; exact h
  have hl : max (x i : EReal) (-(x i : EReal)) < ⊤ := by
    by_contra hn
    rw [show Ideal.cmp .olt (max (x i : EReal) (-(x i : EReal))) ⊤ = _ from rfl] at h'
    simp [Ideal.cmp, hn] at h'
  revert hl
  generalize (x i : EReal) = y
  intro hl
  induction y using EReal.rec with
  | bot => simp at hl
  | coe r => exact ⟨r, rfl⟩
  | top => simp at hl

theorem isReal_args [Cert.Pre_finite_qk.Facts] {q : FVec Ideal S32768x512 .bf16} {k v : FVec Ideal S32768x128 .bf16}
    (h : Cert.Pre_finite_qk.fn (F := Ideal) q k v = fun _ => 1#1) : (∀ i, IsReal (q i)) ∧ ∀ i, IsReal (k i) := by
  haveI : Subsingleton S_.Idx := ⟨fun a b => funext fun z => z.elim0⟩
  have h0 := congrFun h ix0
  obtain ⟨h1, h2⟩ := IntOp.andi_eq_one.1 h0
  exact ⟨fun i => isReal_of_lt q _ _ i (Host.reduce_andi_all _ _ _ _ ix0 h1 i), fun i => isReal_of_lt k _ _ i (Host.reduce_andi_all _ _ _ _ ix0 h2 i)⟩

/-- Under the precondition every score is a real number. -/
theorem isReal_score [Cert.Pre_finite_qk.Facts] {q : FVec Ideal S32768x512 .bf16} {k v : FVec Ideal S32768x128 .bf16}
    (h : Cert.Pre_finite_qk.fn (F := Ideal) q k v = fun _ => 1#1) (R : Fin 32768) (X : Fin 512) (j : Fin 2048) : IsReal (score q k R X j) := by
  obtain ⟨hq, hk⟩ := isReal_args h
  exact IsReal.sum _ fun e => (hq _).mul (hk _)

end Cert.Attn

end
-- ==== Proof.AttnClaims.lean ====
/-
  The claims about the attention: its frames, and that the kernel and the reference compute one function of finite
  queries and keys and of any values.
-/
module

public import proofs.«01_k».proof.Proof.AttnArray
public import proofs.«01_k».proof.Proof.AttnRef
public import proofs.«01_k».proof.Proof.AttnPre
public import proofs.«01_k».proof.Proof.Gen.Attention.Frame
public import proofs.«01_k».proof.Defs

@[expose] public section

noncomputable section

namespace Cert.Attn

open Idealize.ShloMosaic Idealize.SL.Sem Cert.Softmax

theorem frame_kernel : Cert.quiescent_Attention := fun m ρ _ => Cert.Attention.Gen.frame m ρ
theorem frame_ideal : Cert.quiescent_AttentionIdeal := fun m ρ _ => Cert.AttentionIdeal.Gen.frame m ρ
theorem frame_ideal_pre : Cert.quiescent_AttentionIdeal_pre_finite_qk := fun m ρ _ => Cert.AttentionIdeal.Gen.frame m ρ

/-- The reference's arguments end unchanged; it declares no semaphore. -/
theorem frame_ref : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)
theorem frame_ref_pre : Cert.quiescent_AttentionRefIdeal_pre_finite_qk := fun m ρ _ => frame_ref m ρ trivial

/-- **The attention**: from finite queries and keys, and any values, the kernel's result is the reference's. -/
theorem algebraic : Cert.algebraic_AttentionIdeal_AttentionRefIdeal_pre_finite_qk := by
  intro m ρ m' ρ' hpre hagree
  refine ⟨fun c => Cert.AttentionIdeal.Array.result m c, ?_, ?_⟩
  · exact (θ_run Cert.AttentionIdeal.defs _ _).mono (fun r h c => ⟨(h c).1.trans (Cert.AttentionIdeal.Array.array_eq m c), (h c).2⟩)
      (Cert.AttentionIdeal.Value.run_blocks (F := Ideal) m ρ)
  · refine (θ_run Cert.AttentionRefIdeal.defs _ _).mono (fun r h c => ⟨(h c).1.trans ?_, (h c).2⟩) (Cert.AttentionRefIdeal.Value.run (F := Ideal) m' ρ')
    rw [Cert.AttentionRefIdeal.Read.val_main_v24_eq]
    obtain ⟨h0, h1, h2⟩ := hagree c
    refine (congr (congrArg₂ _ h0 h1) h2).trans ?_
    funext i
    exact (Cert.AttentionRefIdeal.Array.result_apply _ _ _ i).trans (once_eq_each (by decide) (fun j => isReal_score (hpre c) (i 0) (i 1) j) _).symm

end Cert.Attn

end
-- ==== Proof.RowNorm.lean ====
/-
  Pieces the merge and the feed-forward share, over a block of rows of 1024 lanes: the root-mean-square
  normalization as the kernels spell it, a product with a weight matrix, and a row of parameters spread over the block.
-/
module

public import Idealize.ShloMosaic.Lib.Pipeline.Value
public import Idealize.ShloMosaic.Lib.MatmulPlain
public import Idealize.ShloMosaic.Lib.IdealHost

@[expose] public section

noncomputable section

namespace Cert.RowNorm

open Idealize.ShloMosaic Idealize.ShloMosaic.ValueIdx
open scoped BigOperators

/-- The factor a row is normalized by: one over the root of its mean square plus a small number. -/
def scale (x : Fin 1024 → EReal) : EReal :=
  Ideal.rsqrt (Ideal.div (∑ k : Fin 1024, x k * x k) (Ideal.ofBits .f32 0x44800000#32) + Ideal.ofBits .f32 0x358637BD#32)

/-- A row normalized by its root mean square. -/
def rms (x : Fin 1024 → EReal) (d : Fin 1024) : EReal := x d * scale x

/-- The normalization of a block of rows, as the kernels spell it. -/
def norm {n : ℕ} (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) : FVec Ideal ⟨2, ![n, 1024]⟩ .f32 :=
  mulf x (broadcastTo ⟨2, ![n, 1024]⟩ (rsqrt (addf (divf (shapeCast ⟨2, ![n, 1]⟩ (multiReduction .add [1] ⟨1, ![n]⟩ (mulf x x) 0x00000000#32 hr (.inl rfl) rfl) hc)
    (broadcast ⟨2, ![n, 1]⟩ (Scalar.ofBits .f32 0x44800000#32 : Ideal .f32))) (broadcast ⟨2, ![n, 1]⟩ (Scalar.ofBits .f32 0x358637BD#32 : Ideal .f32)))) hb)

theorem norm_apply {n : ℕ} (hn : n ≠ 1) (x : FVec Ideal ⟨2, ![n, 1024]⟩ .f32) (hr : (⟨2, ![n, 1024]⟩ : Shape).Reduces [1] ⟨1, ![n]⟩)
    (hc : (⟨1, ![n]⟩ : Shape).ShapeCasts ⟨2, ![n, 1]⟩) (hb : (⟨2, ![n, 1]⟩ : Shape).Broadcasts ⟨2, ![n, 1024]⟩) (r : Fin n) (d : Fin 1024) :
    norm x hr hc hb (ix2 r d) = rms (fun k => x (ix2 r k)) d := by
  unfold norm rms
  rw [mulf_apply]
  refine congrArg (x (ix2 r d) * ·) ?_
  refine (broadcastTo_apply _ hb (ix2 r d) (ix2 r (0 : Fin 1)) fun a => ?_).trans ?_
  · match a with
    | ⟨0, _⟩ => show r.val = if n = 1 then 0 else r.val; rw [if_neg hn]
    | ⟨1, _⟩ => rfl
  · show Ideal.rsqrt (Ideal.div (shapeCast ⟨2, ![n, 1]⟩ _ hc (ix2 r (0 : Fin 1))) (Ideal.ofBits .f32 0x44800000#32) + Ideal.ofBits .f32 0x358637BD#32) = scale _
    unfold scale
    refine congrArg (fun s : EReal => Ideal.rsqrt (Ideal.div s (Ideal.ofBits .f32 0x44800000#32) + Ideal.ofBits .f32 0x358637BD#32)) ?_
    refine (shapeCast_apply _ hc (ix2 r (0 : Fin 1)) (ix1 r) ?_).trans ?_
    · rw [Shape.rowMajor_val_two, Shape.rowMajor_val_one]; show r.val = r.val * 1 + 0; omega
    · refine (Ideal.multiReduction_add_single (mulf x x) _ hr (.inl rfl) rfl (ix1 r)).trans ?_
      refine Finset.sum_congr rfl fun k _ => congrArg (fun i => x i * x i) (funext fun a => Fin.ext ?_)
      match a with
      | ⟨0, _⟩ => rfl
      | ⟨1, _⟩ => rfl

/-- A row of parameters spread over the block's rows. -/
theorem row_apply {n w : ℕ} {α : Type} (hw : w ≠ 1) (x : (⟨2, ![1, w]⟩ : Shape).Idx → α) (hb : (⟨2, ![1, w]⟩ : Shape).Broadcasts ⟨2, ![n, w]⟩) (r : Fin n) (d : Fin w) :
    broadcastTo ⟨2, ![n, w]⟩ x hb (ix2 r d) = x (ix2 (0 : Fin 1) d) := by
  refine broadcastTo_apply _ hb (ix2 r d) (ix2 (0 : Fin 1) d) fun a => ?_
  match a with
  | ⟨0, _⟩ => rfl
  | ⟨1, _⟩ => show d.val = if w = 1 then 0 else d.val; rw [if_neg hw]

/-- A product into a zero accumulator. -/
theorem product_apply {n k w : ℕ} {φ₁ φ₂ : FTy} (x : FVec Ideal ⟨2, ![n, k]⟩ φ₁) (y : FVec Ideal ⟨2, ![k, w]⟩ φ₂) (r : Fin n) (d : Fin w) :
    matmul (DotDims.plain n k w) none x y (constant ⟨2, ![n, w]⟩ .f32 0x00000000#32) (ix2 r d) = ∑ e : Fin k, x (ix2 r e) * y (ix2 e d) := by
  refine (Ideal.matmul_plain_apply none x y _ r d).trans ?_
  rw [constant_apply]
  simp only [Ideal.ofBits_zero_f32, zero_add]

end Cert.RowNorm

end
-- ==== Proof.MergeSpec.lean ====
/-
  The merge of the three branches as a function of the arguments. A token's row is normalized; each branch is projected
  to the stream's width and scaled lane by lane by a sigmoid of the normalized row; the sum is mixed by a matrix,
  normalized and added to the row.
-/
module

public import proofs.«01_k».proof.Proof.RowNorm

@[expose] public section

noncomputable section

namespace Cert.MergeSpec

open Idealize.ShloMosaic Idealize.ShloMosaic.ValueIdx Cert.RowNorm
open scoped BigOperators

/-- Lane `d` of branch `n` among the gates' lanes. -/
def lane (n : Fin 3) (d : Fin 1024) : Fin 3072 := ⟨n.val * 1024 + d.val, by have := n.isLt; have := d.isLt; omega⟩

variable (x : Fin 1024 → EReal) (y : Fin 3 → Fin 512 → EReal) (gpre : Fin 1024 → EReal) (wg : Fin 1024 → Fin 3072 → EReal) (bg : Fin 3072 → EReal)
  (wb : Fin 3 → Fin 512 → Fin 1024 → EReal) (wo : Fin 1024 → Fin 1024 → EReal) (gpost : Fin 1024 → EReal)

/-- The normalized row. -/
def pre (d : Fin 1024) : EReal := rms x d * gpre d

/-- A branch's gate. -/
def gate (n : Fin 3) (d : Fin 1024) : EReal := Ideal.logistic (∑ e : Fin 1024, pre x gpre e * wg e (lane n d) + bg (lane n d))

/-- A branch at the stream's width. -/
def branch (n : Fin 3) (d : Fin 1024) : EReal := ∑ e : Fin 512, y n e * wb n e d

/-- The gated branches' sum. -/
def merged (d : Fin 1024) : EReal :=
  gate x gpre wg bg 0 d * branch y wb 0 d + gate x gpre wg bg 1 d * branch y wb 1 d + gate x gpre wg bg 2 d * branch y wb 2 d

/-- The sum, mixed. -/
def mixed (d : Fin 1024) : EReal := ∑ e : Fin 1024, merged x y gpre wg bg wb e * wo e d

/-- The merge's row. -/
def out (d : Fin 1024) : EReal := x d + rms (mixed x y gpre wg bg wb wo) d * gpost d

/-- The merge of whole arrays, at token `R`, lane `d`. -/
def array (x0 : (⟨2, ![32768, 1024]⟩ : Shape).Idx → EReal) (x1 x2 x3 : (⟨2, ![32768, 512]⟩ : Shape).Idx → EReal) (x4 : (⟨2, ![1, 1024]⟩ : Shape).Idx → EReal)
    (x5 : (⟨2, ![1024, 3072]⟩ : Shape).Idx → EReal) (x6 : (⟨2, ![1, 3072]⟩ : Shape).Idx → EReal) (x7 : (⟨3, ![3, 512, 1024]⟩ : Shape).Idx → EReal)
    (x8 : (⟨2, ![1024, 1024]⟩ : Shape).Idx → EReal) (x9 : (⟨2, ![1, 1024]⟩ : Shape).Idx → EReal) (R : Fin 32768) (d : Fin 1024) : EReal :=
  out (fun k => x0 (ix2 R k)) ![fun e => x1 (ix2 R e), fun e => x2 (ix2 R e), fun e => x3 (ix2 R e)] (fun k => x4 (ix2 (0 : Fin 1) k)) (fun e k => x5 (ix2 e k))
    (fun k => x6 (ix2 (0 : Fin 1) k)) (fun n e k => x7 (ix3 n e k)) (fun e k => x8 (ix2 e k)) (fun k => x9 (ix2 (0 : Fin 1) k)) d

end Cert.MergeSpec

end
-- ==== Proof.MergeChunk.lean ====
/-
  The merge kernel's body on one block of tokens, read at an index: `MergeSpec.out` of the block's rows.
-/
module

public import proofs.«01_k».proof.Proof.MergeSpec
public import proofs.«01_k».proof.Proof.Gen.MergeIdeal.Frame

@[expose] public section

noncomputable section

namespace Cert.MergeIdeal.Chunk

open Cert.MergeIdeal Cert.MergeIdeal.Gen Idealize.ShloMosaic Idealize.ShloMosaic.ValueIdx Cert.RowNorm
open scoped BigOperators

/-- A slab of the branches' projections as a matrix. -/
theorem slab_apply (w : FVec Ideal S1x512x1024 .bf16) (e : Fin 512) (d : Fin 1024) :
    shapeCast S512x1024 w shapeCasts_S1x512x1024_S512x1024 (ix2 e d) = w (ix3 (0 : Fin 1) e d) := by
  refine shapeCast_apply w shapeCasts_S1x512x1024_S512x1024 (ix2 e d) (ix3 (0 : Fin 1) e d) ?_
  rw [Shape.rowMajor_val_two, Shape.rowMajor_val_three]
  show (0 * 512 + e.val) * 1024 + d.val = e.val * 1024 + d.val; omega

/-- The gate of a block under a column block of the weights and of the biases. -/
def gate (h : FVec Ideal S512x1024 .bf16) (w : FVec Ideal S1024x1024 .bf16) (b : FVec Ideal S1x1024 .f32) : FVec Ideal S512x1024 .f32 :=
  logistic (addf (matmul dot_S512x1024_S1024x1024_S512x1024_1_0_0_1_n_n none h w (constant S512x1024 .f32 0x00000000#32)) (broadcastTo S512x1024 b broadcasts_S1x1024_S512x1024))

theorem gate_apply (h : FVec Ideal S512x1024 .bf16) (w : FVec Ideal S1024x1024 .bf16) (b : FVec Ideal S1x1024 .f32) (r : Fin 512) (d : Fin 1024) :
    gate h w b (ix2 r d) = Ideal.logistic (∑ e : Fin 1024, h (ix2 r e) * w (ix2 e d) + b (ix2 (0 : Fin 1) d)) :=
  congrArg Ideal.logistic (congrArg₂ (fun a b : EReal => a + b) (product_apply h w r d) (row_apply (by decide) b broadcasts_S1x1024_S512x1024 r d))

/-- A branch's block at the stream's width. -/
def branch (y : FVec Ideal S512x512 .bf16) (w : FVec Ideal S1x512x1024 .bf16) : FVec Ideal S512x1024 .f32 :=
  matmul dot_S512x512_S512x1024_S512x1024_1_0_0_1_n_n none y (shapeCast S512x1024 w shapeCasts_S1x512x1024_S512x1024) (constant S512x1024 .f32 0x00000000#32)

theorem branch_apply (y : FVec Ideal S512x512 .bf16) (w : FVec Ideal S1x512x1024 .bf16) (r : Fin 512) (d : Fin 1024) :
    branch y w (ix2 r d) = ∑ e : Fin 512, y (ix2 r e) * w (ix3 (0 : Fin 1) e d) :=
  (product_apply y _ r d).trans (Finset.sum_congr rfl fun e _ => congrArg (y (ix2 r e) * ·) (slab_apply w e d))

/-- The normalized block. -/
theorem pay1_apply (x : FVec Ideal S512x1024 .f32) (g : FVec Ideal S1x1024 .f32) (r : Fin 512) (d : Fin 1024) :
    k0_pay1 (F := Ideal) x g (ix2 r d) = MergeSpec.pre (fun k => x (ix2 r k)) (fun k => g (ix2 (0 : Fin 1) k)) d :=
  congrArg₂ (fun a b : EReal => a * b)
    (norm_apply (by decide) x reduces_S512x1024_S512 shapeCasts_S512_S512x1 broadcasts_S512x1_S512x1024 r d)
    (row_apply (by decide) g broadcasts_S1x1024_S512x1024 r d)

/-- The three branches, gated and summed. -/
def merged (h : FVec Ideal S512x1024 .bf16) (w0 w1 w2 : FVec Ideal S1024x1024 .bf16) (b0 b1 b2 : FVec Ideal S1x1024 .f32)
    (y0 y1 y2 : FVec Ideal S512x512 .bf16) (p0 p1 p2 : FVec Ideal S1x512x1024 .bf16) : FVec Ideal S512x1024 .bf16 :=
  truncf .bf16 (addf (addf (mulf (gate h w0 b0) (branch y0 p0)) (mulf (gate h w1 b1) (branch y1 p1))) (mulf (gate h w2 b2) (branch y2 p2))) bitsLt_bf16_f32

/-- The body's stored block. -/
def block (x : FVec Ideal S512x1024 .f32) (gpre : FVec Ideal S1x1024 .f32) (w0 w1 w2 : FVec Ideal S1024x1024 .bf16) (b0 b1 b2 : FVec Ideal S1x1024 .f32)
    (y0 y1 y2 : FVec Ideal S512x512 .bf16) (p0 p1 p2 : FVec Ideal S1x512x1024 .bf16) (wo : FVec Ideal S1024x1024 .bf16) (gpost : FVec Ideal S1x1024 .f32) : FVec Ideal S512x1024 .f32 :=
  k0_pay4 (F := Ideal) x (k0_pay1 x gpre) (k0_pay2 x gpre w0 b0 y0 p0) (k0_pay3 x gpre w1 b1) y1 p1 w2 b2 y2 p2 wo gpost

theorem block_eq (x : FVec Ideal S512x1024 .f32) (gpre : FVec Ideal S1x1024 .f32) (w0 w1 w2 : FVec Ideal S1024x1024 .bf16) (b0 b1 b2 : FVec Ideal S1x1024 .f32)
    (y0 y1 y2 : FVec Ideal S512x512 .bf16) (p0 p1 p2 : FVec Ideal S1x512x1024 .bf16) (wo : FVec Ideal S1024x1024 .bf16) (gpost : FVec Ideal S1x1024 .f32) :
    block x gpre w0 w1 w2 b0 b1 b2 y0 y1 y2 p0 p1 p2 wo gpost
      = addf x (mulf (norm (matmul dot_S512x1024_S1024x1024_S512x1024_1_0_0_1_n_n none (merged (k0_pay1 x gpre) w0 w1 w2 b0 b1 b2 y0 y1 y2 p0 p1 p2) wo (constant S512x1024 .f32 0x00000000#32))
          reduces_S512x1024_S512 shapeCasts_S512_S512x1 broadcasts_S512x1_S512x1024) (broadcastTo S512x1024 gpost broadcasts_S1x1024_S512x1024)) := rfl

/-- **The body's block at row `r`, lane `d`.** -/
theorem block_apply (x : FVec Ideal S512x1024 .f32) (gpre : FVec Ideal S1x1024 .f32) (w0 w1 w2 : FVec Ideal S1024x1024 .bf16) (b0 b1 b2 : FVec Ideal S1x1024 .f32)
    (y0 y1 y2 : FVec Ideal S512x512 .bf16) (p0 p1 p2 : FVec Ideal S1x512x1024 .bf16) (wo : FVec Ideal S1024x1024 .bf16) (gpost : FVec Ideal S1x1024 .f32)
    (wg : Fin 1024 → Fin 3072 → EReal) (bg : Fin 3072 → EReal) (y : Fin 3 → Fin 512 → EReal) (wb : Fin 3 → Fin 512 → Fin 1024 → EReal) (r : Fin 512) (d : Fin 1024)
    (hw0 : ∀ e d, w0 (ix2 e d) = wg e (MergeSpec.lane 0 d)) (hw1 : ∀ e d, w1 (ix2 e d) = wg e (MergeSpec.lane 1 d)) (hw2 : ∀ e d, w2 (ix2 e d) = wg e (MergeSpec.lane 2 d))
    (hb0 : ∀ d, b0 (ix2 (0 : Fin 1) d) = bg (MergeSpec.lane 0 d)) (hb1 : ∀ d, b1 (ix2 (0 : Fin 1) d) = bg (MergeSpec.lane 1 d)) (hb2 : ∀ d, b2 (ix2 (0 : Fin 1) d) = bg (MergeSpec.lane 2 d))
    (hy0 : ∀ e, y0 (ix2 r e) = y 0 e) (hy1 : ∀ e, y1 (ix2 r e) = y 1 e) (hy2 : ∀ e, y2 (ix2 r e) = y 2 e)
    (hp0 : ∀ e d, p0 (ix3 (0 : Fin 1) e d) = wb 0 e d) (hp1 : ∀ e d, p1 (ix3 (0 : Fin 1) e d) = wb 1 e d) (hp2 : ∀ e d, p2 (ix3 (0 : Fin 1) e d) = wb 2 e d) :
    block x gpre w0 w1 w2 b0 b1 b2 y0 y1 y2 p0 p1 p2 wo gpost (ix2 r d)
      = MergeSpec.out (fun k => x (ix2 r k)) y (fun k => gpre (ix2 (0 : Fin 1) k)) wg bg wb (fun e k => wo (ix2 e k)) (fun k => gpost (ix2 (0 : Fin 1) k)) d := by
  have hg : ∀ (n : Fin 3) (w : FVec Ideal S1024x1024 .bf16) (b : FVec Ideal S1x1024 .f32), (∀ e d, w (ix2 e d) = wg e (MergeSpec.lane n d)) →
      (∀ d, b (ix2 (0 : Fin 1) d) = bg (MergeSpec.lane n d)) → ∀ d,
      gate (k0_pay1 x gpre) w b (ix2 r d) = MergeSpec.gate (fun k => x (ix2 r k)) (fun k => gpre (ix2 (0 : Fin 1) k)) wg bg n d := fun n w b hw hb d => by
    rw [gate_apply]
    exact congrArg Ideal.logistic (congrArg₂ (fun a b : EReal => a + b)
      (Finset.sum_congr rfl fun e _ => congrArg₂ (fun a b : EReal => a * b) (pay1_apply x gpre r e) (hw e d)) (hb d))
  have hz : ∀ (n : Fin 3) (v : FVec Ideal S512x512 .bf16) (p : FVec Ideal S1x512x1024 .bf16), (∀ e, v (ix2 r e) = y n e) →
      (∀ e d, p (ix3 (0 : Fin 1) e d) = wb n e d) → ∀ d, branch v p (ix2 r d) = MergeSpec.branch y wb n d := fun n v p hv hp d => by
    rw [branch_apply]
    exact Finset.sum_congr rfl fun e _ => congrArg₂ (fun a b : EReal => a * b) (hv e) (hp e d)
  have hm : ∀ d, merged (k0_pay1 x gpre) w0 w1 w2 b0 b1 b2 y0 y1 y2 p0 p1 p2 (ix2 r d)
      = MergeSpec.merged (fun k => x (ix2 r k)) y (fun k => gpre (ix2 (0 : Fin 1) k)) wg bg wb d := fun d =>
    congrArg₂ (fun a b : EReal => a + b) (congrArg₂ (fun a b : EReal => a + b)
      (congrArg₂ (fun a b : EReal => a * b) (hg 0 w0 b0 hw0 hb0 d) (hz 0 y0 p0 hy0 hp0 d))
      (congrArg₂ (fun a b : EReal => a * b) (hg 1 w1 b1 hw1 hb1 d) (hz 1 y1 p1 hy1 hp1 d)))
      (congrArg₂ (fun a b : EReal => a * b) (hg 2 w2 b2 hw2 hb2 d) (hz 2 y2 p2 hy2 hp2 d))
  rw [block_eq]
  refine congrArg (fun a : EReal => x (ix2 r d) + a) (congrArg₂ (fun a b : EReal => a * b) ?_ (row_apply (by decide) gpost broadcasts_S1x1024_S512x1024 r d))
  refine (norm_apply (by decide) _ reduces_S512x1024_S512 shapeCasts_S512_S512x1 broadcasts_S512x1_S512x1024 r d).trans (congrArg (rms · d) (funext fun k => ?_))
  exact (product_apply _ wo r k).trans (Finset.sum_congr rfl fun e _ => congrArg (fun a : EReal => a * wo (ix2 e k)) (hm e))

end Cert.MergeIdeal.Chunk

end
-- ==== Proof.MergeArray.lean ====
/-
  The merge kernel's result array after its run: `MergeSpec.array` of the argument arrays, index by index. A grid point
  stores one block of 512 tokens; the blocks tile the array.
-/
module

public import proofs.«01_k».proof.Proof.MergeChunk
public import proofs.«01_k».proof.Proof.Gen.MergeIdeal.Value

@[expose] public section

noncomputable section

namespace Cert.MergeIdeal.Array

open Cert.MergeIdeal Cert.MergeIdeal.Gen Cert.MergeIdeal.Chunk Idealize.ShloMosaic Idealize.ShloMosaic.TcCoe Idealize.ShloMosaic.ValueIdx
open Idealize.ShloMosaic.Pipeline (Dat)
open scoped BigOperators

/-- The body's stored block is the whole output block, at the blocks read whole and the weights read in parts. -/
theorem out_eq (x0 : (⟨S512x1024, .f32⟩ : BufTy).Contents (Elt Ideal)) (x1 x2 x3 : (⟨S512x512, .bf16⟩ : BufTy).Contents (Elt Ideal)) (x4 x9 : (⟨S1x1024, .f32⟩ : BufTy).Contents (Elt Ideal))
    (x5 : (⟨S1024x3072, .bf16⟩ : BufTy).Contents (Elt Ideal)) (x6 : (⟨S1x3072, .f32⟩ : BufTy).Contents (Elt Ideal)) (x7 : (⟨S3x512x1024, .bf16⟩ : BufTy).Contents (Elt Ideal))
    (x8 : (⟨S1024x1024, .bf16⟩ : BufTy).Contents (Elt Ideal)) :
    out0_10 (F := Ideal) x0 x1 x2 x3 x4 x5 x6 x7 x8 x9
      = block (View.ld x0 r0_0) (View.ld x4 r0_1) (View.ld x5 r0_2) (View.ld x5 r0_6) (View.ld x5 r0_9) (View.ld x6 r0_3) (View.ld x6 r0_7) (View.ld x6 r0_10)
          (View.ld x1 r0_4) (View.ld x2 r0_4) (View.ld x3 r0_4) (View.ld x7 r0_5) (View.ld x7 r0_8) (View.ld x7 r0_11) (View.ld x8 r0_12) (View.ld x9 r0_1) := by
  unfold out0_10 block
  refine View.canon_unit_zero (S := S512x1024) (Val := Elt Ideal) ?_ _ _
  funext a
  match a with
  | ⟨0, _⟩ => rfl
  | ⟨1, _⟩ => rfl

/-- A load of a part of a matrix reads the matrix at the part's offset. -/
theorem ld2_apply {s0 s1 n0 n1 : ℕ} {φ : EltTy} (x : (⟨⟨2, ![s0, s1]⟩, φ⟩ : BufTy).Contents (Elt Ideal)) (o0 o1 : ℕ)
    (inb : ∀ a, (![o0, o1] : Fin 2 → ℕ) a + (![n0, n1] : Fin 2 → ℕ) a ≤ (![s0, s1] : Fin 2 → ℕ) a) (r : Fin n0) (d : Fin n1) (R : Fin s0) (D : Fin s1)
    (hR : R.val = o0 + r.val) (hD : D.val = o1 + d.val) :
    View.ld (S := ⟨2, ![s0, s1]⟩) (e' := φ) (Val := Elt Ideal) x (Rect.unit (s := ⟨2, ![s0, s1]⟩) ![o0, o1] ![n0, n1] inb) (ix2 r d) = x (ix2 R D) := by
  refine congrArg x (funext fun a => Fin.ext ?_)
  match a with
  | ⟨0, _⟩ => show o0 + 1 * r.val = R.val; omega
  | ⟨1, _⟩ => show o1 + 1 * d.val = D.val; omega

/-- A load of one slab of a stack of matrices. -/
theorem ld3_apply (x : (⟨S3x512x1024, .bf16⟩ : BufTy).Contents (Elt Ideal)) (n : Fin 3) (inb : ∀ a, (![n.val, 0, 0] : Fin 3 → ℕ) a + S1x512x1024.size a ≤ S3x512x1024.size a)
    (e : Fin 512) (d : Fin 1024) :
    View.ld (S := S3x512x1024) (e' := .bf16) (Val := Elt Ideal) x (Rect.unit (s := S3x512x1024) ![n.val, 0, 0] S1x512x1024.size inb) (ix3 (0 : Fin 1) e d) = x (ix3 n e d) := by
  refine congrArg x (funext fun a => Fin.ext ?_)
  match a with
  | ⟨0, _⟩ => show n.val + 1 * 0 = n.val; omega
  | ⟨1, _⟩ => show 0 + 1 * e.val = e.val; omega
  | ⟨2, _⟩ => show 0 + 1 * d.val = d.val; omega

/-- **The body's output block.** -/
theorem out_apply (x0 : (⟨S512x1024, .f32⟩ : BufTy).Contents (Elt Ideal)) (x1 x2 x3 : (⟨S512x512, .bf16⟩ : BufTy).Contents (Elt Ideal)) (x4 x9 : (⟨S1x1024, .f32⟩ : BufTy).Contents (Elt Ideal))
    (x5 : (⟨S1024x3072, .bf16⟩ : BufTy).Contents (Elt Ideal)) (x6 : (⟨S1x3072, .f32⟩ : BufTy).Contents (Elt Ideal)) (x7 : (⟨S3x512x1024, .bf16⟩ : BufTy).Contents (Elt Ideal))
    (x8 : (⟨S1024x1024, .bf16⟩ : BufTy).Contents (Elt Ideal)) (r : Fin 512) (d : Fin 1024) :
    out0_10 (F := Ideal) x0 x1 x2 x3 x4 x5 x6 x7 x8 x9 (ix2 r d)
      = MergeSpec.out (fun k => x0 (ix2 r k)) ![fun e => x1 (ix2 r e), fun e => x2 (ix2 r e), fun e => x3 (ix2 r e)] (fun k => x4 (ix2 (0 : Fin 1) k)) (fun e k => x5 (ix2 e k))
          (fun k => x6 (ix2 (0 : Fin 1) k)) (fun n e k => x7 (ix3 n e k)) (fun e k => x8 (ix2 e k)) (fun k => x9 (ix2 (0 : Fin 1) k)) d := by
  have h0 : View.ld x0 r0_0 = x0 := View.ld_unit_zero (S := S512x1024) (by funext a; match a with | ⟨0, _⟩ => rfl | ⟨1, _⟩ => rfl) _ x0
  have h1 : View.ld x1 r0_4 = x1 := View.ld_unit_zero (S := S512x512) (by funext a; match a with | ⟨0, _⟩ => rfl | ⟨1, _⟩ => rfl) _ x1
  have h2 : View.ld x2 r0_4 = x2 := View.ld_unit_zero (S := S512x512) (by funext a; match a with | ⟨0, _⟩ => rfl | ⟨1, _⟩ => rfl) _ x2
  have h3 : View.ld x3 r0_4 = x3 := View.ld_unit_zero (S := S512x512) (by funext a; match a with | ⟨0, _⟩ => rfl | ⟨1, _⟩ => rfl) _ x3
  have h4 : View.ld x4 r0_1 = x4 := View.ld_unit_zero (S := S1x1024) (by funext a; match a with | ⟨0, _⟩ => rfl | ⟨1, _⟩ => rfl) _ x4
  have h8 : View.ld x8 r0_12 = x8 := View.ld_unit_zero (S := S1024x1024) (by funext a; match a with | ⟨0, _⟩ => rfl | ⟨1, _⟩ => rfl) _ x8
  have h9 : View.ld x9 r0_1 = x9 := View.ld_unit_zero (S := S1x1024) (by funext a; match a with | ⟨0, _⟩ => rfl | ⟨1, _⟩ => rfl) _ x9
  rw [out_eq, h0, h1, h2, h3, h4, h8, h9]
  exact block_apply x0 x4 _ _ _ _ _ _ x1 x2 x3 _ _ _ x8 x9 (fun e k => x5 (ix2 e k)) (fun k => x6 (ix2 (0 : Fin 1) k))
    ![fun e => x1 (ix2 r e), fun e => x2 (ix2 r e), fun e => x3 (ix2 r e)] (fun n e k => x7 (ix3 n e k)) r d
    (fun e d => ld2_apply x5 0 0 _ e d e (MergeSpec.lane 0 d) (by omega) rfl) (fun e d => ld2_apply x5 0 1024 _ e d e (MergeSpec.lane 1 d) (by omega) rfl)
    (fun e d => ld2_apply x5 0 2048 _ e d e (MergeSpec.lane 2 d) (by omega) rfl)
    (fun d => ld2_apply x6 0 0 _ 0 d 0 (MergeSpec.lane 0 d) rfl rfl) (fun d => ld2_apply x6 0 1024 _ 0 d 0 (MergeSpec.lane 1 d) rfl rfl)
    (fun d => ld2_apply x6 0 2048 _ 0 d 0 (MergeSpec.lane 2 d) rfl rfl)
    (fun _ => rfl) (fun _ => rfl) (fun _ => rfl)
    (fun e d => ld3_apply x7 0 _ e d) (fun e d => ld3_apply x7 1 _ e d) (fun e d => ld3_apply x7 2 _ e d)

/-- Where each moving window's block sits at a grid point. -/
theorem idx_facts : ∀ t : Fin cfg0.N, (win0_10.index t 0 = t.val ∧ win0_10.index t 1 = 0) ∧ (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, (win0_10.index t 0 = t.val ∧ win0_10.index t 1 = 0) ∧ (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))

/-- The parameters' windows do not move. -/
theorem idx_still : ∀ t : Fin cfg0.N, (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0) ∧ (win0_9.index t 0 = 0 ∧ win0_9.index t 1 = 0) :=
  (by decide +kernel : ∀ t : Fin grid0.N, (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0) ∧ (win0_9.index t 0 = 0 ∧ win0_9.index t 1 = 0))

variable (m : (ℓ : Loc nD τ sig) → Buf (Elt Ideal) ℓ) (c : Dev nD)

/-- The result array as one function of the arguments. -/
def result : Buf (Elt Ideal) ((c : Thread nD τ).loc main_v0) := fun i =>
  MergeSpec.array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)

theorem lt_N (t : Fin cfg0.N) : t.val < 64 := t.isLt

theorem iblk0_apply (t : Fin cfg0.N) (r : Fin 512) (X : Fin 1024) :
    iblk m c 0 t (ix2 r X) = m ((c : Thread nD τ).loc main_arg0) (ix2 ⟨512 * t.val + r.val, by have := lt_N t; have := r.isLt; omega⟩ X) := by
  obtain ⟨-, ⟨ha, hb⟩, -⟩ := idx_facts t
  refine congrArg (m ((c : Thread nD τ).loc main_arg0)) (funext fun a => Fin.ext ?_)
  match a with
  | ⟨0, _⟩ => show win0_0.index t 0 * 512 + 1 * r.val = _; rw [ha]; show _ = 512 * t.val + r.val; omega
  | ⟨1, _⟩ => show win0_0.index t 1 * 1024 + 1 * X.val = X.val; rw [hb]; omega

theorem iblk1_apply (t : Fin cfg0.N) (r : Fin 512) (X : Fin 512) :
    iblk m c 1 t (ix2 r X) = m ((c : Thread nD τ).loc main_arg1) (ix2 ⟨512 * t.val + r.val, by have := lt_N t; have := r.isLt; omega⟩ X) := by
  obtain ⟨-, -, ⟨ha, hb⟩, -⟩ := idx_facts t
  refine congrArg (m ((c : Thread nD τ).loc main_arg1)) (funext fun a => Fin.ext ?_)
  match a with
  | ⟨0, _⟩ => show win0_1.index t 0 * 512 + 1 * r.val = _; rw [ha]; show _ = 512 * t.val + r.val; omega
  | ⟨1, _⟩ => show win0_1.index t 1 * 512 + 1 * X.val = X.val; rw [hb]; omega

theorem iblk2_apply (t : Fin cfg0.N) (r : Fin 512) (X : Fin 512) :
    iblk m c 2 t (ix2 r X) = m ((c : Thread nD τ).loc main_arg2) (ix2 ⟨512 * t.val + r.val, by have := lt_N t; have := r.isLt; omega⟩ X) := by
  obtain ⟨-, -, -, ⟨ha, hb⟩, -⟩ := idx_facts t
  refine congrArg (m ((c : Thread nD τ).loc main_arg2)) (funext fun a => Fin.ext ?_)
  match a with
  | ⟨0, _⟩ => show win0_2.index t 0 * 512 + 1 * r.val = _; rw [ha]; show _ = 512 * t.val + r.val; omega
  | ⟨1, _⟩ => show win0_2.index t 1 * 512 + 1 * X.val = X.val; rw [hb]; omega

theorem iblk3_apply (t : Fin cfg0.N) (r : Fin 512) (X : Fin 512) :
    iblk m c 3 t (ix2 r X) = m ((c : Thread nD τ).loc main_arg3) (ix2 ⟨512 * t.val + r.val, by have := lt_N t; have := r.isLt; omega⟩ X) := by
  obtain ⟨-, -, -, -, ha, hb⟩ := idx_facts t
  refine congrArg (m ((c : Thread nD τ).loc main_arg3)) (funext fun a => Fin.ext ?_)
  match a with
  | ⟨0, _⟩ => show win0_3.index t 0 * 512 + 1 * r.val = _; rw [ha]; show _ = 512 * t.val + r.val; omega
  | ⟨1, _⟩ => show win0_3.index t 1 * 512 + 1 * X.val = X.val; rw [hb]; omega

theorem iblk4_apply (t : Fin cfg0.N) (r : Fin 1) (X : Fin 1024) : iblk m c 4 t (ix2 r X) = m ((c : Thread nD τ).loc main_arg4) (ix2 r X) := by
  obtain ⟨⟨ha, hb⟩, -⟩ := idx_still t
  refine congrArg (m ((c : Thread nD τ).loc main_arg4)) (funext fun a => Fin.ext ?_)
  match a with
  | ⟨0, _⟩ => show win0_4.index t 0 * 1 + 1 * r.val = r.val; rw [ha]; omega
  | ⟨1, _⟩ => show win0_4.index t 1 * 1024 + 1 * X.val = X.val; rw [hb]; omega

theorem iblk5_apply (t : Fin cfg0.N) (r : Fin 1024) (X : Fin 3072) : iblk m c 5 t (ix2 r X) = m ((c : Thread nD τ).loc main_arg5) (ix2 r X) := by
  obtain ⟨-, ⟨ha, hb⟩, -⟩ := idx_still t
  refine congrArg (m ((c : Thread nD τ).loc main_arg5)) (funext fun a => Fin.ext ?_)
  match a with
  | ⟨0, _⟩ => show win0_5.index t 0 * 1024 + 1 * r.val = r.val; rw [ha]; omega
  | ⟨1, _⟩ => show win0_5.index t 1 * 3072 + 1 * X.val = X.val; rw [hb]; omega

theorem iblk6_apply (t : Fin cfg0.N) (r : Fin 1) (X : Fin 3072) : iblk m c 6 t (ix2 r X) = m ((c : Thread nD τ).loc main_arg6) (ix2 r X) := by
  obtain ⟨-, -, ⟨ha, hb⟩, -⟩ := idx_still t
  refine congrArg (m ((c : Thread nD τ).loc main_arg6)) (funext fun a => Fin.ext ?_)
  match a with
  | ⟨0, _⟩ => show win0_6.index t 0 * 1 + 1 * r.val = r.val; rw [ha]; omega
  | ⟨1, _⟩ => show win0_6.index t 1 * 3072 + 1 * X.val = X.val; rw [hb]; omega

theorem iblk8_apply (t : Fin cfg0.N) (r : Fin 1024) (X : Fin 1024) : iblk m c 8 t (ix2 r X) = m ((c : Thread nD τ).loc main_arg8) (ix2 r X) := by
  obtain ⟨-, -, -, -, ⟨ha, hb⟩, -⟩ := idx_still t
  refine congrArg (m ((c : Thread nD τ).loc main_arg8)) (funext fun a => Fin.ext ?_)
  match a with
  | ⟨0, _⟩ => show win0_8.index t 0 * 1024 + 1 * r.val = r.val; rw [ha]; omega
  | ⟨1, _⟩ => show win0_8.index t 1 * 1024 + 1 * X.val = X.val; rw [hb]; omega

theorem iblk9_apply (t : Fin cfg0.N) (r : Fin 1) (X : Fin 1024) : iblk m c 9 t (ix2 r X) = m ((c : Thread nD τ).loc main_arg9) (ix2 r X) := by
  obtain ⟨-, -, -, -, -, ha, hb⟩ := idx_still t
  refine congrArg (m ((c : Thread nD τ).loc main_arg9)) (funext fun a => Fin.ext ?_)
  match a with
  | ⟨0, _⟩ => show win0_9.index t 0 * 1 + 1 * r.val = r.val; rw [ha]; omega
  | ⟨1, _⟩ => show win0_9.index t 1 * 1024 + 1 * X.val = X.val; rw [hb]; omega

theorem iblk7_apply (t : Fin cfg0.N) (n : Fin 3) (e : Fin 512) (X : Fin 1024) : iblk m c 7 t (ix3 n e X) = m ((c : Thread nD τ).loc main_arg7) (ix3 n e X) := by
  obtain ⟨-, -, -, ⟨ha, hb, hc⟩, -⟩ := idx_still t
  refine congrArg (m ((c : Thread nD τ).loc main_arg7)) (funext fun a => Fin.ext ?_)
  match a with
  | ⟨0, _⟩ => show win0_7.index t 0 * 3 + 1 * n.val = n.val; rw [ha]; omega
  | ⟨1, _⟩ => show win0_7.index t 1 * 512 + 1 * e.val = e.val; rw [hb]; omega
  | ⟨2, _⟩ => show win0_7.index t 2 * 1024 + 1 * X.val = X.val; rw [hc]; omega

/-- The body's output block at a point, in terms of the argument arrays. -/
theorem point_apply (t : Fin cfg0.N) (r : Fin 512) (X : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r X)
      = MergeSpec.array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨512 * t.val + r.val, by have := lt_N t; have := r.isLt; omega⟩ X := by
  rw [out_apply]
  unfold MergeSpec.array
  have e0 : (fun k => iblk m c 0 t (ix2 r k)) = fun k => m ((c : Thread nD τ).loc main_arg0) (ix2 ⟨512 * t.val + r.val, by have := lt_N t; have := r.isLt; omega⟩ k) := funext fun k => iblk0_apply m c t r k
  have e1 : (fun k => iblk m c 1 t (ix2 r k)) = fun k => m ((c : Thread nD τ).loc main_arg1) (ix2 ⟨512 * t.val + r.val, by have := lt_N t; have := r.isLt; omega⟩ k) := funext fun k => iblk1_apply m c t r k
  have e2 : (fun k => iblk m c 2 t (ix2 r k)) = fun k => m ((c : Thread nD τ).loc main_arg2) (ix2 ⟨512 * t.val + r.val, by have := lt_N t; have := r.isLt; omega⟩ k) := funext fun k => iblk2_apply m c t r k
  have e3 : (fun k => iblk m c 3 t (ix2 r k)) = fun k => m ((c : Thread nD τ).loc main_arg3) (ix2 ⟨512 * t.val + r.val, by have := lt_N t; have := r.isLt; omega⟩ k) := funext fun k => iblk3_apply m c t r k
  have e4 : (fun k => iblk m c 4 t (ix2 (0 : Fin 1) k)) = fun k => m ((c : Thread nD τ).loc main_arg4) (ix2 (0 : Fin 1) k) := funext fun k => iblk4_apply m c t 0 k
  have e5 : (fun e k => iblk m c 5 t (ix2 e k)) = fun e k => m ((c : Thread nD τ).loc main_arg5) (ix2 e k) := funext fun e => funext fun k => iblk5_apply m c t e k
  have e6 : (fun k => iblk m c 6 t (ix2 (0 : Fin 1) k)) = fun k => m ((c : Thread nD τ).loc main_arg6) (ix2 (0 : Fin 1) k) := funext fun k => iblk6_apply m c t 0 k
  have e7 : (fun n e k => iblk m c 7 t (ix3 n e k)) = fun n e k => m ((c : Thread nD τ).loc main_arg7) (ix3 n e k) := funext fun n => funext fun e => funext fun k => iblk7_apply m c t n e k
  have e8 : (fun e k => iblk m c 8 t (ix2 e k)) = fun e k => m ((c : Thread nD τ).loc main_arg8) (ix2 e k) := funext fun e => funext fun k => iblk8_apply m c t e k
  have e9 : (fun k => iblk m c 9 t (ix2 (0 : Fin 1) k)) = fun k => m ((c : Thread nD τ).loc main_arg9) (ix2 (0 : Fin 1) k) := funext fun k => iblk9_apply m c t 0 k
  rw [e0, e1, e2, e3, e4, e5, e6, e7, e8, e9]

/-- What a point writes back is its block of the result. -/
theorem flushed_eq (t : Fin cfg0.N) : (dats m 0 c).flushed 10 t = ((cfg0.win 10).blk t).view.read (Elt Ideal) (result m c) := by
  rw [Value.flushed10]
  have key : ∀ (r : Fin 512) (X : Fin 1024), out0_10 (iblk m c 0 t) (iblk m c 1 t) (iblk m c 2 t) (iblk m c 3 t) (iblk m c 4 t) (iblk m c 5 t) (iblk m c 6 t) (iblk m c 7 t) (iblk m c 8 t) (iblk m c 9 t) (ix2 r X)
      = ((cfg0.win 10).blk t).view.read (Elt Ideal) (result m c) (ix2 r X) := fun r X => by
    have ht := lt_N t
    have hr := r.isLt
    refine (point_apply m c t r X).trans ?_
    obtain ⟨⟨ha, hb⟩, -⟩ := idx_facts t
    refine (congrArg₂ (MergeSpec.array _ _ _ _ _ _ _ _ _ _) (Fin.ext ?_) (Fin.ext ?_)).symm
    · show win0_10.index t 0 * 512 + 1 * r.val = 512 * t.val + r.val; rw [ha]; omega
    · show win0_10.index t 1 * 1024 + 1 * X.val = X.val; rw [hb]; omega
  funext y
  have hy : y = (ix2 (y 0) (y 1) : S512x1024.Idx) := eq_ix2 (n0 := 512) (n1 := 1024) y
  exact (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans
    ((key (y 0) (y 1)).trans (congrArg (((cfg0.win 10).blk t).view.read (Elt Ideal) (result m c)) hy.symm))

theorem mem_blk (t : Fin cfg0.N) (i : S32768x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v0).slice (win0_10.rect t)).set ↔ _
  rw [View.set_slice_whole, Rect.mem_set_unit]
  exact Iff.rfl

/-- **The result array after the run.** -/
theorem array_eq : (dats m 0 c).arrAt 10 cfg0.N = result m c := by
  refine (dats m 0 c).arrAt_eq_of_cover 10 (result m c) (fun t _ => flushed_eq m c t) fun i => ?_
  have h0 : (i 0).val < 32768 := (i 0).isLt
  have h1 : (i 1).val < 1024 := (i 1).isLt
  let t : Fin cfg0.N := ⟨(i 0).val / 512, by show _ < 64; omega⟩
  obtain ⟨⟨ha, hb⟩, -⟩ := idx_facts t
  refine ⟨t, flush0_10 t, ?_⟩
  rw [mem_blk]
  intro a
  match a with
  | ⟨0, _⟩ =>
    show win0_10.index t 0 * 512 ≤ (i 0).val ∧ (i 0).val < win0_10.index t 0 * 512 + 512
    rw [ha]; show (i 0).val / 512 * 512 ≤ _ ∧ _ < (i 0).val / 512 * 512 + 512; omega
  | ⟨1, _⟩ =>
    show win0_10.index t 1 * 1024 ≤ (i 1).val ∧ (i 1).val < win0_10.index t 1 * 1024 + 1024
    rw [hb]; omega

end Cert.MergeIdeal.Array

end
-- ==== Proof.MergeRef.lean ====
/-
  The merge reference's result at an index: `MergeSpec.array` of its arguments.
-/
module

public import proofs.«01_k».proof.Proof.MergeSpec
public import proofs.«01_k».proof.Proof.Gen.MergeRefIdeal.Read

@[expose] public section

noncomputable section

namespace Cert.MergeRefIdeal.Array

open Cert.MergeRefIdeal Cert.MergeRefIdeal.Gen Cert.MergeRefIdeal.Read Idealize.ShloMosaic Idealize.ShloMosaic.TcCoe Idealize.ShloMosaic.ValueIdx Cert.RowNorm
open scoped BigOperators

variable (x0 : (⟨S32768x1024, .f32⟩ : BufTy).Contents (Elt Ideal)) (x1 x2 x3 : (⟨S32768x512, .bf16⟩ : BufTy).Contents (Elt Ideal)) (x4 : (⟨S1x1024, .f32⟩ : BufTy).Contents (Elt Ideal))
  (x5 : (⟨S1024x3072, .bf16⟩ : BufTy).Contents (Elt Ideal)) (x6 : (⟨S1x3072, .f32⟩ : BufTy).Contents (Elt Ideal)) (x7 : (⟨S3x512x1024, .bf16⟩ : BufTy).Contents (Elt Ideal))
  (x8 : (⟨S1024x1024, .bf16⟩ : BufTy).Contents (Elt Ideal)) (x9 : (⟨S1x1024, .f32⟩ : BufTy).Contents (Elt Ideal))

theorem zero_word : (FloatOps.ofBits .f32 0x00000000#32 : Ideal .f32) = (0 : EReal) := Ideal.ofBits_zero_f32

/-- The normalized row. -/
theorem pre_apply (R : Fin 32768) (d : Fin 1024) :
    val_main_v11 (F := Ideal) x0 x4 (ix2 R d) = MergeSpec.pre (fun k => x0 (ix2 R k)) (fun k => x4 (ix2 (0 : Fin 1) k)) d := by
  rw [val_main_v11_apply, val_main_v9_apply, val_main_v8_apply, val_main_v7_apply, val_main_v6_apply, val_main_v5_apply, val_main_v4_apply, val_main_v3_apply, val_main_v2_apply,
    val_main_v1_apply, val_main_v10_apply, val_main_cst_apply, val_main_cst_0_apply, val_main_cst_1_apply, zero_word, zero_add]
  refine congrArg₂ (fun a b : EReal => a * b) (congrArg (fun a : EReal => x0 (ix2 R d) * a) ?_) (congrArg x4 (funext fun a => ?_))
  · refine congrArg (fun s : EReal => Ideal.rsqrt (Ideal.div s (Ideal.ofBits .f32 0x44800000#32) + Ideal.ofBits .f32 0x358637BD#32)) (Finset.sum_congr rfl fun k _ => ?_)
    rw [val_main_v0_apply]
    refine congrArg (fun i => (x0 i * x0 i : EReal)) (funext fun a => ?_)
    match a with
    | ⟨0, _⟩ => rfl
    | ⟨1, _⟩ => rfl
  · match a with
    | ⟨0, _⟩ => rfl
    | ⟨1, _⟩ => rfl

/-- A gate. -/
theorem gate_apply (R : Fin 32768) (n : Fin 3) (d : Fin 1024) :
    val_main_v30 (F := Ideal) x0 x4 x5 x6 (ix3 R n d)
      = MergeSpec.gate (fun k => x0 (ix2 R k)) (fun k => x4 (ix2 (0 : Fin 1) k)) (fun e k => x5 (ix2 e k)) (fun k => x6 (ix2 (0 : Fin 1) k)) n d := by
  have e : idx_main_v30 (ix3 R n d) = ix2 R (MergeSpec.lane n d) := funext fun a => Fin.ext (by
    have hR := R.isLt; have hn := n.isLt; have hd := d.isLt
    match a with
    | ⟨0, _⟩ => show ((R.val * 3 + n.val) * 1024 + d.val) / 3072 = R.val; omega
    | ⟨1, _⟩ => show ((R.val * 3 + n.val) * 1024 + d.val) % 3072 = n.val * 1024 + d.val; omega)
  have h1 : (FloatOps.ofBits .f32 0x3F800000#32 : Ideal .f32) = (1 : EReal) := Ideal.ofBits_one_f32
  rw [val_main_v30_apply, e, val_main_v29_apply, val_main_v28_apply, val_main_v27_apply, val_main_v26_apply, val_main_v25_apply, val_main_v24_apply, val_main_v23_apply, val_main_v22_apply, val_main_v13_apply,
    val_main_cst_2_apply, val_main_cst_3_apply, h1]
  refine congrArg Ideal.logistic (congrArg₂ (fun a b : EReal => a + b) (Finset.sum_congr rfl fun k _ => ?_) (congrArg x6 (funext fun a => ?_)))
  · rw [val_main_v12_apply]
    refine congrArg₂ (fun a b : EReal => a * b) ((congrArg (val_main_v11 (F := Ideal) x0 x4) (funext fun a => ?_)).trans (pre_apply x0 x4 R k)) (congrArg x5 (funext fun a => ?_))
    · match a with
      | ⟨0, _⟩ => rfl
      | ⟨1, _⟩ => rfl
    · match a with
      | ⟨0, _⟩ => rfl
      | ⟨1, _⟩ => rfl
  · match a with
    | ⟨0, _⟩ => rfl
    | ⟨1, _⟩ => rfl

/-- The three branches side by side. -/
theorem stack_apply (R : Fin 32768) (n : Fin 3) (e : Fin 512) :
    val_main_v17 (F := Ideal) x1 x2 x3 (ix3 R n e) = (![fun e => x1 (ix2 R e), fun e => x2 (ix2 R e), fun e => x3 (ix2 R e)] : Fin 3 → Fin 512 → EReal) n e := by
  let f : Fin 3 → S32768x1x512.Idx → EReal := ![val_main_v14 (F := Ideal) x1, val_main_v15 (F := Ideal) x2, val_main_v16 (F := Ideal) x3]
  have h : val_main_v17 (F := Ideal) x1 x2 x3 (ix3 R n e) = f n (ix3 R (0 : Fin 1) e) :=
    concatenate_ofFn_unit_apply (t := S32768x3x512) (s₁ := S32768x1x512) 1 f concatenates_S32768x1x512_S32768x1x512_S32768x1x512_S32768x3x512_d1 rfl rfl (ix3 R n e) n rfl (ix3 R (0 : Fin 1) e)
      (fun b hb => match b, hb with | ⟨0, _⟩, _ => rfl | ⟨1, _⟩, hb => absurd rfl hb | ⟨2, _⟩, _ => rfl)
  rw [h]
  match n with
  | ⟨0, _⟩ => exact (val_main_v14_apply x1 _).trans (congrArg x1 (funext fun a => by match a with | ⟨0, _⟩ => rfl | ⟨1, _⟩ => rfl))
  | ⟨1, _⟩ => exact (val_main_v15_apply x2 _).trans (congrArg x2 (funext fun a => by match a with | ⟨0, _⟩ => rfl | ⟨1, _⟩ => rfl))
  | ⟨2, _⟩ => exact (val_main_v16_apply x3 _).trans (congrArg x3 (funext fun a => by match a with | ⟨0, _⟩ => rfl | ⟨1, _⟩ => rfl))

/-- A branch at the stream's width. -/
theorem branch_apply (R : Fin 32768) (n : Fin 3) (d : Fin 1024) :
    val_main_v21 (F := Ideal) x1 x2 x3 x7 (ix3 R n d)
      = MergeSpec.branch ![fun e => x1 (ix2 R e), fun e => x2 (ix2 R e), fun e => x3 (ix2 R e)] (fun n e k => x7 (ix3 n e k)) n d := by
  rw [val_main_v21_apply, val_main_v20_apply]
  refine Finset.sum_congr rfl fun e _ => ?_
  rw [val_main_v19_apply, val_main_v18_apply]
  refine (mul_comm (_ : EReal) _).trans (congrArg₂ (fun a b : EReal => a * b) ((congrArg (val_main_v17 (F := Ideal) x1 x2 x3) (funext fun a => ?_)).trans (stack_apply x1 x2 x3 R n e)) (congrArg x7 (funext fun a => ?_)))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The gated branches' sum. -/
theorem merged_apply (R : Fin 32768) (d : Fin 1024) :
    val_main_v32 (F := Ideal) x0 x1 x2 x3 x4 x5 x6 x7 (ix2 R d)
      = MergeSpec.merged (fun k => x0 (ix2 R k)) ![fun e => x1 (ix2 R e), fun e => x2 (ix2 R e), fun e => x3 (ix2 R e)] (fun k => x4 (ix2 (0 : Fin 1) k)) (fun e k => x5 (ix2 e k))
          (fun k => x6 (ix2 (0 : Fin 1) k)) (fun n e k => x7 (ix3 n e k)) d := by
  rw [val_main_v32_apply, val_main_cst_4_apply, zero_word, zero_add]
  have h : ∀ n : Fin 3, val_main_v31 (F := Ideal) x0 x1 x2 x3 x4 x5 x6 x7 (idx_main_v32 (ix2 R d) n)
      = MergeSpec.gate (fun k => x0 (ix2 R k)) (fun k => x4 (ix2 (0 : Fin 1) k)) (fun e k => x5 (ix2 e k)) (fun k => x6 (ix2 (0 : Fin 1) k)) n d
        * MergeSpec.branch ![fun e => x1 (ix2 R e), fun e => x2 (ix2 R e), fun e => x3 (ix2 R e)] (fun n e k => x7 (ix3 n e k)) n d := fun n => by
    have e : idx_main_v32 (ix2 R d) n = ix3 R n d := funext fun a => by
      match a with
      | ⟨0, _⟩ => rfl
      | ⟨1, _⟩ => rfl
      | ⟨2, _⟩ => rfl
    rw [e, val_main_v31_apply, gate_apply, branch_apply]
    rfl
  exact (Finset.sum_congr rfl fun n _ => h n).trans (Fin.sum_univ_three _)

/-- The sum, mixed. -/
theorem mixed_apply (R : Fin 32768) (d : Fin 1024) :
    val_main_v34 (F := Ideal) x0 x1 x2 x3 x4 x5 x6 x7 x8 (ix2 R d)
      = MergeSpec.mixed (fun k => x0 (ix2 R k)) ![fun e => x1 (ix2 R e), fun e => x2 (ix2 R e), fun e => x3 (ix2 R e)] (fun k => x4 (ix2 (0 : Fin 1) k)) (fun e k => x5 (ix2 e k))
          (fun k => x6 (ix2 (0 : Fin 1) k)) (fun n e k => x7 (ix3 n e k)) (fun e k => x8 (ix2 e k)) d := by
  rw [val_main_v34_apply]
  refine Finset.sum_congr rfl fun e _ => ?_
  rw [val_main_v33_apply]
  refine congrArg₂ (fun a b : EReal => a * b) ((congrArg (val_main_v32 (F := Ideal) x0 x1 x2 x3 x4 x5 x6 x7) (funext fun a => ?_)).trans (merged_apply x0 x1 x2 x3 x4 x5 x6 x7 R e)) (congrArg x8 (funext fun a => ?_))
  · match a with
    | ⟨0, _⟩ => rfl
    | ⟨1, _⟩ => rfl
  · match a with
    | ⟨0, _⟩ => rfl
    | ⟨1, _⟩ => rfl

/-- **The reference's result.** -/
theorem result_apply (i : S32768x1024.Idx) :
    val_main_v47 (F := Ideal) x0 x1 x2 x3 x4 x5 x6 x7 x8 x9 i = MergeSpec.array x0 x1 x2 x3 x4 x5 x6 x7 x8 x9 (i 0) (i 1) := by
  have key : ∀ (R : Fin 32768) (d : Fin 1024), val_main_v47 (F := Ideal) x0 x1 x2 x3 x4 x5 x6 x7 x8 x9 (ix2 R d) = MergeSpec.array x0 x1 x2 x3 x4 x5 x6 x7 x8 x9 R d := fun R d => by
    rw [val_main_v47_apply, val_main_v46_apply, val_main_v44_apply, val_main_v43_apply, val_main_v42_apply, val_main_v41_apply, val_main_v40_apply, val_main_v39_apply, val_main_v38_apply,
      val_main_v37_apply, val_main_v36_apply, val_main_v45_apply, val_main_cst_5_apply, val_main_cst_6_apply, val_main_cst_7_apply, zero_word, zero_add, mixed_apply]
    refine congrArg (fun a : EReal => x0 (ix2 R d) + a) (congrArg₂ (fun a b : EReal => a * b) (congrArg (fun a : EReal => _ * a) ?_) (congrArg x9 (funext fun a => ?_)))
    · refine congrArg (fun s : EReal => Ideal.rsqrt (Ideal.div s (Ideal.ofBits .f32 0x44800000#32) + Ideal.ofBits .f32 0x358637BD#32)) (Finset.sum_congr rfl fun k _ => ?_)
      rw [val_main_v35_apply]
      have e : idx_main_v36 (idx_main_v37 (idx_main_v43 (ix2 R d))) k = ix2 R k := funext fun a => by
        match a with
        | ⟨0, _⟩ => rfl
        | ⟨1, _⟩ => rfl
      rw [e, mixed_apply]
      rfl
    · match a with
      | ⟨0, _⟩ => rfl
      | ⟨1, _⟩ => rfl
  have hi : i = (ix2 (i 0) (i 1) : S32768x1024.Idx) := eq_ix2 (n0 := 32768) (n1 := 1024) i
  exact (congrArg (val_main_v47 (F := Ideal) x0 x1 x2 x3 x4 x5 x6 x7 x8 x9) hi).trans (key (i 0) (i 1))

end Cert.MergeRefIdeal.Array

end
-- ==== Proof.MergeClaims.lean ====
/-
  The claims about the merge of the three branches: its frames, and that the kernel and the reference compute one
  function of any arguments.
-/
module

public import proofs.«01_k».proof.Proof.MergeArray
public import proofs.«01_k».proof.Proof.MergeRef
public import proofs.«01_k».proof.Proof.Gen.Merge.Frame
public import proofs.«01_k».proof.Defs

@[expose] public section

noncomputable section

namespace Cert.MergeSpec

open Idealize.ShloMosaic Idealize.SL.Sem

theorem frame_kernel : Cert.quiescent_Merge := fun m ρ _ => Cert.Merge.Gen.frame m ρ
theorem frame_ideal : Cert.quiescent_MergeIdeal := fun m ρ _ => Cert.MergeIdeal.Gen.frame m ρ

/-- The reference's arguments end unchanged; it declares no semaphore. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- **The merge**: the kernel's result is the reference's. -/
theorem algebraic : Cert.algebraic_MergeIdeal_MergeRefIdeal := by
  intro m ρ m' ρ' _ hagree
  refine ⟨fun c => Cert.MergeIdeal.Array.result m c, ?_, ?_⟩
  · exact (θ_run Cert.MergeIdeal.defs _ _).mono (fun r h c => ⟨(h c).1.trans (Cert.MergeIdeal.Array.array_eq m c), (h c).2⟩)
      (Cert.MergeIdeal.Value.run_blocks (F := Ideal) m ρ)
  · refine (θ_run Cert.MergeRefIdeal.defs _ _).mono (fun r h c => ⟨(h c).1.trans ?_, (h c).2⟩) (Cert.MergeRefIdeal.Value.run (F := Ideal) m' ρ')
    rw [Cert.MergeRefIdeal.Read.val_main_v47_eq]
    obtain ⟨h0, h1, h2, h3, h4, h5, h6, h7, h8, h9⟩ := hagree c
    refine (congr (congr (congr (congr (congr (congr (congr (congr (congrArg₂ _ h0 h1) h2) h3) h4) h5) h6) h7) h8) h9).trans ?_
    funext i
    exact Cert.MergeRefIdeal.Array.result_apply _ _ _ _ _ _ _ _ _ _ i

end Cert.MergeSpec

end
-- ==== Proof.FfnSpec.lean ====
/-
  The gated feed-forward of a stream of 16 sequences of 2048 tokens as a function of the arguments. A token's row is
  normalized and projected up; each projected lane is mixed with the same lane of the tokens before and after it in its
  sequence (nothing beyond the sequence's ends); the first half of the lanes is scaled by the second half's gate; the
  product is projected down, normalized and added to the row.
-/
module

public import proofs.«01_k».proof.Proof.RowNorm

@[expose] public section

noncomputable section

namespace Cert.FfnSpec

open Idealize.ShloMosaic Idealize.ShloMosaic.ValueIdx Cert.RowNorm
open scoped BigOperators

/-- Lane `j` of half `s` of the projected lanes. -/
def side (s : Fin 2) (j : Fin 2816) : Fin 5632 := ⟨s.val * 2816 + j.val, by have := s.isLt; have := j.isLt; omega⟩

/-- Lane `l` of chunk `k` of a half. -/
def col (k : Fin 11) (l : Fin 256) : Fin 2816 := ⟨k.val * 256 + l.val, by have := k.isLt; have := l.isLt; omega⟩

/-- A sum over a half's lanes, chunk by chunk. -/
theorem sum_col (f : Fin 2816 → EReal) : ∑ j : Fin 2816, f j = ∑ k : Fin 11, ∑ l : Fin 256, f (col k l) := by
  rw [← Fintype.sum_prod_type' (f := fun k l => f (col k l))]
  refine (Fintype.sum_equiv (finProdFinEquiv (m := 11) (n := 256)) _ _ fun p => congrArg f (Fin.ext ?_)).symm
  show p.1.val * 256 + p.2.val = p.2.val + 256 * p.1.val
  omega

/-- The normalized row. -/
def pre (x : Fin 1024 → EReal) (gpre : Fin 1024 → EReal) (e : Fin 1024) : EReal := rms x e * gpre e

/-- The row projected up. -/
def up (x : Fin 1024 → EReal) (gpre : Fin 1024 → EReal) (wup : Fin 1024 → Fin 5632 → EReal) (j : Fin 5632) : EReal := ∑ e : Fin 1024, pre x gpre e * wup e j

/-- A row of zeros is projected to zeros. -/
theorem up_zero (gpre : Fin 1024 → EReal) (wup : Fin 1024 → Fin 5632 → EReal) (j : Fin 5632) : up (fun _ => 0) gpre wup j = 0 :=
  Finset.sum_eq_zero fun e _ => by unfold pre rms; rw [zero_mul, zero_mul, zero_mul]

/-- Three neighbouring lanes mixed. -/
def taps (p m n c0 c1 c2 b : EReal) : EReal := p * c0 + m * c1 + n * c2 + b

/-- A lane scaled by its gate. -/
def glu (g v : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g)))))) * v

variable (x : Fin 32768 → Fin 1024 → EReal) (gpre : Fin 1024 → EReal) (wup : Fin 1024 → Fin 5632 → EReal) (cw : Fin 3 → Fin 5632 → EReal)
  (cb : Fin 5632 → EReal) (wd : Fin 2816 → Fin 1024 → EReal) (gpost : Fin 1024 → EReal)

/-- The lane of the token before, zero at a sequence's start. -/
def before (R : Fin 32768) (j : Fin 5632) : EReal := if R.val % 2048 = 0 then 0 else up (x ⟨R.val - 1, by have := R.isLt; omega⟩) gpre wup j

/-- The lane of the token after, zero at a sequence's end. -/
def after (R : Fin 32768) (j : Fin 5632) : EReal :=
  if h : R.val % 2048 = 2047 then 0 else up (x ⟨R.val + 1, by have := R.isLt; omega⟩) gpre wup j

/-- The mixed lane. -/
def conv (R : Fin 32768) (j : Fin 5632) : EReal :=
  taps (before x gpre wup R j) (up (x R) gpre wup j) (after x gpre wup R j) (cw 0 j) (cw 1 j) (cw 2 j) (cb j)

/-- The gated lane. -/
def hidden (R : Fin 32768) (j : Fin 2816) : EReal := glu (conv x gpre wup cw cb R (side 1 j)) (conv x gpre wup cw cb R (side 0 j))

/-- The product projected down. -/
def down (R : Fin 32768) (d : Fin 1024) : EReal := ∑ j : Fin 2816, hidden x gpre wup cw cb R j * wd j d

/-- The feed-forward's row. -/
def out (R : Fin 32768) (d : Fin 1024) : EReal := x R d + rms (down x gpre wup cw cb wd R) d * gpost d

/-- The feed-forward of whole arrays. -/
def array (x0 : (⟨2, ![32768, 1024]⟩ : Shape).Idx → EReal) (x1 : (⟨1, ![1024]⟩ : Shape).Idx → EReal) (x2 : (⟨2, ![1024, 5632]⟩ : Shape).Idx → EReal)
    (x3 : (⟨2, ![3, 5632]⟩ : Shape).Idx → EReal) (x4 : (⟨1, ![5632]⟩ : Shape).Idx → EReal) (x5 : (⟨2, ![2816, 1024]⟩ : Shape).Idx → EReal)
    (x6 : (⟨1, ![1024]⟩ : Shape).Idx → EReal) (R : Fin 32768) (d : Fin 1024) : EReal :=
  out (fun R k => x0 (ix2 R k)) (fun k => x1 (ix1 k)) (fun e j => x2 (ix2 e j)) (fun n j => x3 (ix2 n j)) (fun j => x4 (ix1 j)) (fun j d => x5 (ix2 j d)) (fun k => x6 (ix1 k)) R d

end Cert.FfnSpec

end
-- ==== Proof.FfnIdealTrip.lean ====
/-
  The feed-forward call's loop over the eleven chunks of the hidden width: one trip of it at any trip number, and
  what the accumulator holds before each trip.
-/
module

public import proofs.«01_k».proof.Proof.Gen.FfnIdeal.Loops
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Trip

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources' algebra. -/
abbrev MM (F : FTy → Type) := MT nD τ sig Unit (Elt F) ℕ (UR sig nD τ) ℕ

/-- The accumulator's whole rectangle. -/
abbrev rAcc : Rect S512x1024 := Rect.unit (s := S512x1024) ![0, 0] S512x1024.size inb_S512x1024_S512x1024_0_0

/-- One side's convolved chunk on trip `k`: side 0, the value. -/
def valAt (v38 : FVec F S528x1024 .bf16) (v39 : IVec S512x256 32) (x5 : Vec F S2x11x1024x256 .bf16) (x6 : Vec F S3x2x11x1x256 .f32)
    (x7 : Vec F S2x11x1x256 .f32) (k : Fin k0_t1_loop.trips) : FVec F S512x256 .f32 :=
  k0_pay7 v38 (k0_pay1 v39) (k0_pay2 v39)
    (View.ld x5 (Rect.unit (s := S2x11x1024x256) (k0_off1 k) S1x1x1024x256.size (k0_off1_inb k)))
    (View.ld x6 (Rect.unit (s := S3x2x11x1x256) (k0_off2 k) S1x1x1x1x256.size (k0_off2_inb k)))
    (View.ld x6 (Rect.unit (s := S3x2x11x1x256) (k0_off3 k) S1x1x1x1x256.size (k0_off3_inb k)))
    (View.ld x6 (Rect.unit (s := S3x2x11x1x256) (k0_off4 k) S1x1x1x1x256.size (k0_off4_inb k)))
    (View.ld x7 (Rect.unit (s := S2x11x1x256) (k0_off5 k) S1x1x1x256.size (k0_off5_inb k)))

/-- The other side's chunk: side 1, the gate. -/
def gateAt (v38 : FVec F S528x1024 .bf16) (v39 : IVec S512x256 32) (x5 : Vec F S2x11x1024x256 .bf16) (x6 : Vec F S3x2x11x1x256 .f32)
    (x7 : Vec F S2x11x1x256 .f32) (k : Fin k0_t1_loop.trips) : FVec F S512x256 .f32 :=
  k0_pay8 v38 (k0_pay1 v39) (k0_pay2 v39)
    (View.ld x5 (Rect.unit (s := S2x11x1024x256) (k0_off6 k) S1x1x1024x256.size (k0_off6_inb k)))
    (View.ld x6 (Rect.unit (s := S3x2x11x1x256) (k0_off7 k) S1x1x1x1x256.size (k0_off7_inb k)))
    (View.ld x6 (Rect.unit (s := S3x2x11x1x256) (k0_off8 k) S1x1x1x1x256.size (k0_off8_inb k)))
    (View.ld x6 (Rect.unit (s := S3x2x11x1x256) (k0_off9 k) S1x1x1x1x256.size (k0_off9_inb k)))
    (View.ld x7 (Rect.unit (s := S2x11x1x256) (k0_off10 k) S1x1x1x256.size (k0_off10_inb k)))

/-- The gate's cube, as the trip computes it. -/
def cubeAt (v38 : FVec F S528x1024 .bf16) (v39 : IVec S512x256 32) (x5 : Vec F S2x11x1024x256 .bf16) (x6 : Vec F S3x2x11x1x256 .f32)
    (x7 : Vec F S2x11x1x256 .f32) (k : Fin k0_t1_loop.trips) : FVec F S512x256 .f32 :=
  k0_pay9 v38 (k0_pay1 v39) (k0_pay2 v39)
    (View.ld x5 (Rect.unit (s := S2x11x1024x256) (k0_off6 k) S1x1x1024x256.size (k0_off6_inb k)))
    (View.ld x6 (Rect.unit (s := S3x2x11x1x256) (k0_off7 k) S1x1x1x1x256.size (k0_off7_inb k)))
    (View.ld x6 (Rect.unit (s := S3x2x11x1x256) (k0_off8 k) S1x1x1x1x256.size (k0_off8_inb k)))
    (View.ld x6 (Rect.unit (s := S3x2x11x1x256) (k0_off9 k) S1x1x1x1x256.size (k0_off9_inb k)))
    (View.ld x7 (Rect.unit (s := S2x11x1x256) (k0_off10 k) S1x1x1x256.size (k0_off10_inb k)))

/-- The chunk's rows of the down projection. -/
def downAt (x8 : Vec F S11x256x1024 .bf16) (k : Fin k0_t1_loop.trips) : Vec F S1x256x1024 .bf16 :=
  View.ld x8 (Rect.unit (s := S11x256x1024) (k0_off11 k) S1x256x1024.size (k0_off11_inb k))

/-- The coefficient of the cube. -/
abbrev cubeCoef : F .f32 := Scalar.ofBits .f32 0x3D372713#32

/-- What the accumulator holds after the first trip: the chunk's product. -/
def first (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (k : Fin k0_t1_loop.trips) : Vec F S512x1024 .f32 :=
  View.canon [⟨rAcc, k0_pay4 (valAt v38 v39 x5 x6 x7 k) (gateAt v38 v39 x5 x6 x7 k) (cubeAt v38 v39 x5 x6 x7 k) cubeCoef (downAt x8 k)⟩]

/-- What it holds after a later trip: the chunk's product added. -/
def later (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (k : Fin k0_t1_loop.trips) (a : Vec F S512x1024 .f32) : Vec F S512x1024 .f32 :=
  View.canon [⟨rAcc, k0_pay5 (valAt v38 v39 x5 x6 x7 k) (gateAt v38 v39 x5 x6 x7 k) (cubeAt v38 v39 x5 x6 x7 k) cubeCoef (downAt x8 k) (View.ld a rAcc)⟩]

/-- The accumulator before trip `k`, `k` at least one (at zero it is whatever the buffer held). -/
def accAt (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (a0 : Vec F S512x1024 .f32) : ℕ → Vec F S512x1024 .f32
  | 0 => a0
  | k + 1 => if h : k < k0_t1_loop.trips then
      (if k = 0 then first v38 v39 x5 x6 x7 x8 ⟨k, h⟩ else later v38 v39 x5 x6 x7 x8 ⟨k, h⟩ (accAt v38 v39 x5 x6 x7 x8 a0 k))
      else a0

/-- A whole store covers the accumulator. -/
theorem cover_acc (p : Vec F S512x1024 .f32) (y : S512x1024.Idx) :
    ∃ pc ∈ ([⟨rAcc, p⟩] : List (View.Piece (Elt F) S512x1024 .f32)), y ∈ pc.1.set :=
  View.cover_of_tiled [⟨rAcc, p⟩] S512x1024.size (by rfl) y

/-- The first conditional holds on the first trip only. -/
theorem cond_first : ∀ k : Fin k0_t1_loop.trips,
    (Scalar.cmpi .ne (Scalar.extui (Scalar.cmpi .eq (Scf.iv 0#32 1#32 k.val) 0#32) : BitVec 32) 0#32 = 1#1) ↔ k.val = 0 := by decide +kernel

/-- The second on every other. -/
theorem cond_later : ∀ k : Fin k0_t1_loop.trips,
    (Scalar.cmpi .ne (Scalar.extui (Scalar.cmpi .sgt (Scf.iv 0#32 1#32 k.val) 0#32) : BitVec 32) 0#32 = 1#1) ↔ k.val ≠ 0 := by decide +kernel

set_option maxHeartbeats 1000000 in
/-- The first trip. -/
theorem trip_first (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S2x11x1024x256 .bf16) (harg5 : arg5.IsWhole) (arg6 : Memref sig .tc .vmem S3x2x11x1x256 .f32) (harg6 : arg6.IsWhole) (arg7 : Memref sig .tc .vmem S2x11x1x256 .f32) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (v38 : FVec F S528x1024 .bf16) (v39 : IVec S512x256 32)
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f11 : Buf (Elt F) (arg11.view.loc (c : Thread nD τ))) (k : Fin k0_t1_loop.trips) (hk : k.val = 0) :
    (iprop((arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ (arg11.view.loc (c : Thread nD τ) ↦[arg11.view.set]{fullShare} f11)) : sProp (MM F))
      ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 v38 v39 k ())
        (fun _ => iprop((arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ ∃ g, (arg11.view.loc (c : Thread nD τ) ↦[arg11.view.set]{fullShare} g)
          ∗ ⌜arg11.view.read (Elt F) g = first v38 v39 (arg5.view.read (Elt F) f5) (arg6.view.read (Elt F) f6) (arg7.view.read (Elt F) f7) (arg8.view.read (Elt F) f8) k⌝)) := by
  unfold k0_t1_body
  simp only [k0_part1_eq_skeleton, k0_part2_eq_skeleton]
  have h1 := (cond_first k).2 hk
  have h2 : ¬ _ := fun h => (cond_later k).1 h hk
  iintro ⟨H5, H6, H7, H8, H11⟩
  sl_exec
  sl_step
  isplitl [H5]; · iexact H5
  isplitl [H6]; · iexact H6
  isplitl [H7]; · iexact H7
  isplitl [H8]; · iexact H8
  iexists _
  isplitl [H11]; · iexact H11
  ipureintro
  exact View.read_writes_eq_canon _ _ _ (cover_acc _)

set_option maxHeartbeats 1000000 in
/-- Any later trip. -/
theorem trip_later (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S2x11x1024x256 .bf16) (harg5 : arg5.IsWhole) (arg6 : Memref sig .tc .vmem S3x2x11x1x256 .f32) (harg6 : arg6.IsWhole) (arg7 : Memref sig .tc .vmem S2x11x1x256 .f32) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (v38 : FVec F S528x1024 .bf16) (v39 : IVec S512x256 32)
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f11 : Buf (Elt F) (arg11.view.loc (c : Thread nD τ))) (k : Fin k0_t1_loop.trips) (hk : k.val ≠ 0) :
    (iprop((arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ (arg11.view.loc (c : Thread nD τ) ↦[arg11.view.set]{fullShare} f11)) : sProp (MM F))
      ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 v38 v39 k ())
        (fun _ => iprop((arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ ∃ g, (arg11.view.loc (c : Thread nD τ) ↦[arg11.view.set]{fullShare} g)
          ∗ ⌜arg11.view.read (Elt F) g = later v38 v39 (arg5.view.read (Elt F) f5) (arg6.view.read (Elt F) f6) (arg7.view.read (Elt F) f7) (arg8.view.read (Elt F) f8) k (arg11.view.read (Elt F) f11)⌝)) := by
  unfold k0_t1_body
  simp only [k0_part1_eq_skeleton, k0_part2_eq_skeleton]
  have h1 : ¬ _ := fun h => hk ((cond_first k).1 h)
  have h2 := (cond_later k).2 hk
  iintro ⟨H5, H6, H7, H8, H11⟩
  sl_exec
  sl_step
  isplitl [H5]; · iexact H5
  isplitl [H6]; · iexact H6
  isplitl [H7]; · iexact H7
  isplitl [H8]; · iexact H8
  iexists _
  isplitl [H11]; · iexact H11
  ipureintro
  exact View.read_writes_eq_canon _ _ _ (cover_acc _)

set_option warn.classDefReducibility false in
/-- The loop's invariant: the four weight buffers untouched, the accumulator after `k` trips. -/
@[sl_loop] def loopInv_k0_t1 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S2x11x1024x256 .bf16) (harg5 : arg5.IsWhole) (arg6 : Memref sig .tc .vmem S3x2x11x1x256 .f32) (harg6 : arg6.IsWhole) (arg7 : Memref sig .tc .vmem S2x11x1x256 .f32) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (v38 : FVec F S528x1024 .bf16) (v39 : IVec S512x256 32)
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f11 : Buf (Elt F) (arg11.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 v38 v39 where
  inv k _ := iprop((arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ ∃ g, (arg11.view.loc (c : Thread nD τ) ↦[arg11.view.set]{fullShare} g)
          ∗ ⌜arg11.view.read (Elt F) g = accAt v38 v39 (arg5.view.read (Elt F) f5) (arg6.view.read (Elt F) f6) (arg7.view.read (Elt F) f7) (arg8.view.read (Elt F) f8) (arg11.view.read (Elt F) f11) k⌝)
  step k _ := by
    iintro ⟨H5, H6, H7, H8, ⟨%g, H11, %hg⟩⟩
    by_cases hk : k.val = 0
    · iapply (wp_wand_r Idealize.ShloMosaic.frame (wpE (defs₀ (F := F)) Variants.none (c : Thread nD τ) none) Set.univ)
      isplitl [H5 H6 H7 H8 H11]
      · iapply (trip_first c i arg1 harg1 arg2 harg2 arg3 harg3 arg4 harg4 arg5 harg5 arg6 harg6 arg7 harg7 arg8 harg8 arg9 harg9 arg10 harg10 arg11 harg11 v38 v39 f5 f6 f7 f8 g k hk)
        isplitl [H5]; · iexact H5
        isplitl [H6]; · iexact H6
        isplitl [H7]; · iexact H7
        isplitl [H8]; · iexact H8
        iexact H11
      · iintro %_ ⟨H5, H6, H7, H8, ⟨%g', H11, %hg'⟩⟩
        isplitl [H5]; · iexact H5
        isplitl [H6]; · iexact H6
        isplitl [H7]; · iexact H7
        isplitl [H8]; · iexact H8
        iexists g'
        isplitl [H11]; · iexact H11
        ipureintro
        rw [hg', accAt, dif_pos k.isLt, if_pos hk]
    · iapply (wp_wand_r Idealize.ShloMosaic.frame (wpE (defs₀ (F := F)) Variants.none (c : Thread nD τ) none) Set.univ)
      isplitl [H5 H6 H7 H8 H11]
      · iapply (trip_later c i arg1 harg1 arg2 harg2 arg3 harg3 arg4 harg4 arg5 harg5 arg6 harg6 arg7 harg7 arg8 harg8 arg9 harg9 arg10 harg10 arg11 harg11 v38 v39 f5 f6 f7 f8 g k hk)
        isplitl [H5]; · iexact H5
        isplitl [H6]; · iexact H6
        isplitl [H7]; · iexact H7
        isplitl [H8]; · iexact H8
        iexact H11
      · iintro %_ ⟨H5, H6, H7, H8, ⟨%g', H11, %hg'⟩⟩
        isplitl [H5]; · iexact H5
        isplitl [H6]; · iexact H6
        isplitl [H7]; · iexact H7
        isplitl [H8]; · iexact H8
        iexists g'
        isplitl [H11]; · iexact H11
        ipureintro
        rw [hg', hg, accAt, dif_pos k.isLt, if_neg hk]

end Cert.FfnIdeal.Trip

end
-- ==== Proof.FfnIdealBody.lean ====
/-
  The feed-forward call's kernel body, from its staging buffers' contents to the output's; the pipeline's proof data,
  the run, and that the arguments end unchanged.
-/
module

public import proofs.«01_k».proof.Proof.FfnIdealTrip
public import Idealize.ShloMosaic.Lib.Pipeline.FrameBody
public import Idealize.ShloMosaic.Lib.Pipeline.Value
public import Idealize.ShloMosaic.Lib.Claim

@[expose] public section

set_option maxRecDepth 16384

noncomputable section

namespace Cert.FfnIdeal.Body

open Cert.FfnIdeal.Gen Cert.FfnIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The three other whole rectangles the body loads. -/
abbrev rHalo : Rect S8x1024 := Rect.unit (s := S8x1024) ![0, 0] S8x1024.size inb_S8x1024_S8x1024_0_0
abbrev rRow : Rect S1x1024 := Rect.unit (s := S1x1024) ![0, 0] S1x1024.size inb_S1x1024_S1x1024_0_0

/-- The normalized rows, from the tile and its two halos. -/
def hidden (i : grid0.Coords) (x0 : Vec F S512x1024 .f32) (x1 : Vec F S8x1024 .f32) (x2 : Vec F S8x1024 .f32) (x3 : Vec F S1x1024 .f32) : FVec F S528x1024 .bf16 :=
  k0_pay10 i (View.ld x0 rAcc) (View.ld x1 rHalo) (View.ld x2 rHalo) (View.ld x3 rRow)

/-- The row numbers of the tile. -/
abbrev rows : IVec S512x256 32 := iota .tc S512x256 32 [0] iota_S512x256_d0_w32

/-- The first trip starts the accumulator. -/
theorem accAt_first (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (a : Vec F S512x1024 .f32) (h : 0 < k0_t1_loop.trips) :
    accAt v38 v39 x5 x6 x7 x8 a (0 + 1) = first v38 v39 x5 x6 x7 x8 ⟨0, h⟩ := by
  rw [accAt, dif_pos h, if_pos rfl]

/-- Each later trip adds to it. -/
theorem accAt_later (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (a : Vec F S512x1024 .f32) (k : ℕ) (h : k + 1 < k0_t1_loop.trips) :
    accAt v38 v39 x5 x6 x7 x8 a (k + 1 + 1)
      = later v38 v39 x5 x6 x7 x8 ⟨k + 1, h⟩ (accAt v38 v39 x5 x6 x7 x8 a (k + 1)) := by
  rw [accAt, dif_pos h, if_neg (Nat.succ_ne_zero k)]

/-- The accumulator after the whole loop does not depend on what it held before. -/
theorem accAt_irrel (v38 : FVec F S528x1024 .bf16) (v39 : IVec S512x256 32) (x5 : Vec F S2x11x1024x256 .bf16) (x6 : Vec F S3x2x11x1x256 .f32)
    (x7 : Vec F S2x11x1x256 .f32) (x8 : Vec F S11x256x1024 .bf16) (a b : Vec F S512x1024 .f32) :
    ∀ k : ℕ, k < k0_t1_loop.trips → accAt v38 v39 x5 x6 x7 x8 a (k + 1) = accAt v38 v39 x5 x6 x7 x8 b (k + 1)
  | 0, h => (accAt_first v38 v39 x5 x6 x7 x8 a h).trans (accAt_first v38 v39 x5 x6 x7 x8 b h).symm
  | k + 1, h => by
    rw [accAt_later _ _ _ _ _ _ a k h, accAt_later _ _ _ _ _ _ b k h, accAt_irrel v38 v39 x5 x6 x7 x8 a b k (Nat.lt_of_succ_lt h)]

/-- What the body leaves in the output's staging buffer, from the input blocks at the point `i`. -/
def out0_9 (i : grid0.Coords) (x0 : Vec F S512x1024 .f32) (x1 : Vec F S8x1024 .f32) (x2 : Vec F S8x1024 .f32) (x3 : Vec F S1x1024 .f32) (x4 : Vec F S2x11x1024x256 .bf16) (x5 : Vec F S3x2x11x1x256 .f32) (x6 : Vec F S2x11x1x256 .f32) (x7 : Vec F S11x256x1024 .bf16) (x8 : Vec F S1x1024 .f32) : Vec F S512x1024 .f32 :=
  View.canon [⟨rAcc, k0_pay6 (View.ld x0 rAcc) (View.ld (accAt (hidden i x0 x1 x2 x3) rows x4 x5 x6 x7 x0 k0_t1_loop.trips) rAcc) (View.ld x8 rRow)⟩]

set_option maxHeartbeats 1000000 in
/-- The body on whole staging memrefs: the inputs' are left as they were, the output's at `out0_9`, the accumulator's at
    something. -/
theorem sound_kernel (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S2x11x1024x256 .bf16) (harg5 : arg5.IsWhole) (arg6 : Memref sig .tc .vmem S3x2x11x1x256 .f32) (harg6 : arg6.IsWhole) (arg7 : Memref sig .tc .vmem S2x11x1x256 .f32) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (x0 : Vec F S512x1024 .f32) (x1 : Vec F S8x1024 .f32) (x2 : Vec F S8x1024 .f32) (x3 : Vec F S1x1024 .f32) (x4 : Vec F S2x11x1024x256 .bf16) (x5 : Vec F S3x2x11x1x256 .f32) (x6 : Vec F S2x11x1x256 .f32) (x7 : Vec F S11x256x1024 .bf16) (x8 : Vec F S1x1024 .f32) (K : PUnit → sProp (MM F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 i x0 x1 x2 x3 x4 x5 x6 x7 x8) ∗ (∃ d, owns (c : Thread nD τ) arg11 fullShare d)) -∗ K ⟨⟩))
      ⊢ wp frame (wpE (defs₀ (F := F)) Variants.none c none) Set.univ (cc0_conv_gated_mlp i arg1 harg1 arg2 harg2 arg3 harg3 arg4 harg4 arg5 harg5 arg6 harg6 arg7 harg7 arg8 harg8 arg9 harg9 arg10 harg10 arg11 harg11) K := by
  simp only [cc0_conv_gated_mlp_eq_skeleton]; unfold cc0_conv_gated_mlp_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_acc _)).trans ?_
    have e := hL5.trans (accAt_irrel _ _ _ _ _ _ _ (View.read (Elt F) arg1.view f0) 10 (by decide +kernel))
    exact congrArg (fun g : Vec F S512x1024 .f32 => View.canon (s := S512x1024) (e := .f32) (Val := Elt F) [⟨rAcc, k0_pay6 (View.ld (View.read (Elt F) arg1.view f0) rAcc) (View.ld g rAcc)
      (View.ld (View.read (Elt F) arg9.view f8) rRow)⟩]) e
  iexists _; iexists _; isplitr
  swap; · iexact H10
  ipureintro; rfl

/-- The share of its array each window holds: the tile and its halos deal the one array between them. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (grid0.coords t) (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

variable (m : (ℓ : Loc nD τ sig) → Buf (Elt F) ℓ) (ρ : Dev nD → PrngReg)

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The accumulator's buffer, at whatever it holds. -/
theorem scratch_back (c : Dev nD) (d : Vec F S512x1024 .f32) :
    (owns (c : Thread nD τ) (Memref.whole cc0_scratch0) fullShare d : sProp (MM F))
      ⊢ iprop(∃ f : Buf (Elt F) ((c : Thread nD τ).loc cc0_scratch0), ((c : Thread nD τ).loc cc0_scratch0) ↦{fullShare} f) := by
  rw [owns_whole_eq]
  iintro ⟨%f, -, Hs⟩
  iexists f; iexact Hs

set_option maxHeartbeats 1000000 in
/-- The body at any point: the accumulator comes out of the scoped buffers and goes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scopedRest0_eq]
  iintro ⟨⟨⟨%fs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [Hs]
  · iexists _; rw [owns_whole_eq]; iexists fs; isplitr; · ipureintro; rfl
    iexact Hs
  iintro ⟨H0, H1, H2, H3, H4, H5, H6, H7, H8, H9, ⟨%ds, Hs⟩⟩
  isplitl [Hs Hg]
  · isplitl [Hs]
    · iapply (scratch_back c ds); iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline at what the proof data computes, the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- What point `t` writes back to the output's array. -/
theorem flushed9 (c : Dev nD) (t : Fin cfg0.N) :
    (dats m 0 c).flushed 9 t = (cfg0.win 9).cut (grid0.coords t) (out0_9 (grid0.coords t) (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

/-- Distinct points write distinct blocks. -/
theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- Block `t` of the final array is what point `t` wrote back. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- The output's array after the run. -/
theorem run_out : θ_run defs (onTc (τ := τ) (main (F := F))) ⟨m, fun _ => 0, ρ⟩ (fun r => ∀ c : Dev nD,
      r.2.mem ((c.tc : Thread nD τ).loc main_v9) = (dats m 0 c).arrAt 9 cfg0.N) :=
  (θ_run defs _ _).mono (fun _ h c => (h c).1 9) (run_main m ρ)

/-- The run with the output's array named, the arguments unchanged. -/
theorem run_blocks : θ_run defs (onTc (τ := τ) (main (F := F))) ⟨m, fun _ => 0, ρ⟩ (fun r => ∀ c : Dev nD,
      r.2.mem ((c.tc : Thread nD τ).loc main_v9) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.2 c, h.1 c⟩)
    (θ_run_and (frame_of m ρ (dats m) (A_eq m) (run_main m ρ)) (run_out m ρ))

end Cert.FfnIdeal.Body

end
-- ==== Proof.FfnChunk.lean ====
/-
  The feed-forward kernel's body on one block of tokens, read at an index: one trip's lanes, their product, the
  accumulator, and the stored block.
-/
module

public import proofs.«01_k».proof.Proof.FfnSpec
public import proofs.«01_k».proof.Proof.FfnIdealBody
public import Idealize.ShloMosaic.Lib.KernelVsHost

@[expose] public section

set_option maxRecDepth 16384

noncomputable section

namespace Cert.FfnIdeal.Chunk

open Cert.FfnIdeal Cert.FfnIdeal.Gen Cert.FfnIdeal.Trip Cert.FfnIdeal.Body Idealize.ShloMosaic Idealize.ShloMosaic.ValueIdx Cert.RowNorm
open scoped BigOperators

/-- The rows of the extended block (the tile, then 8 rows before it, then 8 after it) that hold the token before, the
    token itself and the token after. -/
def prevRow (r : Fin 512) : Fin 528 := if r.val = 0 then ⟨519, by omega⟩ else ⟨r.val - 1, by have := r.isLt; omega⟩
def sameRow (r : Fin 512) : Fin 528 := ⟨r.val, by have := r.isLt; omega⟩
def nextRow (r : Fin 512) : Fin 528 := if r.val = 511 then ⟨520, by omega⟩ else ⟨r.val + 1, by have := r.isLt; omega⟩

/-- A chunk of the up projection. -/
def upBlock (h : FVec Ideal S528x1024 .bf16) (w : FVec Ideal S1x1x1024x256 .bf16) : FVec Ideal S528x256 .f32 :=
  matmul dot_S528x1024_S1024x256_S528x256_1_0_0_1_n_n none h (shapeCast S1024x256 w shapeCasts_S1x1x1024x256_S1024x256) (constant S528x256 .f32 0x00000000#32)

theorem upBlock_apply (h : FVec Ideal S528x1024 .bf16) (w : FVec Ideal S1x1x1024x256 .bf16) (r : Fin 528) (l : Fin 256) :
    upBlock h w (ix2 r l) = ∑ e : Fin 1024, h (ix2 r e) * w (ix4 (0 : Fin 1) (0 : Fin 1) e l) := by
  refine (product_apply h _ r l).trans (Finset.sum_congr rfl fun e _ => congrArg (h (ix2 r e) * ·) ?_)
  refine shapeCast_apply w shapeCasts_S1x1x1024x256_S1024x256 (ix2 e l) (ix4 (0 : Fin 1) (0 : Fin 1) e l) ?_
  rw [Shape.rowMajor_val_two, Shape.rowMajor_val_four]
  show ((0 * 1 + 0) * 1024 + e.val) * 256 + l.val = e.val * 256 + l.val; omega

/-- A tap's coefficients along the rows. -/
theorem tap_apply (k : FVec Ideal S1x1x1x1x256 .f32) (r : Fin 512) (l : Fin 256) :
    broadcastTo S512x256 (shapeCast S1x256 k shapeCasts_S1x1x1x1x256_S1x256) broadcasts_S1x256_S512x256 (ix2 r l) = k (ix5 (0 : Fin 1) (0 : Fin 1) (0 : Fin 1) (0 : Fin 1) l) := by
  refine (row_apply (by decide) _ broadcasts_S1x256_S512x256 r l).trans ?_
  refine shapeCast_apply k shapeCasts_S1x1x1x1x256_S1x256 (ix2 (0 : Fin 1) l) (ix5 (0 : Fin 1) (0 : Fin 1) (0 : Fin 1) (0 : Fin 1) l) ?_
  rw [Shape.rowMajor_val_two, Shape.rowMajor_val_five]
  show (((0 * 1 + 0) * 1 + 0) * 1 + 0) * 256 + l.val = 0 * 256 + l.val; omega

/-- The bias along the rows. -/
theorem bias_apply (b : FVec Ideal S1x1x1x256 .f32) (r : Fin 512) (l : Fin 256) :
    broadcastTo S512x256 (shapeCast S1x256 b shapeCasts_S1x1x1x256_S1x256) broadcasts_S1x256_S512x256 (ix2 r l) = b (ix4 (0 : Fin 1) (0 : Fin 1) (0 : Fin 1) l) := by
  refine (row_apply (by decide) _ broadcasts_S1x256_S512x256 r l).trans ?_
  refine shapeCast_apply b shapeCasts_S1x1x1x256_S1x256 (ix2 (0 : Fin 1) l) (ix4 (0 : Fin 1) (0 : Fin 1) (0 : Fin 1) l) ?_
  rw [Shape.rowMajor_val_two, Shape.rowMajor_val_four]
  show ((0 * 1 + 0) * 1 + 0) * 256 + l.val = 0 * 256 + l.val; omega

/-- A row of the extended block, repeated. -/
theorem edge_apply (u : FVec Ideal S528x256 .f32) (o : ℕ) (ho : o < 528) (h : S528x256.Slices ![o, 0] S1x256) (r : Fin 512) (l : Fin 256) :
    broadcastTo S512x256 (shapeCast S1x256 (extractStridedSlice S1x256 ![o, 0] u h) shapeCasts_S1x256_S1x256) broadcasts_S1x256_S512x256 (ix2 r l) = u (ix2 (⟨o, ho⟩ : Fin 528) l) := by
  refine (row_apply (by decide) _ broadcasts_S1x256_S512x256 r l).trans ?_
  refine (shapeCast_apply _ shapeCasts_S1x256_S1x256 (ix2 (0 : Fin 1) l) (ix2 (0 : Fin 1) l) rfl).trans ?_
  refine extractStridedSlice_apply _ u h _ _ fun a => ?_
  match a with
  | ⟨0, _⟩ => show o = o + 0; omega
  | ⟨1, _⟩ => show l.val = 0 + l.val; omega

/-- The tile's own rows of the extended block. -/
def mainBlock (u : FVec Ideal S528x256 .f32) : FVec Ideal S512x256 .f32 := extractStridedSlice S512x256 ![0, 0] u slices_S528x256_o0_0_S512x256

theorem main_apply (u : FVec Ideal S528x256 .f32) (r : Fin 512) (l : Fin 256) : mainBlock u (ix2 r l) = u (ix2 (sameRow r) l) := by
  refine extractStridedSlice_apply _ u _ _ _ fun a => ?_
  match a with
  | ⟨0, _⟩ => show r.val = 0 + r.val; omega
  | ⟨1, _⟩ => show l.val = 0 + l.val; omega

/-- The first row's mask. -/
theorem mask_first (r : Fin 512) (l : Fin 256) : k0_pay1 rows (ix2 r l) = if r.val = 0 then 1#1 else 0#1 := by
  have h : k0_pay1 rows (ix2 r l) = Scalar.cmpi .eq (BitVec.ofNat 32 r.val) 0#32 :=
    congrArg (fun b => Scalar.cmpi .eq b 0#32) (iota_single_apply .tc S512x256 32 0 iota_S512x256_d0_w32 (ix2 r l))
  rw [h]; clear h; revert r; decide +kernel

/-- The last row's mask. -/
theorem mask_last (r : Fin 512) (l : Fin 256) : k0_pay2 rows (ix2 r l) = if r.val = 511 then 1#1 else 0#1 := by
  have h : k0_pay2 rows (ix2 r l) = Scalar.cmpi .eq (BitVec.ofNat 32 r.val) 511#32 :=
    congrArg (fun b => Scalar.cmpi .eq b 511#32) (iota_single_apply .tc S512x256 32 0 iota_S512x256_d0_w32 (ix2 r l))
  rw [h]; clear h; revert r; decide +kernel

/-- The rows before the tile's. -/
def prevBlock (u : FVec Ideal S528x256 .f32) : FVec Ideal S512x256 .f32 :=
  select (k0_pay1 rows) (broadcastTo S512x256 (shapeCast S1x256 (extractStridedSlice S1x256 ![519, 0] u slices_S528x256_o519_0_S1x256) shapeCasts_S1x256_S1x256) broadcasts_S1x256_S512x256)
    (dynamicRotate 0 1#32 none (mainBlock u) rotates_S512x256_d0)

theorem prev_apply (u : FVec Ideal S528x256 .f32) (r : Fin 512) (l : Fin 256) : prevBlock u (ix2 r l) = u (ix2 (prevRow r) l) := by
  unfold prevBlock prevRow
  rw [select_apply, mask_first]
  by_cases hr : r.val = 0
  · rw [if_pos hr, if_pos hr]
    exact edge_apply u 519 (by omega) slices_S528x256_o519_0_S1x256 r l
  · rw [if_neg hr, if_neg hr]
    have hlt := r.isLt
    have e : dynamicRotate 0 1#32 none (mainBlock u) rotates_S512x256_d0 (ix2 r l) = mainBlock u (ix2 (⟨r.val - 1, by omega⟩ : Fin 512) l) :=
      dynamicRotate_apply 0 _ (mainBlock u) rotates_S512x256_d0 (ix2 r l) _ fun b => by
        match b with
        | ⟨0, _⟩ => show r.val - 1 = (r.val + 512 - 1 % 512) % 512; omega
        | ⟨1, _⟩ => rfl
    exact e.trans (main_apply u _ l)

/-- The rows after the tile's. -/
def nextBlock (u : FVec Ideal S528x256 .f32) : FVec Ideal S512x256 .f32 :=
  select (k0_pay2 rows) (broadcastTo S512x256 (shapeCast S1x256 (extractStridedSlice S1x256 ![520, 0] u slices_S528x256_o520_0_S1x256) shapeCasts_S1x256_S1x256) broadcasts_S1x256_S512x256)
    (dynamicRotate 0 511#32 none (mainBlock u) rotates_S512x256_d0)

theorem next_apply (u : FVec Ideal S528x256 .f32) (r : Fin 512) (l : Fin 256) : nextBlock u (ix2 r l) = u (ix2 (nextRow r) l) := by
  unfold nextBlock nextRow
  rw [select_apply, mask_last]
  by_cases hr : r.val = 511
  · rw [if_pos hr, if_pos hr]
    exact edge_apply u 520 (by omega) slices_S528x256_o520_0_S1x256 r l
  · rw [if_neg hr, if_neg hr]
    have hlt := r.isLt
    have e : dynamicRotate 0 511#32 none (mainBlock u) rotates_S512x256_d0 (ix2 r l) = mainBlock u (ix2 (⟨r.val + 1, by omega⟩ : Fin 512) l) :=
      dynamicRotate_apply 0 _ (mainBlock u) rotates_S512x256_d0 (ix2 r l) _ fun b => by
        match b with
        | ⟨0, _⟩ => show r.val + 1 = (r.val + 512 - 511 % 512) % 512; omega
        | ⟨1, _⟩ => rfl
    exact e.trans (main_apply u _ l)

theorem side_eq (h : FVec Ideal S528x1024 .bf16) (w : FVec Ideal S1x1x1024x256 .bf16) (k0 k1 k2 : FVec Ideal S1x1x1x1x256 .f32) (b : FVec Ideal S1x1x1x256 .f32) :
    k0_pay7 h (k0_pay1 rows) (k0_pay2 rows) w k0 k1 k2 b
      = addf (addf (addf (mulf (prevBlock (upBlock h w)) (broadcastTo S512x256 (shapeCast S1x256 k0 shapeCasts_S1x1x1x1x256_S1x256) broadcasts_S1x256_S512x256))
          (mulf (mainBlock (upBlock h w)) (broadcastTo S512x256 (shapeCast S1x256 k1 shapeCasts_S1x1x1x1x256_S1x256) broadcasts_S1x256_S512x256)))
          (mulf (nextBlock (upBlock h w)) (broadcastTo S512x256 (shapeCast S1x256 k2 shapeCasts_S1x1x1x1x256_S1x256) broadcasts_S1x256_S512x256)))
          (broadcastTo S512x256 (shapeCast S1x256 b shapeCasts_S1x1x1x256_S1x256) broadcasts_S1x256_S512x256) := rfl

/-- One side's chunk of lanes. -/
theorem side_apply (h : FVec Ideal S528x1024 .bf16) (w : FVec Ideal S1x1x1024x256 .bf16) (k0 k1 k2 : FVec Ideal S1x1x1x1x256 .f32) (b : FVec Ideal S1x1x1x256 .f32)
    (r : Fin 512) (l : Fin 256) :
    k0_pay7 h (k0_pay1 rows) (k0_pay2 rows) w k0 k1 k2 b (ix2 r l)
      = FfnSpec.taps (upBlock h w (ix2 (prevRow r) l)) (upBlock h w (ix2 (sameRow r) l)) (upBlock h w (ix2 (nextRow r) l))
          (k0 (ix5 (0 : Fin 1) (0 : Fin 1) (0 : Fin 1) (0 : Fin 1) l)) (k1 (ix5 (0 : Fin 1) (0 : Fin 1) (0 : Fin 1) (0 : Fin 1) l)) (k2 (ix5 (0 : Fin 1) (0 : Fin 1) (0 : Fin 1) (0 : Fin 1) l))
          (b (ix4 (0 : Fin 1) (0 : Fin 1) (0 : Fin 1) l)) := by
  rw [side_eq]
  exact congrArg₂ (fun a b : EReal => a + b) (congrArg₂ (fun a b : EReal => a + b) (congrArg₂ (fun a b : EReal => a + b)
    (congrArg₂ (fun a b : EReal => a * b) (prev_apply _ r l) (tap_apply k0 r l))
    (congrArg₂ (fun a b : EReal => a * b) (main_apply _ r l) (tap_apply k1 r l)))
    (congrArg₂ (fun a b : EReal => a * b) (next_apply _ r l) (tap_apply k2 r l))) (bias_apply b r l)

/-- The other side is computed the same way. -/
theorem pay8_eq (h : FVec Ideal S528x1024 .bf16) (w : FVec Ideal S1x1x1024x256 .bf16) (k0 k1 k2 : FVec Ideal S1x1x1x1x256 .f32) (b : FVec Ideal S1x1x1x256 .f32) :
    k0_pay8 h (k0_pay1 rows) (k0_pay2 rows) w k0 k1 k2 b = k0_pay7 h (k0_pay1 rows) (k0_pay2 rows) w k0 k1 k2 b := rfl

/-- A chunk of the down projection's rows. -/
theorem downRows_apply (w : FVec Ideal S1x256x1024 .bf16) (l : Fin 256) (d : Fin 1024) :
    shapeCast S256x1024 w shapeCasts_S1x256x1024_S256x1024 (ix2 l d) = w (ix3 (0 : Fin 1) l d) := by
  refine shapeCast_apply w shapeCasts_S1x256x1024_S256x1024 (ix2 l d) (ix3 (0 : Fin 1) l d) ?_
  rw [Shape.rowMajor_val_two, Shape.rowMajor_val_three]
  show (0 * 256 + l.val) * 1024 + d.val = l.val * 1024 + d.val; omega

/-- The gated lanes of a chunk. -/
def gated (v g q : FVec Ideal S512x256 .f32) : FVec Ideal S512x256 .bf16 :=
  truncf .bf16 (mulf (mulf g (mulf (broadcast S512x256 (Scalar.ofBits .f32 0x3F000000#32 : Ideal .f32)) (addf (broadcast S512x256 (Scalar.ofBits .f32 0x3F800000#32 : Ideal .f32))
    (tanh (mulf (broadcast S512x256 (Scalar.ofBits .f32 0x3F4C422A#32 : Ideal .f32)) (addf g (mulf (broadcast S512x256 (cubeCoef (F := Ideal))) q))))))) v) bitsLt_bf16_f32

theorem product_eq (v g q : FVec Ideal S512x256 .f32) (w : FVec Ideal S1x256x1024 .bf16) :
    k0_pay3 v g q cubeCoef w = matmul dot_S512x256_S256x1024_S512x1024_1_0_0_1_n_n none (gated v g q) (shapeCast S256x1024 w shapeCasts_S1x256x1024_S256x1024) (constant S512x1024 .f32 0x00000000#32) := rfl

/-- One trip's product. -/
theorem chunk_apply (v g q : FVec Ideal S512x256 .f32) (w : FVec Ideal S1x256x1024 .bf16) (r : Fin 512) (d : Fin 1024)
    (hq : ∀ l, q (ix2 r l) = g (ix2 r l) * (g (ix2 r l) * g (ix2 r l))) :
    k0_pay3 v g q cubeCoef w (ix2 r d) = ∑ l : Fin 256, FfnSpec.glu (g (ix2 r l)) (v (ix2 r l)) * w (ix3 (0 : Fin 1) l d) := by
  rw [product_eq]
  refine (product_apply _ _ r d).trans (Finset.sum_congr rfl fun l _ => congrArg₂ (fun a b : EReal => a * b) ?_ (downRows_apply w l d))
  refine (show gated v g q (ix2 r l) = g (ix2 r l) * (Ideal.ofBits .f32 0x3F000000#32 * (Ideal.ofBits .f32 0x3F800000#32
    + Ideal.tanh (Ideal.ofBits .f32 0x3F4C422A#32 * (g (ix2 r l) + Ideal.ofBits .f32 0x3D372713#32 * q (ix2 r l))))) * v (ix2 r l) from rfl).trans ?_
  rw [hq l]; rfl

/-- The stored block. -/
theorem last_apply (x : FVec Ideal S512x1024 .f32) (a : FVec Ideal S512x1024 .f32) (g : FVec Ideal S1x1024 .f32) (r : Fin 512) (d : Fin 1024) :
    k0_pay6 x a g (ix2 r d) = x (ix2 r d) + rms (fun k => a (ix2 r k)) d * g (ix2 (0 : Fin 1) d) := by
  have e : k0_pay6 x a g = addf x (mulf (norm a reduces_S512x1024_S512 shapeCasts_S512_S512x1 broadcasts_S512x1_S512x1024)
      (broadcastTo S512x1024 (shapeCast S1x1024 g shapeCasts_S1x1024_S1x1024) broadcasts_S1x1024_S512x1024)) := rfl
  rw [e]
  refine congrArg (fun t : EReal => x (ix2 r d) + t) (congrArg₂ (fun a b : EReal => a * b) (norm_apply (by decide) a reduces_S512x1024_S512 shapeCasts_S512_S512x1 broadcasts_S512x1_S512x1024 r d)
    ((row_apply (by decide) _ broadcasts_S1x1024_S512x1024 r d).trans ?_))
  exact shapeCast_apply g shapeCasts_S1x1024_S1x1024 (ix2 (0 : Fin 1) d) (ix2 (0 : Fin 1) d) rfl

end Cert.FfnIdeal.Chunk

end
-- ==== Proof.FfnBlock.lean ====
/-
  The feed-forward kernel's stored block at an index, from what its staging buffers hold: the rows of the extended
  block, the accumulator over the eleven chunks, the output.
-/
module

public import proofs.«01_k».proof.Proof.FfnChunk

@[expose] public section

set_option maxRecDepth 16384

noncomputable section

namespace Cert.FfnIdeal.Block

open Cert.FfnIdeal Cert.FfnIdeal.Gen Cert.FfnIdeal.Trip Cert.FfnIdeal.Body Cert.FfnIdeal.Chunk Idealize.ShloMosaic Idealize.ShloMosaic.ValueIdx Cert.RowNorm
open scoped BigOperators

/-! ## The extended block's rows -/

/-- The tile, then the rows before it, then the rows after it. -/
def stack (x : FVec Ideal S512x1024 .f32) (p n : FVec Ideal S8x1024 .f32) : FVec Ideal S528x1024 .f32 :=
  concatenate S528x1024 0 [⟨S512x1024, x⟩, ⟨S8x1024, p⟩, ⟨S8x1024, n⟩] concatenates_S512x1024_S8x1024_S8x1024_S528x1024_d0

theorem stack_same (x : FVec Ideal S512x1024 .f32) (p n : FVec Ideal S8x1024 .f32) (r : Fin 512) (e : Fin 1024) : stack x p n (ix2 (sameRow r) e) = x (ix2 r e) :=
  concatenate_apply_piece (t := S528x1024) 0 [⟨S512x1024, x⟩, ⟨S8x1024, p⟩, ⟨S8x1024, n⟩] concatenates_S512x1024_S8x1024_S8x1024_S528x1024_d0 (ix2 (sameRow r) e) 0 (by show 0 < 3; omega) S512x1024 x rfl rfl 0 rfl (ix2 r e)
    (fun b hb => match b, hb with | ⟨0, _⟩, hb => absurd rfl hb | ⟨1, _⟩, _ => rfl) (by show 0 + r.val = r.val; omega)

theorem stack_prev (x : FVec Ideal S512x1024 .f32) (p n : FVec Ideal S8x1024 .f32) (e : Fin 1024) : stack x p n (ix2 (⟨519, by omega⟩ : Fin 528) e) = p (ix2 (7 : Fin 8) e) :=
  concatenate_apply_piece (t := S528x1024) 0 [⟨S512x1024, x⟩, ⟨S8x1024, p⟩, ⟨S8x1024, n⟩] concatenates_S512x1024_S8x1024_S8x1024_S528x1024_d0 (ix2 (⟨519, by omega⟩ : Fin 528) e) 1 (by show 1 < 3; omega) S8x1024 p rfl rfl 512 rfl (ix2 (7 : Fin 8) e)
    (fun b hb => match b, hb with | ⟨0, _⟩, hb => absurd rfl hb | ⟨1, _⟩, _ => rfl) rfl

theorem stack_next (x : FVec Ideal S512x1024 .f32) (p n : FVec Ideal S8x1024 .f32) (e : Fin 1024) : stack x p n (ix2 (⟨520, by omega⟩ : Fin 528) e) = n (ix2 (0 : Fin 8) e) :=
  concatenate_apply_piece (t := S528x1024) 0 [⟨S512x1024, x⟩, ⟨S8x1024, p⟩, ⟨S8x1024, n⟩] concatenates_S512x1024_S8x1024_S8x1024_S528x1024_d0 (ix2 (⟨520, by omega⟩ : Fin 528) e) 2 (by show 2 < 3; omega) S8x1024 n rfl rfl 520 rfl (ix2 (0 : Fin 8) e)
    (fun b hb => match b, hb with | ⟨0, _⟩, hb => absurd rfl hb | ⟨1, _⟩, _ => rfl) rfl

/-- The tile's place in its sequence, of four, as the kernel computes it. -/
def place (t : BitVec 32) : BitVec 32 :=
  let s : BitVec 32 := Scalar.select (Scalar.cmpi .eq 4#32 0#32) 1#32 4#32
  let q : BitVec 32 := Scalar.remsi t s
  Scalar.select (Scalar.andi (Scalar.xori (Scalar.cmpi .slt q 0#32) (Scalar.cmpi .slt s 0#32)) (Scalar.cmpi .ne q 0#32)) (Scalar.addi q s) q

/-- One when the tile is not its sequence's first, and when it is not its last. -/
def prevWord (t : BitVec 32) : BitVec 32 := Scalar.extui (Scalar.cmpi .sgt (place t) 0#32)
def nextWord (t : BitVec 32) : BitVec 32 := Scalar.extui (Scalar.cmpi .slt (place t) 3#32)

theorem prevWord_eq : ∀ t : Fin 64, prevWord (BitVec.ofNat 32 t.val) = if t.val % 4 = 0 then 0#32 else 1#32 := by decide +kernel
theorem nextWord_eq : ∀ t : Fin 64, nextWord (BitVec.ofNat 32 t.val) = if t.val % 4 = 3 then 0#32 else 1#32 := by decide +kernel

/-- A word as a number. -/
theorem word_zero : (Scalar.sitofp (F := Ideal) .f32 0#32 : EReal) = 0 := sitofp_zero
theorem word_one : (Scalar.sitofp (F := Ideal) .f32 1#32 : EReal) = 1 := by
  have h : (1#32 : BitVec 32).toInt = 1 := by decide
  rw [Ideal.scalar_sitofp_def, h, Int.cast_one, EReal.coe_one]

/-- The rows of the extended block, normalized, from the tile's and its neighbours' rows. -/
theorem hidden_eq (i : grid0.Coords) (x : FVec Ideal S512x1024 .f32) (p n : FVec Ideal S8x1024 .f32) (g : FVec Ideal S1x1024 .f32) :
    k0_pay10 i x p n g = truncf .bf16 (mulf (norm (stack x
        (mulf p (broadcast S8x1024 (Scalar.sitofp (F := Ideal) .f32 (prevWord (BitVec.ofNat 32 (i 0).val)))))
        (mulf n (broadcast S8x1024 (Scalar.sitofp (F := Ideal) .f32 (nextWord (BitVec.ofNat 32 (i 0).val))))))
      reduces_S528x1024_S528 shapeCasts_S528_S528x1 broadcasts_S528x1_S528x1024)
      (broadcastTo S528x1024 (shapeCast S1x1024 g shapeCasts_S1x1024_S1x1024) broadcasts_S1x1024_S528x1024)) bitsLt_bf16_f32 := rfl

/-- A row of the extended block, normalized. -/
theorem hidden_apply (i : grid0.Coords) (x : FVec Ideal S512x1024 .f32) (p n : FVec Ideal S8x1024 .f32) (g : FVec Ideal S1x1024 .f32) (q : Fin 528) (e : Fin 1024) :
    (k0_pay10 i x p n g (ix2 q e) : Ideal .bf16) = FfnSpec.pre (fun k => stack x
        (mulf p (broadcast S8x1024 (Scalar.sitofp (F := Ideal) .f32 (prevWord (BitVec.ofNat 32 (i 0).val)))))
        (mulf n (broadcast S8x1024 (Scalar.sitofp (F := Ideal) .f32 (nextWord (BitVec.ofNat 32 (i 0).val))))) (ix2 q k)) (fun k => g (ix2 (0 : Fin 1) k)) e := by
  rw [hidden_eq]
  exact congrArg₂ (fun a b : EReal => a * b) (norm_apply (by decide) _ reduces_S528x1024_S528 shapeCasts_S528_S528x1 broadcasts_S528x1_S528x1024 q e)
    ((row_apply (by decide) _ broadcasts_S1x1024_S528x1024 q e).trans (shapeCast_apply g shapeCasts_S1x1024_S1x1024 (ix2 (0 : Fin 1) e) (ix2 (0 : Fin 1) e) rfl))

/-! ## The loads of a trip -/

/-- A load of a part of a buffer reads it at the part's offset. -/
theorem ld_apply {s : Shape} {φ : EltTy} (x : (⟨s, φ⟩ : BufTy).Contents (Elt Ideal)) (off sz : Fin s.rank → ℕ) (inb : ∀ a, off a + sz a ≤ s.size a)
    (j : (Rect.unit (s := s) off sz inb).shape.Idx) (k : s.Idx) (h : ∀ a : Fin s.rank, (k a).val = off a + (j a).val) :
    View.ld (S := s) (e' := φ) (Val := Elt Ideal) x (Rect.unit (s := s) off sz inb) j = x k := by
  refine congrArg x (funext fun a => Fin.ext ?_)
  show off a + 1 * (j a).val = (k a).val
  rw [h a]; omega

/-- A trip as a chunk's number. -/
def chunk (k : Fin k0_t1_loop.trips) : Fin 11 := ⟨k.val, by have h := k.isLt; have e : k0_t1_loop.trips = 11 := by decide +kernel
                                                            omega⟩

theorem off1 : ∀ k : Fin k0_t1_loop.trips, k0_off1 k = ![0, k.val, 0, 0] := by decide +kernel
theorem off2 : ∀ k : Fin k0_t1_loop.trips, k0_off2 k = ![0, 0, k.val, 0, 0] := by decide +kernel
theorem off3 : ∀ k : Fin k0_t1_loop.trips, k0_off3 k = ![1, 0, k.val, 0, 0] := by decide +kernel
theorem off4 : ∀ k : Fin k0_t1_loop.trips, k0_off4 k = ![2, 0, k.val, 0, 0] := by decide +kernel
theorem off5 : ∀ k : Fin k0_t1_loop.trips, k0_off5 k = ![0, k.val, 0, 0] := by decide +kernel
theorem off6 : ∀ k : Fin k0_t1_loop.trips, k0_off6 k = ![1, k.val, 0, 0] := by decide +kernel
theorem off7 : ∀ k : Fin k0_t1_loop.trips, k0_off7 k = ![0, 1, k.val, 0, 0] := by decide +kernel
theorem off8 : ∀ k : Fin k0_t1_loop.trips, k0_off8 k = ![1, 1, k.val, 0, 0] := by decide +kernel
theorem off9 : ∀ k : Fin k0_t1_loop.trips, k0_off9 k = ![2, 1, k.val, 0, 0] := by decide +kernel
theorem off10 : ∀ k : Fin k0_t1_loop.trips, k0_off10 k = ![1, k.val, 0, 0] := by decide +kernel
theorem off11 : ∀ k : Fin k0_t1_loop.trips, k0_off11 k = ![k.val, 0, 0] := by decide +kernel

/-- A chunk of one side's columns of the up projection. -/
theorem ldUp (x : (⟨S2x11x1024x256, .bf16⟩ : BufTy).Contents (Elt Ideal)) (off : Fin 4 → ℕ) (inb : ∀ a, off a + S1x1x1024x256.size a ≤ S2x11x1024x256.size a) (s : Fin 2) (k : Fin 11)
    (h : off = ![s.val, k.val, 0, 0]) (e : Fin 1024) (l : Fin 256) :
    View.ld (S := S2x11x1024x256) (e' := .bf16) (Val := Elt Ideal) x (Rect.unit (s := S2x11x1024x256) off S1x1x1024x256.size inb) (ix4 (0 : Fin 1) (0 : Fin 1) e l) = x (ix4 s k e l) := by
  subst h
  refine ld_apply (s := S2x11x1024x256) x _ _ inb _ _ fun a => ?_
  match a with
  | ⟨0, _⟩ => rfl
  | ⟨1, _⟩ => rfl
  | ⟨2, _⟩ => show e.val = 0 + e.val; omega
  | ⟨3, _⟩ => show l.val = 0 + l.val; omega

/-- A chunk of one side's coefficients of one tap. -/
theorem ldTap (x : (⟨S3x2x11x1x256, .f32⟩ : BufTy).Contents (Elt Ideal)) (off : Fin 5 → ℕ) (inb : ∀ a, off a + S1x1x1x1x256.size a ≤ S3x2x11x1x256.size a) (n : Fin 3) (s : Fin 2) (k : Fin 11)
    (h : off = ![n.val, s.val, k.val, 0, 0]) (l : Fin 256) :
    View.ld (S := S3x2x11x1x256) (e' := .f32) (Val := Elt Ideal) x (Rect.unit (s := S3x2x11x1x256) off S1x1x1x1x256.size inb) (ix5 (0 : Fin 1) (0 : Fin 1) (0 : Fin 1) (0 : Fin 1) l) = x (ix5 n s k (0 : Fin 1) l) := by
  subst h
  refine ld_apply (s := S3x2x11x1x256) x _ _ inb _ _ fun a => ?_
  match a with
  | ⟨0, _⟩ => rfl
  | ⟨1, _⟩ => rfl
  | ⟨2, _⟩ => rfl
  | ⟨3, _⟩ => rfl
  | ⟨4, _⟩ => show l.val = 0 + l.val; omega

/-- A chunk of one side's biases. -/
theorem ldBias (x : (⟨S2x11x1x256, .f32⟩ : BufTy).Contents (Elt Ideal)) (off : Fin 4 → ℕ) (inb : ∀ a, off a + S1x1x1x256.size a ≤ S2x11x1x256.size a) (s : Fin 2) (k : Fin 11)
    (h : off = ![s.val, k.val, 0, 0]) (l : Fin 256) :
    View.ld (S := S2x11x1x256) (e' := .f32) (Val := Elt Ideal) x (Rect.unit (s := S2x11x1x256) off S1x1x1x256.size inb) (ix4 (0 : Fin 1) (0 : Fin 1) (0 : Fin 1) l) = x (ix4 s k (0 : Fin 1) l) := by
  subst h
  refine ld_apply (s := S2x11x1x256) x _ _ inb _ _ fun a => ?_
  match a with
  | ⟨0, _⟩ => rfl
  | ⟨1, _⟩ => rfl
  | ⟨2, _⟩ => rfl
  | ⟨3, _⟩ => show l.val = 0 + l.val; omega

/-- A chunk of the down projection's rows. -/
theorem ldDown (x : (⟨S11x256x1024, .bf16⟩ : BufTy).Contents (Elt Ideal)) (off : Fin 3 → ℕ) (inb : ∀ a, off a + S1x256x1024.size a ≤ S11x256x1024.size a) (k : Fin 11)
    (h : off = ![k.val, 0, 0]) (l : Fin 256) (d : Fin 1024) :
    View.ld (S := S11x256x1024) (e' := .bf16) (Val := Elt Ideal) x (Rect.unit (s := S11x256x1024) off S1x256x1024.size inb) (ix3 (0 : Fin 1) l d) = x (ix3 k l d) := by
  subst h
  refine ld_apply (s := S11x256x1024) x _ _ inb _ _ fun a => ?_
  match a with
  | ⟨0, _⟩ => rfl
  | ⟨1, _⟩ => show l.val = 0 + l.val; omega
  | ⟨2, _⟩ => show d.val = 0 + d.val; omega

/-! ## The accumulator -/

section Acc

variable (h : FVec Ideal S528x1024 .bf16) (x4 : (⟨S2x11x1024x256, .bf16⟩ : BufTy).Contents (Elt Ideal)) (x5 : (⟨S3x2x11x1x256, .f32⟩ : BufTy).Contents (Elt Ideal))
  (x6 : (⟨S2x11x1x256, .f32⟩ : BufTy).Contents (Elt Ideal)) (x7 : (⟨S11x256x1024, .bf16⟩ : BufTy).Contents (Elt Ideal))

/-- A lane of a row of the extended block, projected up. -/
def lane (q : Fin 528) (s : Fin 2) (k : Fin 11) (l : Fin 256) : EReal := ∑ e : Fin 1024, h (ix2 q e) * x4 (ix4 s k e l)

/-- A row's mixed lane. -/
def mixed (r : Fin 512) (s : Fin 2) (k : Fin 11) (l : Fin 256) : EReal :=
  FfnSpec.taps (lane h x4 (prevRow r) s k l) (lane h x4 (sameRow r) s k l) (lane h x4 (nextRow r) s k l)
    (x5 (ix5 (0 : Fin 3) s k (0 : Fin 1) l)) (x5 (ix5 (1 : Fin 3) s k (0 : Fin 1) l)) (x5 (ix5 (2 : Fin 3) s k (0 : Fin 1) l)) (x6 (ix4 s k (0 : Fin 1) l))

/-- A chunk's part of the product. -/
def part (r : Fin 512) (d : Fin 1024) (k : Fin 11) : EReal :=
  ∑ l : Fin 256, FfnSpec.glu (mixed h x4 x5 x6 r 1 k l) (mixed h x4 x5 x6 r 0 k l) * x7 (ix3 k l d)

theorem lane_apply (off : Fin 4 → ℕ) (inb : ∀ a, off a + S1x1x1024x256.size a ≤ S2x11x1024x256.size a) (s : Fin 2) (k : Fin 11) (ho : off = ![s.val, k.val, 0, 0]) (q : Fin 528) (l : Fin 256) :
    upBlock h (View.ld (S := S2x11x1024x256) (e' := .bf16) (Val := Elt Ideal) x4 (Rect.unit (s := S2x11x1024x256) off S1x1x1024x256.size inb)) (ix2 q l) = lane h x4 q s k l :=
  (upBlock_apply h _ q l).trans (Finset.sum_congr rfl fun e _ => congrArg (fun a : EReal => h (ix2 q e) * a) (ldUp x4 off inb s k ho e l))

theorem val_apply (k : Fin k0_t1_loop.trips) (r : Fin 512) (l : Fin 256) : valAt h rows x4 x5 x6 k (ix2 r l) = mixed h x4 x5 x6 r 0 (chunk k) l := by
  unfold valAt mixed
  rw [side_apply, lane_apply h x4 _ _ 0 (chunk k) (off1 k), lane_apply h x4 _ _ 0 (chunk k) (off1 k), lane_apply h x4 _ _ 0 (chunk k) (off1 k),
    ldTap x5 _ _ 0 0 (chunk k) (off2 k), ldTap x5 _ _ 1 0 (chunk k) (off3 k), ldTap x5 _ _ 2 0 (chunk k) (off4 k), ldBias x6 _ _ 0 (chunk k) (off5 k)]

theorem gate_apply (k : Fin k0_t1_loop.trips) (r : Fin 512) (l : Fin 256) : gateAt h rows x4 x5 x6 k (ix2 r l) = mixed h x4 x5 x6 r 1 (chunk k) l := by
  unfold gateAt mixed
  rw [pay8_eq, side_apply, lane_apply h x4 _ _ 1 (chunk k) (off6 k), lane_apply h x4 _ _ 1 (chunk k) (off6 k), lane_apply h x4 _ _ 1 (chunk k) (off6 k),
    ldTap x5 _ _ 0 1 (chunk k) (off7 k), ldTap x5 _ _ 1 1 (chunk k) (off8 k), ldTap x5 _ _ 2 1 (chunk k) (off9 k), ldBias x6 _ _ 1 (chunk k) (off10 k)]

/-- One trip's product. -/
theorem trip_apply (k : Fin k0_t1_loop.trips) (r : Fin 512) (d : Fin 1024) :
    k0_pay3 (valAt h rows x4 x5 x6 k) (gateAt h rows x4 x5 x6 k) (cubeAt h rows x4 x5 x6 k) cubeCoef (downAt x7 k) (ix2 r d) = part h x4 x5 x6 x7 r d (chunk k) := by
  rw [chunk_apply _ _ _ _ r d (fun l => rfl)]
  exact Finset.sum_congr rfl fun l _ => congrArg₂ (fun a b : EReal => a * b) (congrArg₂ FfnSpec.glu (gate_apply h x4 x5 x6 k r l) (val_apply h x4 x5 x6 k r l))
    (ldDown x7 _ _ (chunk k) (off11 k) l d)

theorem zeros2 : (![0, 0] : Fin 2 → ℕ) = fun _ => 0 := by
  funext a
  match a with
  | ⟨0, _⟩ => rfl
  | ⟨1, _⟩ => rfl

theorem first_apply (k : Fin k0_t1_loop.trips) (r : Fin 512) (d : Fin 1024) : first h rows x4 x5 x6 x7 k (ix2 r d) = part h x4 x5 x6 x7 r d (chunk k) := by
  unfold first
  refine (congrFun (View.canon_unit_zero (S := S512x1024) (Val := Elt Ideal) zeros2 _ _) (ix2 r d)).trans ?_
  exact (shapeCast_apply _ shapeCasts_S512x1024_S512x1024 (ix2 r d) (ix2 r d) rfl).trans (trip_apply h x4 x5 x6 x7 k r d)

theorem later_apply (k : Fin k0_t1_loop.trips) (a : (⟨S512x1024, .f32⟩ : BufTy).Contents (Elt Ideal)) (r : Fin 512) (d : Fin 1024) :
    later h rows x4 x5 x6 x7 k a (ix2 r d) = (a (ix2 r d) : EReal) + part h x4 x5 x6 x7 r d (chunk k) := by
  unfold later
  refine (congrFun (View.canon_unit_zero (S := S512x1024) (Val := Elt Ideal) zeros2 _ _) (ix2 r d)).trans ?_
  refine (shapeCast_apply (addf (View.ld a rAcc : FVec Ideal S512x1024 .f32) (k0_pay3 (valAt h rows x4 x5 x6 k) (gateAt h rows x4 x5 x6 k) (cubeAt h rows x4 x5 x6 k) cubeCoef (downAt x7 k)))
    shapeCasts_S512x1024_S512x1024 (ix2 r d) (ix2 r d) rfl).trans ?_
  refine congrArg₂ (fun a b : EReal => a + b) ?_ (trip_apply h x4 x5 x6 x7 k r d)
  exact congrFun (View.ld_unit_zero (S := S512x1024) zeros2 _ a) (ix2 r d)

/-- A chunk's part by its number, nothing past the last. -/
def partOf (r : Fin 512) (d : Fin 1024) (k : ℕ) : EReal := if hk : k < 11 then part h x4 x5 x6 x7 r d ⟨k, hk⟩ else 0

theorem part_of (k : ℕ) (hk : k < k0_t1_loop.trips) (r : Fin 512) (d : Fin 1024) : part h x4 x5 x6 x7 r d (chunk ⟨k, hk⟩) = partOf h x4 x5 x6 x7 r d k := by
  have e : k0_t1_loop.trips = 11 := by decide +kernel
  unfold partOf; rw [dif_pos (by omega)]; rfl

/-- The accumulator after a trip is the sum of the chunks so far. -/
theorem acc_apply (a : (⟨S512x1024, .f32⟩ : BufTy).Contents (Elt Ideal)) (r : Fin 512) (d : Fin 1024) :
    ∀ k : ℕ, k < k0_t1_loop.trips → accAt h rows x4 x5 x6 x7 a (k + 1) (ix2 r d) = ∑ n ∈ Finset.range (k + 1), partOf h x4 x5 x6 x7 r d n
  | 0, hk => by rw [accAt_first _ _ _ _ _ _ _ hk, first_apply, part_of, Finset.sum_range_one]
  | k + 1, hk => by
    rw [accAt_later _ _ _ _ _ _ _ k hk, later_apply, acc_apply a r d k (Nat.lt_of_succ_lt hk), part_of, Finset.sum_range_succ _ (k + 1)]

/-- The whole product. -/
theorem acc_last (a : (⟨S512x1024, .f32⟩ : BufTy).Contents (Elt Ideal)) (r : Fin 512) (d : Fin 1024) :
    accAt h rows x4 x5 x6 x7 a k0_t1_loop.trips (ix2 r d) = ∑ k : Fin 11, part h x4 x5 x6 x7 r d k := by
  have e : k0_t1_loop.trips = 10 + 1 := by decide +kernel
  rw [e, acc_apply h x4 x5 x6 x7 a r d 10 (by rw [e]; omega), Finset.sum_range]
  exact Finset.sum_congr rfl fun k _ => dif_pos k.isLt

end Acc

/-- **The body's output block.** -/
theorem out_apply (i : grid0.Coords) (x0 : (⟨S512x1024, .f32⟩ : BufTy).Contents (Elt Ideal)) (x1 x2 : (⟨S8x1024, .f32⟩ : BufTy).Contents (Elt Ideal)) (x3 : (⟨S1x1024, .f32⟩ : BufTy).Contents (Elt Ideal))
    (x4 : (⟨S2x11x1024x256, .bf16⟩ : BufTy).Contents (Elt Ideal)) (x5 : (⟨S3x2x11x1x256, .f32⟩ : BufTy).Contents (Elt Ideal))
    (x6 : (⟨S2x11x1x256, .f32⟩ : BufTy).Contents (Elt Ideal)) (x7 : (⟨S11x256x1024, .bf16⟩ : BufTy).Contents (Elt Ideal)) (x8 : (⟨S1x1024, .f32⟩ : BufTy).Contents (Elt Ideal)) (r : Fin 512) (d : Fin 1024) :
    out0_9 i x0 x1 x2 x3 x4 x5 x6 x7 x8 (ix2 r d)
      = (x0 (ix2 r d) : EReal) + rms (fun c => ∑ k : Fin 11, part (k0_pay10 i x0 x1 x2 x3) x4 x5 x6 x7 r c k) d * x8 (ix2 (0 : Fin 1) d) := by
  have h0 : View.ld x0 rAcc = x0 := View.ld_unit_zero (S := S512x1024) zeros2 _ x0
  have h1 : View.ld x1 rHalo = x1 := View.ld_unit_zero (S := S8x1024) zeros2 _ x1
  have h2 : View.ld x2 rHalo = x2 := View.ld_unit_zero (S := S8x1024) zeros2 _ x2
  have h3 : View.ld x3 rRow = x3 := View.ld_unit_zero (S := S1x1024) zeros2 _ x3
  have h8 : View.ld x8 rRow = x8 := View.ld_unit_zero (S := S1x1024) zeros2 _ x8
  unfold out0_9 Body.hidden
  refine (congrFun (View.canon_unit_zero (S := S512x1024) (Val := Elt Ideal) zeros2 _ _) (ix2 r d)).trans ?_
  rw [h0, h1, h2, h3, h8]
  refine (last_apply _ _ _ r d).trans (congrArg (fun a : EReal => x0 (ix2 r d) + a) (congrArg (fun a : EReal => a * x8 (ix2 (0 : Fin 1) d)) (congrArg (rms · d) (funext fun c => ?_))))
  exact (congrFun (View.ld_unit_zero (S := S512x1024) zeros2 _ _) (ix2 r c)).trans (acc_last (k0_pay10 i x0 x1 x2 x3) x4 x5 x6 x7 x0 r c)

end Cert.FfnIdeal.Block

end
-- ==== Proof.FfnHost.lean ====
/-
  The feed-forward kernel's parameters as the host lays them out before the kernel, index by index.
-/
module

public import proofs.«01_k».proof.Proof.FfnSpec
public import proofs.«01_k».proof.Proof.Gen.FfnIdeal.Frame
public import Idealize.ShloMosaic.Lib.StableHlo.RunRead
public import Idealize.ShloMosaic.Lib.ValueIdx

@[expose] public section

set_option maxRecDepth 16384

noncomputable section

namespace Cert.FfnIdeal.Host

open Cert.FfnIdeal Cert.FfnIdeal.Gen Idealize.ShloMosaic Idealize.ShloMosaic.TcCoe Idealize.ShloMosaic.ValueIdx Cert.FfnSpec

variable (m : (ℓ : Loc nD τ sig) → Buf (Elt Ideal) ℓ) (c : Dev nD)

theorem V_v2 : V m c main_v2 = (truncf .bf16 (transpose S2x11x1024x256 [1, 2, 0, 3] (shapeCast S1024x2x11x256 (m ((c : Thread nD τ).loc main_arg2) : (⟨S1024x5632, .f32⟩ : BufTy).Contents (Elt Ideal)) shapeCasts_S1024x5632_S1024x2x11x256)
    transposes_S1024x2x11x256_S2x11x1024x256_1_2_0_3 : FVec Ideal S2x11x1024x256 .f32) bitsLt_bf16_f32) := by
  after_reads_simp
  rfl

theorem V_v3 : V m c main_v3 = shapeCast S3x2x11x1x256 (m ((c : Thread nD τ).loc main_arg3) : (⟨S3x5632, .f32⟩ : BufTy).Contents (Elt Ideal)) shapeCasts_S3x5632_S3x2x11x1x256 := by
  after_reads_simp
  rfl

theorem V_v4 : V m c main_v4 = shapeCast S2x11x1x256 (m ((c : Thread nD τ).loc main_arg4) : (⟨S5632, .f32⟩ : BufTy).Contents (Elt Ideal)) shapeCasts_S5632_S2x11x1x256 := by
  after_reads_simp
  rfl

theorem V_v6 : V m c main_v6 = (truncf .bf16 (shapeCast S11x256x1024 (m ((c : Thread nD τ).loc main_arg5) : (⟨S2816x1024, .f32⟩ : BufTy).Contents (Elt Ideal)) shapeCasts_S2816x1024_S11x256x1024 : FVec Ideal S11x256x1024 .f32) bitsLt_bf16_f32) := by
  after_reads_simp
  rfl

theorem V_v7 : V m c main_v7 = shapeCast S1x1024 (m ((c : Thread nD τ).loc main_arg1) : (⟨S1024, .f32⟩ : BufTy).Contents (Elt Ideal)) shapeCasts_S1024_S1x1024 := by
  after_reads_simp
  rfl

theorem V_v8 : V m c main_v8 = shapeCast S1x1024 (m ((c : Thread nD τ).loc main_arg6) : (⟨S1024, .f32⟩ : BufTy).Contents (Elt Ideal)) shapeCasts_S1024_S1x1024 := by
  after_reads_simp
  rfl

/-- The up projection's columns, by half and chunk. -/
theorem up_apply (s : Fin 2) (k : Fin 11) (e : Fin 1024) (l : Fin 256) : V m c main_v2 (ix4 s k e l) = m ((c : Thread nD τ).loc main_arg2) (ix2 e (side s (col k l))) := by
  rw [V_v2]
  refine (transpose_apply (s := S1024x2x11x256) [1, 2, 0, 3]
    (shapeCast S1024x2x11x256 (m ((c : Thread nD τ).loc main_arg2) : (⟨S1024x5632, .f32⟩ : BufTy).Contents (Elt Ideal)) shapeCasts_S1024x5632_S1024x2x11x256) transposes_S1024x2x11x256_S2x11x1024x256_1_2_0_3 (ix4 s k e l) (ix4 e s k l) fun a => ?_).trans ?_
  · match a with
    | ⟨0, _⟩ => rfl
    | ⟨1, _⟩ => rfl
    | ⟨2, _⟩ => rfl
    | ⟨3, _⟩ => rfl
  · refine shapeCast_apply (s := S1024x5632) _ shapeCasts_S1024x5632_S1024x2x11x256 (ix4 e s k l) (ix2 e (side s (col k l))) ?_
    rw [Shape.rowMajor_val_two, Shape.rowMajor_val_four]
    show e.val * 5632 + (s.val * 2816 + (k.val * 256 + l.val)) = ((e.val * 2 + s.val) * 11 + k.val) * 256 + l.val
    omega

/-- The taps, by half and chunk. -/
theorem tap_apply (n : Fin 3) (s : Fin 2) (k : Fin 11) (l : Fin 256) : V m c main_v3 (ix5 n s k (0 : Fin 1) l) = m ((c : Thread nD τ).loc main_arg3) (ix2 n (side s (col k l))) := by
  rw [V_v3]
  refine shapeCast_apply (s := S3x5632) _ shapeCasts_S3x5632_S3x2x11x1x256 (ix5 n s k (0 : Fin 1) l) (ix2 n (side s (col k l))) ?_
  rw [Shape.rowMajor_val_two, Shape.rowMajor_val_five]
  show n.val * 5632 + (s.val * 2816 + (k.val * 256 + l.val)) = (((n.val * 2 + s.val) * 11 + k.val) * 1 + 0) * 256 + l.val
  omega

/-- The biases, by half and chunk. -/
theorem bias_apply (s : Fin 2) (k : Fin 11) (l : Fin 256) : V m c main_v4 (ix4 s k (0 : Fin 1) l) = m ((c : Thread nD τ).loc main_arg4) (ix1 (side s (col k l))) := by
  rw [V_v4]
  refine shapeCast_apply (s := S5632) _ shapeCasts_S5632_S2x11x1x256 (ix4 s k (0 : Fin 1) l) (ix1 (side s (col k l))) ?_
  rw [Shape.rowMajor_val_one, Shape.rowMajor_val_four]
  show s.val * 2816 + (k.val * 256 + l.val) = ((s.val * 11 + k.val) * 1 + 0) * 256 + l.val
  omega

/-- The down projection's rows, by chunk. -/
theorem down_apply (k : Fin 11) (l : Fin 256) (d : Fin 1024) : V m c main_v6 (ix3 k l d) = m ((c : Thread nD τ).loc main_arg5) (ix2 (col k l) d) := by
  rw [V_v6]
  refine shapeCast_apply (s := S2816x1024) _ shapeCasts_S2816x1024_S11x256x1024 (ix3 k l d) (ix2 (col k l) d) ?_
  rw [Shape.rowMajor_val_two, Shape.rowMajor_val_three]
  show (k.val * 256 + l.val) * 1024 + d.val = (k.val * 256 + l.val) * 1024 + d.val
  rfl

/-- The scales. -/
theorem pre_apply (k : Fin 1024) : V m c main_v7 (ix2 (0 : Fin 1) k) = m ((c : Thread nD τ).loc main_arg1) (ix1 k) := by
  rw [V_v7]
  refine shapeCast_apply (s := S1024) _ shapeCasts_S1024_S1x1024 (ix2 (0 : Fin 1) k) (ix1 k) ?_
  rw [Shape.rowMajor_val_one, Shape.rowMajor_val_two]
  show k.val = 0 * 1024 + k.val
  omega

theorem post_apply (k : Fin 1024) : V m c main_v8 (ix2 (0 : Fin 1) k) = m ((c : Thread nD τ).loc main_arg6) (ix1 k) := by
  rw [V_v8]
  refine shapeCast_apply (s := S1024) _ shapeCasts_S1024_S1x1024 (ix2 (0 : Fin 1) k) (ix1 k) ?_
  rw [Shape.rowMajor_val_one, Shape.rowMajor_val_two]
  show k.val = 0 * 1024 + k.val
  omega

end Cert.FfnIdeal.Host

end
-- ==== Proof.FfnArray.lean ====
/-
  The feed-forward kernel's result array after its run: `FfnSpec.array` of the argument arrays, index by index. A grid
  point stores one block of 512 tokens, from its tile of tokens and the rows just before and just after it; the blocks
  tile the array.
-/
module

public import proofs.«01_k».proof.Proof.FfnBlock
public import proofs.«01_k».proof.Proof.FfnHost

@[expose] public section

set_option maxRecDepth 16384

noncomputable section

namespace Cert.FfnIdeal.Array

open Cert.FfnIdeal Cert.FfnIdeal.Gen Cert.FfnIdeal.Body Cert.FfnIdeal.Block Cert.FfnIdeal.Chunk Idealize.ShloMosaic Idealize.ShloMosaic.TcCoe Idealize.ShloMosaic.ValueIdx Cert.FfnSpec
open Idealize.ShloMosaic.Pipeline (Dat)
open scoped BigOperators

/-- Where each moving window's block sits at a grid point. -/
theorem idx_facts : ∀ t : Fin cfg0.N, (win0_9.index t 0 = t.val ∧ win0_9.index t 1 = 0) ∧ (win0_0.index t 0 = t.val ∧ win0_0.index t 1 = 0) ∧ (win0_1.index t 0 = 64 * t.val - 1 ∧ win0_1.index t 1 = 0)
    ∧ (win0_2.index t 0 = min (64 * t.val + 64) 4095 ∧ win0_2.index t 1 = 0) ∧ (grid0.coords t 0).val = t.val :=
  (by decide +kernel : ∀ t : Fin grid0.N, (win0_9.index t 0 = t.val ∧ win0_9.index t 1 = 0) ∧ (win0_0.index t 0 = t.val ∧ win0_0.index t 1 = 0) ∧ (win0_1.index t 0 = 64 * t.val - 1 ∧ win0_1.index t 1 = 0)
    ∧ (win0_2.index t 0 = min (64 * t.val + 64) 4095 ∧ win0_2.index t 1 = 0) ∧ (grid0.coords t 0).val = t.val)

/-- The parameters' windows do not move. -/
theorem idx_still : ∀ t : Fin cfg0.N, (win0_3.index t 0 = 0 ∧ win0_3.index t 1 = 0) ∧ (win0_4.index t 0 = 0 ∧ win0_4.index t 1 = 0 ∧ win0_4.index t 2 = 0 ∧ win0_4.index t 3 = 0) ∧ (win0_5.index t 0 = 0 ∧ win0_5.index t 1 = 0 ∧ win0_5.index t 2 = 0 ∧ win0_5.index t 3 = 0 ∧ win0_5.index t 4 = 0) ∧ (win0_6.index t 0 = 0 ∧ win0_6.index t 1 = 0 ∧ win0_6.index t 2 = 0 ∧ win0_6.index t 3 = 0) ∧ (win0_7.index t 0 = 0 ∧ win0_7.index t 1 = 0 ∧ win0_7.index t 2 = 0) ∧ (win0_8.index t 0 = 0 ∧ win0_8.index t 1 = 0) :=
  (by decide +kernel : ∀ t : Fin grid0.N, (win0_3.index t 0 = 0 ∧ win0_3.index t 1 = 0) ∧ (win0_4.index t 0 = 0 ∧ win0_4.index t 1 = 0 ∧ win0_4.index t 2 = 0 ∧ win0_4.index t 3 = 0) ∧ (win0_5.index t 0 = 0 ∧ win0_5.index t 1 = 0 ∧ win0_5.index t 2 = 0 ∧ win0_5.index t 3 = 0 ∧ win0_5.index t 4 = 0) ∧ (win0_6.index t 0 = 0 ∧ win0_6.index t 1 = 0 ∧ win0_6.index t 2 = 0 ∧ win0_6.index t 3 = 0) ∧ (win0_7.index t 0 = 0 ∧ win0_7.index t 1 = 0 ∧ win0_7.index t 2 = 0) ∧ (win0_8.index t 0 = 0 ∧ win0_8.index t 1 = 0))

variable (m : (ℓ : Loc nD τ sig) → Buf (Elt Ideal) ℓ) (c : Dev nD)

/-- The result array as one function of the arguments. -/
def result : Buf (Elt Ideal) ((c : Thread nD τ).loc main_v9) := fun i =>
  FfnSpec.array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

theorem lt_N (t : Fin cfg0.N) : t.val < 64 := t.isLt

/-! ## The blocks a point reads -/

theorem iblk0_apply (t : Fin cfg0.N) (r : Fin 512) (X : Fin 1024) :
    iblk m c 0 t (ix2 r X) = m ((c : Thread nD τ).loc main_arg0) (ix2 ⟨512 * t.val + r.val, by have := lt_N t; have := r.isLt; omega⟩ X) := by
  obtain ⟨-, ⟨ha, hb⟩, -⟩ := idx_facts t
  refine (congrArg (V m c main_arg0) (funext fun a => Fin.ext ?_)).trans (congrFun (V_main_arg0 m c) _)
  match a with
  | ⟨0, _⟩ => show win0_0.index t 0 * 512 + 1 * r.val = _; rw [ha]; show _ = 512 * t.val + r.val; omega
  | ⟨1, _⟩ => show win0_0.index t 1 * 1024 + 1 * X.val = X.val; rw [hb]; omega

/-- The row before the tile. -/
theorem iblk1_apply (t : Fin cfg0.N) (h : 0 < t.val) (X : Fin 1024) :
    iblk m c 1 t (ix2 (7 : Fin 8) X) = m ((c : Thread nD τ).loc main_arg0) (ix2 ⟨512 * t.val - 1, by have := lt_N t; omega⟩ X) := by
  obtain ⟨-, -, ⟨ha, hb⟩, -⟩ := idx_facts t
  refine (congrArg (V m c main_arg0) (funext fun a => Fin.ext ?_)).trans (congrFun (V_main_arg0 m c) _)
  match a with
  | ⟨0, _⟩ => show win0_1.index t 0 * 8 + 1 * 7 = _; rw [ha]; show _ = 512 * t.val - 1; omega
  | ⟨1, _⟩ => show win0_1.index t 1 * 1024 + 1 * X.val = X.val; rw [hb]; omega

/-- The row after the tile. -/
theorem iblk2_apply (t : Fin cfg0.N) (h : t.val < 63) (X : Fin 1024) :
    iblk m c 2 t (ix2 (0 : Fin 8) X) = m ((c : Thread nD τ).loc main_arg0) (ix2 ⟨512 * t.val + 512, by omega⟩ X) := by
  obtain ⟨-, -, -, ⟨ha, hb⟩, -⟩ := idx_facts t
  refine (congrArg (V m c main_arg0) (funext fun a => Fin.ext ?_)).trans (congrFun (V_main_arg0 m c) _)
  match a with
  | ⟨0, _⟩ => show win0_2.index t 0 * 8 + 1 * 0 = _; rw [ha]; show _ = 512 * t.val + 512; omega
  | ⟨1, _⟩ => show win0_2.index t 1 * 1024 + 1 * X.val = X.val; rw [hb]; omega

theorem iblk3_apply (t : Fin cfg0.N) (y0 : Fin 1) (y1 : Fin 1024) : iblk m c 3 t (ix2 y0 y1) = V m c main_v7 (ix2 y0 y1) := by
  obtain ⟨⟨h0, h1⟩, -⟩ := idx_still t
  refine congrArg (V m c main_v7) (funext fun a => Fin.ext ?_)
  match a with
  | ⟨0, _⟩ => show win0_3.index t 0 * 1 + 1 * y0.val = y0.val; rw [h0]; omega
  | ⟨1, _⟩ => show win0_3.index t 1 * 1024 + 1 * y1.val = y1.val; rw [h1]; omega

theorem iblk4_apply (t : Fin cfg0.N) (y0 : Fin 2) (y1 : Fin 11) (y2 : Fin 1024) (y3 : Fin 256) : iblk m c 4 t (ix4 y0 y1 y2 y3) = V m c main_v2 (ix4 y0 y1 y2 y3) := by
  obtain ⟨-, ⟨h0, h1, h2, h3⟩, -⟩ := idx_still t
  refine congrArg (V m c main_v2) (funext fun a => Fin.ext ?_)
  match a with
  | ⟨0, _⟩ => show win0_4.index t 0 * 2 + 1 * y0.val = y0.val; rw [h0]; omega
  | ⟨1, _⟩ => show win0_4.index t 1 * 11 + 1 * y1.val = y1.val; rw [h1]; omega
  | ⟨2, _⟩ => show win0_4.index t 2 * 1024 + 1 * y2.val = y2.val; rw [h2]; omega
  | ⟨3, _⟩ => show win0_4.index t 3 * 256 + 1 * y3.val = y3.val; rw [h3]; omega

theorem iblk5_apply (t : Fin cfg0.N) (y0 : Fin 3) (y1 : Fin 2) (y2 : Fin 11) (y3 : Fin 1) (y4 : Fin 256) : iblk m c 5 t (ix5 y0 y1 y2 y3 y4) = V m c main_v3 (ix5 y0 y1 y2 y3 y4) := by
  obtain ⟨-, -, ⟨h0, h1, h2, h3, h4⟩, -⟩ := idx_still t
  refine congrArg (V m c main_v3) (funext fun a => Fin.ext ?_)
  match a with
  | ⟨0, _⟩ => show win0_5.index t 0 * 3 + 1 * y0.val = y0.val; rw [h0]; omega
  | ⟨1, _⟩ => show win0_5.index t 1 * 2 + 1 * y1.val = y1.val; rw [h1]; omega
  | ⟨2, _⟩ => show win0_5.index t 2 * 11 + 1 * y2.val = y2.val; rw [h2]; omega
  | ⟨3, _⟩ => show win0_5.index t 3 * 1 + 1 * y3.val = y3.val; rw [h3]; omega
  | ⟨4, _⟩ => show win0_5.index t 4 * 256 + 1 * y4.val = y4.val; rw [h4]; omega

theorem iblk6_apply (t : Fin cfg0.N) (y0 : Fin 2) (y1 : Fin 11) (y2 : Fin 1) (y3 : Fin 256) : iblk m c 6 t (ix4 y0 y1 y2 y3) = V m c main_v4 (ix4 y0 y1 y2 y3) := by
  obtain ⟨-, -, -, ⟨h0, h1, h2, h3⟩, -⟩ := idx_still t
  refine congrArg (V m c main_v4) (funext fun a => Fin.ext ?_)
  match a with
  | ⟨0, _⟩ => show win0_6.index t 0 * 2 + 1 * y0.val = y0.val; rw [h0]; omega
  | ⟨1, _⟩ => show win0_6.index t 1 * 11 + 1 * y1.val = y1.val; rw [h1]; omega
  | ⟨2, _⟩ => show win0_6.index t 2 * 1 + 1 * y2.val = y2.val; rw [h2]; omega
  | ⟨3, _⟩ => show win0_6.index t 3 * 256 + 1 * y3.val = y3.val; rw [h3]; omega

theorem iblk7_apply (t : Fin cfg0.N) (y0 : Fin 11) (y1 : Fin 256) (y2 : Fin 1024) : iblk m c 7 t (ix3 y0 y1 y2) = V m c main_v6 (ix3 y0 y1 y2) := by
  obtain ⟨-, -, -, -, ⟨h0, h1, h2⟩, -⟩ := idx_still t
  refine congrArg (V m c main_v6) (funext fun a => Fin.ext ?_)
  match a with
  | ⟨0, _⟩ => show win0_7.index t 0 * 11 + 1 * y0.val = y0.val; rw [h0]; omega
  | ⟨1, _⟩ => show win0_7.index t 1 * 256 + 1 * y1.val = y1.val; rw [h1]; omega
  | ⟨2, _⟩ => show win0_7.index t 2 * 1024 + 1 * y2.val = y2.val; rw [h2]; omega

theorem iblk8_apply (t : Fin cfg0.N) (y0 : Fin 1) (y1 : Fin 1024) : iblk m c 8 t (ix2 y0 y1) = V m c main_v8 (ix2 y0 y1) := by
  obtain ⟨-, -, -, -, -, h0, h1⟩ := idx_still t
  refine congrArg (V m c main_v8) (funext fun a => Fin.ext ?_)
  match a with
  | ⟨0, _⟩ => show win0_8.index t 0 * 1 + 1 * y0.val = y0.val; rw [h0]; omega
  | ⟨1, _⟩ => show win0_8.index t 1 * 1024 + 1 * y1.val = y1.val; rw [h1]; omega

/-! ## The rows of the extended block -/

/-- The tokens, the first scale, the up projection. -/
abbrev toks (R : Fin 32768) (k : Fin 1024) : EReal := m ((c : Thread nD τ).loc main_arg0) (ix2 R k)
abbrev scl (k : Fin 1024) : EReal := m ((c : Thread nD τ).loc main_arg1) (ix1 k)
abbrev ups (e : Fin 1024) (j : Fin 5632) : EReal := m ((c : Thread nD τ).loc main_arg2) (ix2 e j)

/-- A row of the extended block at a point. -/
def ext (t : Fin cfg0.N) (q : Fin 528) (k : Fin 1024) : EReal :=
  stack (iblk m c 0 t)
    (mulf (iblk m c 1 t : FVec Ideal S8x1024 .f32) (broadcast S8x1024 (Scalar.sitofp (F := Ideal) .f32 (prevWord (BitVec.ofNat 32 (grid0.coords t 0).val)))))
    (mulf (iblk m c 2 t : FVec Ideal S8x1024 .f32) (broadcast S8x1024 (Scalar.sitofp (F := Ideal) .f32 (nextWord (BitVec.ofNat 32 (grid0.coords t 0).val))))) (ix2 q k)

theorem prev_flag (t : Fin cfg0.N) : (Scalar.sitofp (F := Ideal) .f32 (prevWord (BitVec.ofNat 32 (grid0.coords t 0).val)) : EReal) = if t.val % 4 = 0 then 0 else 1 := by
  obtain ⟨-, -, -, -, hg⟩ := idx_facts t
  rw [hg, prevWord_eq ⟨t.val, lt_N t⟩]
  by_cases h : t.val % 4 = 0
  · rw [if_pos h, if_pos h]; exact word_zero
  · rw [if_neg h, if_neg h]; exact word_one

theorem next_flag (t : Fin cfg0.N) : (Scalar.sitofp (F := Ideal) .f32 (nextWord (BitVec.ofNat 32 (grid0.coords t 0).val)) : EReal) = if t.val % 4 = 3 then 0 else 1 := by
  obtain ⟨-, -, -, -, hg⟩ := idx_facts t
  rw [hg, nextWord_eq ⟨t.val, lt_N t⟩]
  by_cases h : t.val % 4 = 3
  · rw [if_pos h, if_pos h]; exact word_zero
  · rw [if_neg h, if_neg h]; exact word_one

theorem flag_zero (p : FVec Ideal S8x1024 .f32) (w : Ideal .f32) (h : w = (0 : EReal)) (r : Fin 8) (k : Fin 1024) : mulf p (broadcast S8x1024 w) (ix2 r k) = (0 : EReal) :=
  (congrArg (fun a : EReal => (p (ix2 r k) : EReal) * a) h).trans (mul_zero _)

theorem flag_one (p : FVec Ideal S8x1024 .f32) (w : Ideal .f32) (h : w = (1 : EReal)) (r : Fin 8) (k : Fin 1024) : mulf p (broadcast S8x1024 w) (ix2 r k) = p (ix2 r k) :=
  (congrArg (fun a : EReal => (p (ix2 r k) : EReal) * a) h).trans (mul_one _)

theorem ext_same (t : Fin cfg0.N) (r : Fin 512) : ext m c t (sameRow r) = toks m c ⟨512 * t.val + r.val, by have := lt_N t; have := r.isLt; omega⟩ :=
  funext fun k => (stack_same _ _ _ r k).trans (iblk0_apply m c t r k)

/-- The row before the tile's first: a sequence's first has none. -/
theorem ext_first (t : Fin cfg0.N) (h : t.val % 4 = 0) : ext m c t ⟨519, by omega⟩ = fun _ => 0 := by
  funext k
  refine (stack_prev _ _ _ k).trans (flag_zero _ _ ((prev_flag t).trans (if_pos h)) 7 k)

theorem ext_prev (t : Fin cfg0.N) (h : ¬ t.val % 4 = 0) : ext m c t ⟨519, by omega⟩ = toks m c ⟨512 * t.val - 1, by have := lt_N t; omega⟩ := by
  funext k
  refine (stack_prev _ _ _ k).trans ((flag_one _ _ ((prev_flag t).trans (if_neg h)) 7 k).trans (iblk1_apply m c t (by omega) k))

/-- The row after the tile's last: a sequence's last has none. -/
theorem ext_last (t : Fin cfg0.N) (h : t.val % 4 = 3) : ext m c t ⟨520, by omega⟩ = fun _ => 0 := by
  funext k
  refine (stack_next _ _ _ k).trans (flag_zero _ _ ((next_flag t).trans (if_pos h)) 0 k)

theorem ext_next (t : Fin cfg0.N) (h : ¬ t.val % 4 = 3) : ext m c t ⟨520, by omega⟩ = toks m c ⟨512 * t.val + 512, by have := lt_N t; omega⟩ := by
  funext k
  refine (stack_next _ _ _ k).trans ((flag_one _ _ ((next_flag t).trans (if_neg h)) 0 k).trans (iblk2_apply m c t (by have := lt_N t; omega) k))

/-- The lane of the token before. -/
theorem before_eq (t : Fin cfg0.N) (r : Fin 512) (j : Fin 5632) :
    up (ext m c t (prevRow r)) (scl m c) (ups m c) j = before (toks m c) (scl m c) (ups m c) ⟨512 * t.val + r.val, by have := lt_N t; have := r.isLt; omega⟩ j := by
  have ht := lt_N t
  have hr := r.isLt
  unfold before
  by_cases h0 : r.val = 0
  · have e : prevRow r = ⟨519, by omega⟩ := dif_pos h0
    rw [e]
    by_cases h4 : t.val % 4 = 0
    · rw [ext_first m c t h4, if_pos (by show (512 * t.val + r.val) % 2048 = 0; omega)]; exact up_zero _ _ _
    · rw [ext_prev m c t h4, if_neg (by show ¬ (512 * t.val + r.val) % 2048 = 0; omega)]
      exact congrArg (fun R => up (toks m c R) (scl m c) (ups m c) j) (Fin.ext (by show 512 * t.val - 1 = 512 * t.val + r.val - 1; omega))
  · have e : prevRow r = sameRow ⟨r.val - 1, by omega⟩ := dif_neg h0
    rw [e, ext_same, if_neg (by show ¬ (512 * t.val + r.val) % 2048 = 0; omega)]
    exact congrArg (fun R => up (toks m c R) (scl m c) (ups m c) j) (Fin.ext (by show 512 * t.val + (r.val - 1) = 512 * t.val + r.val - 1; omega))

/-- The lane of the token after. -/
theorem after_eq (t : Fin cfg0.N) (r : Fin 512) (j : Fin 5632) :
    up (ext m c t (nextRow r)) (scl m c) (ups m c) j = after (toks m c) (scl m c) (ups m c) ⟨512 * t.val + r.val, by have := lt_N t; have := r.isLt; omega⟩ j := by
  have ht := lt_N t
  have hr := r.isLt
  unfold after
  by_cases h0 : r.val = 511
  · have e : nextRow r = ⟨520, by omega⟩ := dif_pos h0
    rw [e]
    by_cases h4 : t.val % 4 = 3
    · rw [ext_last m c t h4, dif_pos (by show (512 * t.val + r.val) % 2048 = 2047; omega)]; exact up_zero _ _ _
    · rw [ext_next m c t h4, dif_neg (by show ¬ (512 * t.val + r.val) % 2048 = 2047; omega)]
      exact congrArg (fun R => up (toks m c R) (scl m c) (ups m c) j) (Fin.ext (by show 512 * t.val + 512 = 512 * t.val + r.val + 1; omega))
  · have e : nextRow r = sameRow ⟨r.val + 1, by omega⟩ := dif_neg h0
    rw [e, ext_same, dif_neg (by show ¬ (512 * t.val + r.val) % 2048 = 2047; omega)]
    exact congrArg (fun R => up (toks m c R) (scl m c) (ups m c) j) (Fin.ext (by show 512 * t.val + (r.val + 1) = 512 * t.val + r.val + 1; omega))

/-! ## The block a point writes -/

/-- The extended block's rows, normalized, at a point. -/
abbrev hid (t : Fin cfg0.N) : FVec Ideal S528x1024 .bf16 := k0_pay10 (grid0.coords t) (iblk m c 0 t) (iblk m c 1 t) (iblk m c 2 t) (iblk m c 3 t)

theorem lane_eq (t : Fin cfg0.N) (q : Fin 528) (s : Fin 2) (k : Fin 11) (l : Fin 256) :
    lane (hid m c t) (iblk m c 4 t) q s k l = up (ext m c t q) (scl m c) (ups m c) (side s (col k l)) :=
  Finset.sum_congr rfl fun e _ => congrArg₂ (fun a b : EReal => a * b)
    ((hidden_apply (grid0.coords t) (iblk m c 0 t) (iblk m c 1 t) (iblk m c 2 t) (iblk m c 3 t) q e).trans
      (congrArg (fun g : Fin 1024 → EReal => FfnSpec.pre (ext m c t q) g e) (funext fun k => (iblk3_apply m c t 0 k).trans (Host.pre_apply m c k))))
    ((iblk4_apply m c t s k e l).trans (Host.up_apply m c s k e l))

theorem mixed_eq (t : Fin cfg0.N) (r : Fin 512) (s : Fin 2) (k : Fin 11) (l : Fin 256) :
    mixed (hid m c t) (iblk m c 4 t) (iblk m c 5 t) (iblk m c 6 t) r s k l
      = conv (toks m c) (scl m c) (ups m c) (fun n j => m ((c : Thread nD τ).loc main_arg3) (ix2 n j)) (fun j => m ((c : Thread nD τ).loc main_arg4) (ix1 j)) ⟨512 * t.val + r.val, by have := lt_N t; have := r.isLt; omega⟩ (side s (col k l)) := by
  unfold mixed conv
  rw [lane_eq, lane_eq, lane_eq, before_eq, after_eq, ext_same, iblk5_apply, iblk5_apply, iblk5_apply, iblk6_apply, Host.tap_apply, Host.tap_apply, Host.tap_apply, Host.bias_apply]

/-- The body's output block at a point, in terms of the argument arrays. -/
theorem point_apply (t : Fin cfg0.N) (r : Fin 512) (X : Fin 1024) :
    out0_9 (grid0.coords t) (iblk m c 0 t) (iblk m c 1 t) (iblk m c 2 t) (iblk m c 3 t) (iblk m c 4 t) (iblk m c 5 t) (iblk m c 6 t) (iblk m c 7 t) (iblk m c 8 t) (ix2 r X)
      = FfnSpec.array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨512 * t.val + r.val, by have := lt_N t; have := r.isLt; omega⟩ X := by
  rw [out_apply]
  refine congrArg₂ (fun a b : EReal => a + b) (iblk0_apply m c t r X) (congrArg₂ (fun a b : EReal => a * b) (congrArg (RowNorm.rms · X) (funext fun d => ?_)) ((iblk8_apply m c t 0 X).trans (Host.post_apply m c X)))
  refine Eq.trans ?_ (sum_col _).symm
  refine Finset.sum_congr rfl fun k _ => Finset.sum_congr rfl fun l _ => ?_
  exact congrArg₂ (fun a b : EReal => a * b) (congrArg₂ glu (mixed_eq m c t r 1 k l) (mixed_eq m c t r 0 k l)) ((iblk7_apply m c t k l d).trans (Host.down_apply m c k l d))

/-- What a point writes back is its block of the result. -/
theorem flushed_eq (t : Fin cfg0.N) : (dats m 0 c).flushed 9 t = ((cfg0.win 9).blk t).view.read (Elt Ideal) (result m c) := by
  rw [flushed9]
  have key : ∀ (r : Fin 512) (X : Fin 1024), out0_9 (grid0.coords t) (iblk m c 0 t) (iblk m c 1 t) (iblk m c 2 t) (iblk m c 3 t) (iblk m c 4 t) (iblk m c 5 t) (iblk m c 6 t) (iblk m c 7 t) (iblk m c 8 t) (ix2 r X)
      = ((cfg0.win 9).blk t).view.read (Elt Ideal) (result m c) (ix2 r X) := fun r X => by
    have ht := lt_N t
    have hr := r.isLt
    refine (point_apply m c t r X).trans ?_
    obtain ⟨⟨ha, hb⟩, -⟩ := idx_facts t
    refine (congrArg₂ (FfnSpec.array _ _ _ _ _ _ _) (Fin.ext ?_) (Fin.ext ?_)).symm
    · show win0_9.index t 0 * 512 + 1 * r.val = 512 * t.val + r.val; rw [ha]; omega
    · show win0_9.index t 1 * 1024 + 1 * X.val = X.val; rw [hb]; omega
  funext y
  have hy : y = (ix2 (y 0) (y 1) : S512x1024.Idx) := eq_ix2 (n0 := 512) (n1 := 1024) y
  exact (congrArg (out0_9 (grid0.coords t) (iblk m c 0 t) (iblk m c 1 t) (iblk m c 2 t) (iblk m c 3 t) (iblk m c 4 t) (iblk m c 5 t) (iblk m c 6 t) (iblk m c 7 t) (iblk m c 8 t)) hy).trans
    ((key (y 0) (y 1)).trans (congrArg (((cfg0.win 9).blk t).view.read (Elt Ideal) (result m c)) hy.symm))

theorem mem_blk (t : Fin cfg0.N) (i : S32768x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v9).slice (win0_9.rect t)).set ↔ _
  rw [View.set_slice_whole, Rect.mem_set_unit]
  exact Iff.rfl

/-- **The result array after the run.** -/
theorem array_eq : (dats m 0 c).arrAt 9 cfg0.N = result m c := by
  refine (dats m 0 c).arrAt_eq_of_cover 9 (result m c) (fun t _ => flushed_eq m c t) fun i => ?_
  have h0 : (i 0).val < 32768 := (i 0).isLt
  have h1 : (i 1).val < 1024 := (i 1).isLt
  let t : Fin cfg0.N := ⟨(i 0).val / 512, by show _ < 64; omega⟩
  obtain ⟨⟨ha, hb⟩, -⟩ := idx_facts t
  refine ⟨t, flush0_9 t, ?_⟩
  rw [mem_blk]
  intro a
  match a with
  | ⟨0, _⟩ =>
    show win0_9.index t 0 * 512 ≤ (i 0).val ∧ (i 0).val < win0_9.index t 0 * 512 + 512
    rw [ha]; show (i 0).val / 512 * 512 ≤ _ ∧ _ < (i 0).val / 512 * 512 + 512; omega
  | ⟨1, _⟩ =>
    show win0_9.index t 1 * 1024 ≤ (i 1).val ∧ (i 1).val < win0_9.index t 1 * 1024 + 1024
    rw [hb]; omega

end Cert.FfnIdeal.Array

end
-- ==== Proof.FfnRef.lean ====
/-
  The feed-forward reference's result at an index: `FfnSpec.array` of its arguments.
-/
module

public import proofs.«01_k».proof.Proof.FfnSpec
public import proofs.«01_k».proof.Proof.Gen.FfnRefIdeal.Read
public import Idealize.ShloMosaic.Lib.KernelVsHost

@[expose] public section

set_option maxRecDepth 16384

noncomputable section

namespace Cert.FfnRefIdeal.Array

open Cert.FfnRefIdeal Cert.FfnRefIdeal.Gen Cert.FfnRefIdeal.Read Idealize.ShloMosaic Idealize.ShloMosaic.TcCoe Idealize.ShloMosaic.ValueIdx Cert.RowNorm Cert.FfnSpec
open scoped BigOperators

variable (x0 : (⟨S32768x1024, .f32⟩ : BufTy).Contents (Elt Ideal)) (x1 : (⟨S1024, .f32⟩ : BufTy).Contents (Elt Ideal)) (x2 : (⟨S1024x5632, .f32⟩ : BufTy).Contents (Elt Ideal))
  (x3 : (⟨S3x5632, .f32⟩ : BufTy).Contents (Elt Ideal)) (x4 : (⟨S5632, .f32⟩ : BufTy).Contents (Elt Ideal)) (x5 : (⟨S2816x1024, .f32⟩ : BufTy).Contents (Elt Ideal))
  (x6 : (⟨S1024, .f32⟩ : BufTy).Contents (Elt Ideal))

theorem zero_word : (FloatOps.ofBits .f32 0x00000000#32 : Ideal .f32) = (0 : EReal) := Ideal.ofBits_zero_f32

/-- Token `t` of sequence `b`. -/
def tok (b : Fin 16) (t : Fin 2048) : Fin 32768 := ⟨b.val * 2048 + t.val, by have := b.isLt; have := t.isLt; omega⟩

/-- The tokens, the first scale, the up projection, the taps, the biases. -/
abbrev toks (R : Fin 32768) (k : Fin 1024) : EReal := x0 (ix2 R k)
abbrev scl (k : Fin 1024) : EReal := x1 (ix1 k)
abbrev ups (e : Fin 1024) (j : Fin 5632) : EReal := x2 (ix2 e j)
abbrev cws (n : Fin 3) (j : Fin 5632) : EReal := x3 (ix2 n j)
abbrev cbs (j : Fin 5632) : EReal := x4 (ix1 j)

theorem tok_apply (b : Fin 16) (t : Fin 2048) (k : Fin 1024) : val_main_v0 (F := Ideal) x0 (ix3 b t k) = x0 (ix2 (tok b t) k) := by
  have hb := b.isLt
  have ht := t.isLt
  have hk := k.isLt
  refine (val_main_v0_apply x0 _).trans (congrArg x0 (funext fun a => Fin.ext ?_))
  match a with
  | ⟨0, _⟩ => show ((b.val * 2048 + t.val) * 1024 + k.val) / 1024 = b.val * 2048 + t.val; omega
  | ⟨1, _⟩ => show ((b.val * 2048 + t.val) * 1024 + k.val) % 1024 = k.val; omega

/-- The normalized row. -/
theorem pre_apply (b : Fin 16) (t : Fin 2048) (k : Fin 1024) : val_main_v13 (F := Ideal) x0 x1 (ix3 b t k) = pre (toks x0 (tok b t)) (scl x1) k := by
  rw [val_main_v13_apply, val_main_v12_apply, val_main_v11_apply, val_main_v10_apply, val_main_v9_apply, val_main_v8_apply, val_main_v7_apply, val_main_v6_apply, val_main_v5_apply,
    val_main_v4_apply, val_main_v3_apply, val_main_v2_apply, val_main_cst_apply, val_main_cst_0_apply, val_main_cst_1_apply, zero_word, zero_add, tok_apply]
  refine congrArg₂ (fun a b : EReal => a * b) (congrArg (fun a : EReal => x0 (ix2 (tok b t) k) * a) ?_) (congrArg x1 (funext fun a => ?_))
  · refine congrArg (fun s : EReal => Ideal.rsqrt (Ideal.div s (Ideal.ofBits .f32 0x44800000#32) + Ideal.ofBits .f32 0x358637BD#32)) (Finset.sum_congr rfl fun e _ => ?_)
    rw [val_main_v1_apply]
    have h : val_main_v0 (F := Ideal) x0 (idx_main_v2 (idx_main_v3 (idx_main_v9 (ix3 b t k))) e) = x0 (ix2 (tok b t) e) :=
      (congrArg (val_main_v0 (F := Ideal) x0) (funext fun a => by
        match a with
        | ⟨0, _⟩ => rfl
        | ⟨1, _⟩ => rfl
        | ⟨2, _⟩ => rfl)).trans (tok_apply x0 b t e)
    rw [h]
    rfl
  · match a with
    | ⟨0, _⟩ => rfl

/-- The row projected up. -/
theorem up_apply (b : Fin 16) (t : Fin 2048) (j : Fin 5632) : val_main_v14 (F := Ideal) x0 x1 x2 (ix3 b t j) = up (toks x0 (tok b t)) (scl x1) (ups x2) j := by
  rw [val_main_v14_apply]
  refine Finset.sum_congr rfl fun e _ => congrArg₂ (fun a b : EReal => a * b) ((congrArg (val_main_v13 (F := Ideal) x0 x1) (funext fun a => ?_)).trans (pre_apply x0 x1 b t e)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The sequences with a row of zeros before and after. -/
theorem pad_inside (b : Fin 16) (t : Fin 2048) (j : Fin 5632) (q : Fin 2050) (hq : q.val = t.val + 1) :
    val_main_v15 (F := Ideal) x0 x1 x2 (ix3 b q j) = up (toks x0 (tok b t)) (scl x1) (ups x2) j := by
  unfold val_main_v15
  refine (pad_apply_of_inside _ _ _ _ _ _ _ (ix3 b q j) (ix3 b t j) fun a => ?_).trans (up_apply x0 x1 x2 b t j)
  match a with
  | ⟨0, _⟩ => show b.val = 0 + b.val * (0 + 1); omega
  | ⟨1, _⟩ => show q.val = 1 + t.val * (0 + 1); omega
  | ⟨2, _⟩ => show j.val = 0 + j.val * (0 + 1); omega

theorem pad_outside (b : Fin 16) (j : Fin 5632) (q : Fin 2050) (hq : q.val = 0 ∨ q.val = 2049) : val_main_v15 (F := Ideal) x0 x1 x2 (ix3 b q j) = (0 : EReal) := by
  unfold val_main_v15
  refine (pad_apply_of_not_inside _ _ _ _ _ _ _ (ix3 b q j) 1 ?_).trans ?_
  · show ¬ (1 ≤ q.val ∧ (q.val - 1) % 1 = 0 ∧ (q.val - 1) / 1 < 2048)
    omega
  · exact sitofp_zero (φ := .f32)

/-- A tap, one for every token. -/
theorem tap0_apply (b : Fin 16) (t : Fin 2048) (j : Fin 5632) : val_main_v20 (F := Ideal) x3 (ix3 b t j) = cws x3 0 j := by
  rw [val_main_v20_apply, val_main_v19_apply, val_main_v18_apply, val_main_v17_apply]
  refine congrArg x3 (funext fun a => Fin.ext ?_)
  match a with
  | ⟨0, _⟩ => rfl
  | ⟨1, _⟩ => exact Nat.mod_eq_of_lt j.isLt

theorem tap1_apply (b : Fin 16) (t : Fin 2048) (j : Fin 5632) : val_main_v26 (F := Ideal) x3 (ix3 b t j) = cws x3 1 j := by
  rw [val_main_v26_apply, val_main_v25_apply, val_main_v24_apply, val_main_v23_apply]
  refine congrArg x3 (funext fun a => Fin.ext ?_)
  match a with
  | ⟨0, _⟩ => rfl
  | ⟨1, _⟩ => exact Nat.mod_eq_of_lt j.isLt

theorem tap2_apply (b : Fin 16) (t : Fin 2048) (j : Fin 5632) : val_main_v33 (F := Ideal) x3 (ix3 b t j) = cws x3 2 j := by
  rw [val_main_v33_apply, val_main_v32_apply, val_main_v31_apply, val_main_v30_apply]
  refine congrArg x3 (funext fun a => Fin.ext ?_)
  match a with
  | ⟨0, _⟩ => rfl
  | ⟨1, _⟩ => exact Nat.mod_eq_of_lt j.isLt

theorem bias_apply (b : Fin 16) (t : Fin 2048) (j : Fin 5632) : val_main_v37 (F := Ideal) x4 (ix3 b t j) = cbs x4 j := by
  rw [val_main_v37_apply, val_main_v36_apply]
  refine congrArg x4 (funext fun a => ?_)
  match a with
  | ⟨0, _⟩ => rfl

/-- The lane of the token before. -/
theorem before_apply (b : Fin 16) (t : Fin 2048) (j : Fin 5632) : val_main_v16 (F := Ideal) x0 x1 x2 (ix3 b t j) = before (toks x0) (scl x1) (ups x2) (tok b t) j := by
  have ht := t.isLt
  have e : idx_main_v16 (ix3 b t j) = ix3 b (⟨t.val, by omega⟩ : Fin 2050) j := funext fun a => by
    match a with
    | ⟨0, _⟩ => rfl
    | ⟨1, _⟩ => rfl
    | ⟨2, _⟩ => rfl
  rw [val_main_v16_apply, e]
  unfold before
  by_cases h : t.val = 0
  · rw [if_pos (by show (b.val * 2048 + t.val) % 2048 = 0; omega)]
    exact pad_outside x0 x1 x2 b j _ (.inl h)
  · rw [if_neg (by show ¬ (b.val * 2048 + t.val) % 2048 = 0; omega)]
    refine (pad_inside x0 x1 x2 b ⟨t.val - 1, by omega⟩ j _ (by show t.val = t.val - 1 + 1; omega)).trans (congrArg (fun R => up (toks x0 R) (scl x1) (ups x2) j) (Fin.ext ?_))
    show b.val * 2048 + (t.val - 1) = b.val * 2048 + t.val - 1
    omega

/-- The lane of the token itself. -/
theorem same_apply (b : Fin 16) (t : Fin 2048) (j : Fin 5632) : val_main_v22 (F := Ideal) x0 x1 x2 (ix3 b t j) = up (toks x0 (tok b t)) (scl x1) (ups x2) j := by
  have ht := t.isLt
  have e : idx_main_v22 (ix3 b t j) = ix3 b (⟨1 + t.val, by omega⟩ : Fin 2050) j := funext fun a => by
    match a with
    | ⟨0, _⟩ => rfl
    | ⟨1, _⟩ => rfl
    | ⟨2, _⟩ => rfl
  rw [val_main_v22_apply, e]
  exact pad_inside x0 x1 x2 b t j _ (Nat.add_comm 1 t.val)

/-- The lane of the token after. -/
theorem after_apply (b : Fin 16) (t : Fin 2048) (j : Fin 5632) : val_main_v29 (F := Ideal) x0 x1 x2 (ix3 b t j) = after (toks x0) (scl x1) (ups x2) (tok b t) j := by
  have ht := t.isLt
  have e : idx_main_v29 (ix3 b t j) = ix3 b (⟨2 + t.val, by omega⟩ : Fin 2050) j := funext fun a => by
    match a with
    | ⟨0, _⟩ => rfl
    | ⟨1, _⟩ => rfl
    | ⟨2, _⟩ => rfl
  rw [val_main_v29_apply, e]
  unfold after
  by_cases h : t.val = 2047
  · rw [dif_pos (by show (b.val * 2048 + t.val) % 2048 = 2047; omega)]
    exact pad_outside x0 x1 x2 b j _ (.inr (by show 2 + t.val = 2049; omega))
  · rw [dif_neg (by show ¬ (b.val * 2048 + t.val) % 2048 = 2047; omega)]
    refine (pad_inside x0 x1 x2 b ⟨t.val + 1, by omega⟩ j _ (by show 2 + t.val = t.val + 1 + 1; omega)).trans (congrArg (fun R => up (toks x0 R) (scl x1) (ups x2) j) (Fin.ext ?_))
    show b.val * 2048 + (t.val + 1) = b.val * 2048 + t.val + 1
    omega

/-- The mixed lane. -/
theorem conv_apply (b : Fin 16) (t : Fin 2048) (j : Fin 5632) :
    val_main_v38 (F := Ideal) x0 x1 x2 x3 x4 (ix3 b t j) = conv (toks x0) (scl x1) (ups x2) (cws x3) (cbs x4) (tok b t) j := by
  rw [val_main_v38_apply, val_main_v35_apply, val_main_v34_apply, val_main_v28_apply, val_main_v27_apply, val_main_v21_apply, before_apply, same_apply, after_apply, tap0_apply, tap1_apply, tap2_apply, bias_apply]
  rfl

/-- The gated lane. -/
theorem hidden_apply (b : Fin 16) (t : Fin 2048) (j : Fin 2816) :
    val_main_v54 (F := Ideal) x0 x1 x2 x3 x4 (ix3 b t j) = FfnSpec.hidden (toks x0) (scl x1) (ups x2) (cws x3) (cbs x4) (tok b t) j := by
  have hv : val_main_v39 (F := Ideal) x0 x1 x2 x3 x4 (ix3 b t j) = conv (toks x0) (scl x1) (ups x2) (cws x3) (cbs x4) (tok b t) (side 0 j) := by
    refine (val_main_v39_apply x0 x1 x2 x3 x4 _).trans ((congrArg (val_main_v38 (F := Ideal) x0 x1 x2 x3 x4) (funext fun a => Fin.ext ?_)).trans (conv_apply x0 x1 x2 x3 x4 b t (side 0 j)))
    match a with
    | ⟨0, _⟩ => rfl
    | ⟨1, _⟩ => rfl
    | ⟨2, _⟩ => show j.val = 0 * 2816 + j.val; omega
  have hg : val_main_v40 (F := Ideal) x0 x1 x2 x3 x4 (ix3 b t j) = conv (toks x0) (scl x1) (ups x2) (cws x3) (cbs x4) (tok b t) (side 1 j) := by
    refine (val_main_v40_apply x0 x1 x2 x3 x4 _).trans ((congrArg (val_main_v38 (F := Ideal) x0 x1 x2 x3 x4) (funext fun a => Fin.ext ?_)).trans (conv_apply x0 x1 x2 x3 x4 b t (side 1 j)))
    match a with
    | ⟨0, _⟩ => rfl
    | ⟨1, _⟩ => rfl
    | ⟨2, _⟩ => show 2816 + j.val = 1 * 2816 + j.val; omega
  rw [val_main_v54_apply, val_main_v53_apply, val_main_v52_apply, val_main_v51_apply, val_main_v50_apply, val_main_v49_apply, val_main_v48_apply, val_main_v47_apply, val_main_v46_apply, val_main_v45_apply,
    val_main_v44_apply, val_main_v43_apply, val_main_v42_apply, val_main_v41_apply, hv, hg, val_main_cst_2_apply, val_main_cst_3_apply, val_main_cst_4_apply, val_main_cst_5_apply]
  unfold FfnSpec.hidden
  generalize conv (toks x0) (scl x1) (ups x2) (cws x3) (cbs x4) (tok b t) (side 1 j) = g
  generalize conv (toks x0) (scl x1) (ups x2) (cws x3) (cbs x4) (tok b t) (side 0 j) = v
  exact congrArg (fun q : EReal => g * (Ideal.ofBits .f32 0x3F000000#32 * (Ideal.ofBits .f32 0x3F800000#32
    + Ideal.tanh (Ideal.ofBits .f32 0x3F4C422A#32 * (g + Ideal.ofBits .f32 0x3D372713#32 * q)))) * v) (mul_comm (g * g) g)

/-- The product projected down. -/
theorem down_apply (b : Fin 16) (t : Fin 2048) (d : Fin 1024) :
    val_main_v55 (F := Ideal) x0 x1 x2 x3 x4 x5 (ix3 b t d) = down (toks x0) (scl x1) (ups x2) (cws x3) (cbs x4) (fun j d => x5 (ix2 j d)) (tok b t) d := by
  rw [val_main_v55_apply]
  refine Finset.sum_congr rfl fun j _ => congrArg₂ (fun a b : EReal => a * b) ((congrArg (val_main_v54 (F := Ideal) x0 x1 x2 x3 x4) (funext fun a => ?_)).trans (hidden_apply x0 x1 x2 x3 x4 b t j)) (congrArg x5 (funext fun a => ?_))
  · match a with
    | ⟨0, _⟩ => rfl
    | ⟨1, _⟩ => rfl
    | ⟨2, _⟩ => rfl
  · match a with
    | ⟨0, _⟩ => rfl
    | ⟨1, _⟩ => rfl

/-- The feed-forward's row. -/
theorem out_apply (b : Fin 16) (t : Fin 2048) (d : Fin 1024) : val_main_v69 (F := Ideal) x0 x1 x2 x3 x4 x5 x6 (ix3 b t d) = FfnSpec.array x0 x1 x2 x3 x4 x5 x6 (tok b t) d := by
  rw [val_main_v69_apply, val_main_v68_apply, val_main_v67_apply, val_main_v66_apply, val_main_v65_apply, val_main_v64_apply, val_main_v63_apply, val_main_v62_apply, val_main_v61_apply, val_main_v60_apply,
    val_main_v59_apply, val_main_v58_apply, val_main_v57_apply, val_main_cst_6_apply, val_main_cst_7_apply, val_main_cst_8_apply, zero_word, zero_add, tok_apply, down_apply]
  refine congrArg (fun a : EReal => x0 (ix2 (tok b t) d) + a) (congrArg₂ (fun a b : EReal => a * b) (congrArg (fun a : EReal => _ * a) ?_) (congrArg x6 (funext fun a => ?_)))
  · refine congrArg (fun s : EReal => Ideal.rsqrt (Ideal.div s (Ideal.ofBits .f32 0x44800000#32) + Ideal.ofBits .f32 0x358637BD#32)) (Finset.sum_congr rfl fun e _ => ?_)
    rw [val_main_v56_apply]
    have h : val_main_v55 (F := Ideal) x0 x1 x2 x3 x4 x5 (idx_main_v57 (idx_main_v58 (idx_main_v64 (ix3 b t d))) e)
        = down (toks x0) (scl x1) (ups x2) (cws x3) (cbs x4) (fun j d => x5 (ix2 j d)) (tok b t) e :=
      (congrArg (val_main_v55 (F := Ideal) x0 x1 x2 x3 x4 x5) (funext fun a => by
        match a with
        | ⟨0, _⟩ => rfl
        | ⟨1, _⟩ => rfl
        | ⟨2, _⟩ => rfl)).trans (down_apply x0 x1 x2 x3 x4 x5 b t e)
    rw [h]
    rfl
  · match a with
    | ⟨0, _⟩ => rfl

/-- **The reference's result.** -/
theorem result_apply (i : S32768x1024.Idx) : val_main_v70 (F := Ideal) x0 x1 x2 x3 x4 x5 x6 i = FfnSpec.array x0 x1 x2 x3 x4 x5 x6 (i 0) (i 1) := by
  have key : ∀ (R : Fin 32768) (d : Fin 1024), val_main_v70 (F := Ideal) x0 x1 x2 x3 x4 x5 x6 (ix2 R d) = FfnSpec.array x0 x1 x2 x3 x4 x5 x6 R d := fun R d => by
    have hR := R.isLt
    have hd := d.isLt
    have e : idx_main_v70 (ix2 R d) = ix3 (⟨R.val / 2048, by omega⟩ : Fin 16) (⟨R.val % 2048, by omega⟩ : Fin 2048) d := funext fun a => Fin.ext (by
      match a with
      | ⟨0, _⟩ => show (R.val * 1024 + d.val) / 2097152 = R.val / 2048; omega
      | ⟨1, _⟩ => show (R.val * 1024 + d.val) / 1024 % 2048 = R.val % 2048; omega
      | ⟨2, _⟩ => show (R.val * 1024 + d.val) % 1024 = d.val; omega)
    rw [val_main_v70_apply, e, out_apply]
    exact congrArg (fun R => FfnSpec.array x0 x1 x2 x3 x4 x5 x6 R d) (Fin.ext (by show R.val / 2048 * 2048 + R.val % 2048 = R.val; omega))
  have hi : i = (ix2 (i 0) (i 1) : S32768x1024.Idx) := eq_ix2 (n0 := 32768) (n1 := 1024) i
  exact (congrArg (val_main_v70 (F := Ideal) x0 x1 x2 x3 x4 x5 x6) hi).trans (key (i 0) (i 1))

end Cert.FfnRefIdeal.Array

end
-- ==== Proof.FfnClaims.lean ====
/-
  The claims about the feed-forward: its frames, and that the kernel and the reference compute one function of any
  arguments.
-/
module

public import proofs.«01_k».proof.Proof.FfnArray
public import proofs.«01_k».proof.Proof.FfnRef
public import proofs.«01_k».proof.Proof.FfnBody
public import proofs.«01_k».proof.Defs

@[expose] public section

noncomputable section

namespace Cert.FfnSpec

open Idealize.ShloMosaic Idealize.SL.Sem

theorem frame_kernel : Cert.quiescent_Ffn := fun m ρ _ => Cert.Ffn.Body.frame m ρ
theorem frame_ideal : Cert.quiescent_FfnIdeal := fun m ρ _ => Cert.FfnIdeal.Body.frame m ρ

/-- The reference's arguments end unchanged; it declares no semaphore. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- **The feed-forward**: the kernel's result is the reference's. -/
theorem algebraic : Cert.algebraic_FfnIdeal_FfnRefIdeal := by
  intro m ρ m' ρ' _ hagree
  refine ⟨fun c => Cert.FfnIdeal.Array.result m c, ?_, ?_⟩
  · exact (θ_run Cert.FfnIdeal.defs _ _).mono (fun r h c => ⟨(h c).1.trans (Cert.FfnIdeal.Array.array_eq m c), (h c).2⟩)
      (Cert.FfnIdeal.Body.run_blocks (F := Ideal) m ρ)
  · refine (θ_run Cert.FfnRefIdeal.defs _ _).mono (fun r h c => ⟨(h c).1.trans ?_, (h c).2⟩) (Cert.FfnRefIdeal.Value.run (F := Ideal) m' ρ')
    rw [Cert.FfnRefIdeal.Read.val_main_v70_eq]
    obtain ⟨h0, h1, h2, h3, h4, h5, h6⟩ := hagree c
    refine (congr (congr (congr (congr (congr (congrArg₂ _ h0 h1) h2) h3) h4) h5) h6).trans ?_
    funext i
    exact Cert.FfnRefIdeal.Array.result_apply _ _ _ _ _ _ _ i

end Cert.FfnSpec

end
-- ==== Proof.InprojSpec.lean ====
/-
  The input projection over the extended reals. The kernel rotates the lanes of a head before it scales them by the
  head's root mean square, with the gains and the query scale inside its tables; the reference normalizes, then rotates,
  then scales. With finite lanes the head's factor is a nonnegative real, so it moves out of the sum of two products,
  whatever the gains and the angles are.
-/
module

public import proofs.«01_k».proof.Proof.RowNorm
public import proofs.«01_k».proof.Proof.Softmax

@[expose] public section

noncomputable section

namespace Cert.InprojSpec

open Idealize.ShloMosaic Cert.RowNorm Cert.Softmax
open scoped BigOperators

/-! ## The words of the constants -/

theorem w1024 : Ideal.ofBits .f32 0x44800000#32 = ((1024 : ℝ) : EReal) := by
  simp [Ideal.ofBits, Ideal.ieee, -EReal.coe_mul]; norm_num
theorem w64 : Ideal.ofBits .f32 0x42800000#32 = ((64 : ℝ) : EReal) := by
  simp [Ideal.ofBits, Ideal.ieee, -EReal.coe_mul]; norm_num
theorem w64th : Ideal.ofBits .f32 0x3C800000#32 = ((1 / 64 : ℝ) : EReal) := by
  simp [Ideal.ofBits, Ideal.ieee, -EReal.coe_mul]; norm_num
theorem w8th : Ideal.ofBits .f32 0x3E000000#32 = ((1 / 8 : ℝ) : EReal) := by
  simp [Ideal.ofBits, Ideal.ieee, -EReal.coe_mul]; norm_num
theorem weps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-! ## A normalizing factor is a nonnegative real -/

/-- One over the root of a nonnegative number's share plus a small one. -/
theorem rsqrt_real {y : EReal} (hy : 0 ≤ y) {c : ℝ} (hc : 0 < c) :
    ∃ r : ℝ, 0 ≤ r ∧ Ideal.rsqrt (Ideal.div y (c : EReal) + Ideal.ofBits .f32 0x358637BD#32) = (r : EReal) := by
  obtain ⟨e, he, hw⟩ := weps
  rw [hw, Ideal.div_coe hc.ne']
  induction y using EReal.rec with
  | bot => simp at hy
  | top =>
    refine ⟨0, le_refl _, ?_⟩
    rw [EReal.top_mul_coe_of_pos (by positivity), EReal.top_add_coe, Ideal.rsqrt_top]; rfl
  | coe a =>
    have ha : 0 ≤ a := EReal.coe_nonneg.1 hy
    have hp : 0 < a * (1 / c) + e := by positivity
    refine ⟨(Real.sqrt (a * (1 / c) + e))⁻¹, by positivity, ?_⟩
    rw [← EReal.coe_mul, ← EReal.coe_add, Ideal.rsqrt_coe, if_neg hp.le.not_gt, if_neg hp.ne']

theorem sq_nonneg (x : EReal) : 0 ≤ x * x := by
  induction x using EReal.rec with
  | bot => simp
  | top => simp
  | coe a => rw [← EReal.coe_mul]; exact EReal.coe_nonneg.2 (mul_self_nonneg a)

/-- A normalized row is real, even where the row is not: a row with an infinite element normalizes to zero. -/
theorem isReal_rms (x : Fin 1024 → EReal) (d : Fin 1024) : IsReal (rms x d) := by
  have h0 : ∀ k ∈ (Finset.univ : Finset (Fin 1024)), 0 ≤ x k * x k := fun k _ => sq_nonneg _
  obtain ⟨r, -, hr⟩ := rsqrt_real (Finset.sum_nonneg h0) (c := 1024) (by norm_num)
  have hs : scale x = (r : EReal) := by unfold scale; rw [w1024]; exact hr
  by_cases hx : x d * x d = ⊤
  · have ht : ∑ k, x k * x k = ⊤ := top_le_iff.1 (hx ▸ Finset.single_le_sum h0 (Finset.mem_univ d))
    have hz : scale x = 0 := by
      obtain ⟨e, -, hw⟩ := weps
      unfold scale
      rw [ht, w1024, hw, Ideal.div_coe (by norm_num), EReal.top_mul_coe_of_pos (by norm_num), EReal.top_add_coe, Ideal.rsqrt_top]
    exact ⟨0, by unfold rms; rw [hz, mul_zero]; rfl⟩
  · have hd : IsReal (x d) := by
      revert hx
      generalize x d = y
      induction y using EReal.rec with
      | bot => simp
      | top => simp
      | coe a => exact fun _ => ⟨a, rfl⟩
    exact hd.mul ⟨r, hs⟩

/-! ## The projection of a row, and a head's rotation -/

/-- A token's normalized row times the norm's scale. -/
def hid (x g : Fin 1024 → EReal) (k : Fin 1024) : EReal := rms x k * g k
/-- One projected column of a token. -/
def proj (x g w : Fin 1024 → EReal) : EReal := ∑ k : Fin 1024, hid x g k * w k

theorem isReal_proj (x : Fin 1024 → EReal) {g w : Fin 1024 → EReal} (hg : ∀ k, IsReal (g k)) (hw : ∀ k, IsReal (w k)) : IsReal (proj x g w) :=
  IsReal.sum _ fun k => ((isReal_rms x k).mul (hg k)).mul (hw k)

/-- The lane a lane is rotated with: the same place in the other half of its axis. -/
def twin (d : Fin 64) : Fin 64 := if h : d.val / 16 % 2 = 0 then ⟨d.val + 16, by have := d.isLt; omega⟩ else ⟨d.val - 16, by omega⟩
/-- The place of a lane among its axis' angles. -/
def place (d : Fin 64) : Fin 16 := ⟨d.val % 16, by omega⟩
/-- A head's normalizing factor. -/
def factor (u : Fin 64 → EReal) : EReal := Ideal.rsqrt (Ideal.div (∑ d : Fin 64, u d * u d) (Ideal.ofBits .f32 0x42800000#32) + Ideal.ofBits .f32 0x358637BD#32)
/-- A normalized lane times its gain. -/
def lane (u g : Fin 64 → EReal) (d : Fin 64) : EReal := u d * factor u * g d

/-- The rotation as the reference spells it: normalized lanes, then the two halves of each axis turned. -/
def turned (C S u g : Fin 64 → EReal) (d : Fin 64) : EReal :=
  if d.val / 16 % 2 = 0 then lane u g d * C d - lane u g (twin d) * S d else lane u g (twin d) * S d + lane u g d * C d

/-- The sine with the sign of the lane's half. -/
def signed (S : Fin 64 → EReal) (d : Fin 64) : EReal := if d.val / 16 % 2 = 0 then -S d else S d

/-- The rotation as the kernel spells it: tables with the gains and the scale in them, then the head's factor. -/
def folded (C S u g : Fin 64 → EReal) (c : EReal) (d : Fin 64) : EReal :=
  (u d * (C d * (g d * c)) + u (twin d) * (signed S d * (g (twin d) * c))) * factor u

theorem isReal_factor (u : Fin 64 → EReal) : ∃ r : ℝ, 0 ≤ r ∧ factor u = (r : EReal) := by
  obtain ⟨r, h0, hr⟩ := rsqrt_real (Finset.sum_nonneg fun k (_ : k ∈ Finset.univ) => sq_nonneg (u k)) (c := 64) (by norm_num)
  exact ⟨r, h0, by unfold factor; rw [w64]; exact hr⟩

/-- **With a nonnegative real scale the two rotations agree**, whatever the lanes, the gains and the angles are. -/
theorem folded_eq (C S u g : Fin 64 → EReal) {c : ℝ} (hc : 0 ≤ c) (d : Fin 64) : folded C S u g (c : EReal) d = turned C S u g d * (c : EReal) := by
  obtain ⟨r, h0, hr⟩ := isReal_factor u
  have dist : ∀ (a b : EReal) {t : ℝ}, 0 ≤ t → (a + b) * (t : EReal) = a * (t : EReal) + b * (t : EReal) := fun a b t ht =>
    EReal.right_distrib_of_nonneg_of_ne_top (EReal.coe_nonneg.2 ht) (EReal.coe_ne_top t) a b
  unfold folded turned signed lane
  rw [hr]
  split
  · rw [dist _ _ h0, sub_eq_add_neg, dist _ _ hc, ← neg_mul, neg_mul (S d), mul_neg, neg_mul, neg_mul, neg_mul]
    congr 1
    · ac_rfl
    · refine congrArg Neg.neg ?_
      ac_rfl
  · rw [dist _ _ h0, dist _ _ hc, add_comm (_ * (r : EReal))]
    congr 1 <;> ac_rfl

/-! ## The kernel's mean of squares: a product of the squares, and of what is left of them, with a matrix of shares -/

/-- A head's lane among the 128 lanes of a pair of heads. -/
def pair (h : Fin 2) (d : Fin 64) : Fin 128 := ⟨h.val * 64 + d.val, by have := h.isLt; have := d.isLt; omega⟩

/-- Over two copies of a pair of heads' lanes, the squares and zeros, weighted by a share where the heads are the same. -/
theorem shares (q z : Fin 128 → EReal) (hz : ∀ l, z l = 0) (h : Fin 2) :
    (∑ e : Fin 256, (if hl : e.val < 128 then q ⟨e.val, hl⟩ else z ⟨e.val - 128, by have := e.isLt; omega⟩)
        * (if e.val / 64 % 2 = h.val then Ideal.ofBits .f32 0x3C800000#32 else Ideal.ofBits .f32 0x00000000#32))
      = Ideal.div (∑ d : Fin 64, q (pair h d)) (Ideal.ofBits .f32 0x42800000#32) := by
  rw [w64, Ideal.div_coe (by norm_num), sum_mul_real _ _ (by norm_num), ← w64th]
  refine (Fin.sum_univ_add (a := 128) (b := 128) _).trans ?_
  have hhi : ∑ i : Fin 128, (if hl : (Fin.natAdd 128 i).val < 128 then q ⟨(Fin.natAdd 128 i).val, hl⟩ else z ⟨(Fin.natAdd 128 i).val - 128, by have := (Fin.natAdd 128 i).isLt; omega⟩)
      * (if (Fin.natAdd 128 i).val / 64 % 2 = h.val then Ideal.ofBits .f32 0x3C800000#32 else Ideal.ofBits .f32 0x00000000#32) = 0 := by
    refine Finset.sum_eq_zero fun i _ => ?_
    rw [dif_neg (by show ¬ 128 + i.val < 128; omega), hz, zero_mul]
  rw [hhi, add_zero]
  refine (Fin.sum_univ_add (a := 64) (b := 64) _).trans ?_
  have one : ∀ (k : Fin 2), ∀ i : Fin 64, ∀ e : Fin 128, e.val = k.val * 64 + i.val →
      (if hl : (Fin.castAdd 128 e).val < 128 then q ⟨(Fin.castAdd 128 e).val, hl⟩ else z ⟨(Fin.castAdd 128 e).val - 128, by have := (Fin.castAdd 128 e).isLt; omega⟩)
        * (if (Fin.castAdd 128 e).val / 64 % 2 = h.val then Ideal.ofBits .f32 0x3C800000#32 else Ideal.ofBits .f32 0x00000000#32)
      = if k = h then q (pair h i) * Ideal.ofBits .f32 0x3C800000#32 else 0 := by
    intro k i e he
    rw [dif_pos (by show e.val < 128; exact e.isLt)]
    have hk := k.isLt; have hi := i.isLt
    by_cases hkh : k = h
    · subst hkh
      rw [if_pos (show (Fin.castAdd 128 e).val / 64 % 2 = k.val by show e.val / 64 % 2 = k.val; omega), if_pos rfl]
      exact congrArg (fun l => q l * _) (Fin.ext he)
    · rw [if_neg (fun hh : (Fin.castAdd 128 e).val / 64 % 2 = h.val => hkh (Fin.ext (by have hh' : e.val / 64 % 2 = h.val := hh; have := h.isLt; omega))), if_neg hkh, Ideal.ofBits_zero_f32, mul_zero]
  rw [Finset.sum_congr rfl fun i _ => one 0 i (Fin.castAdd 64 i) (by show i.val = 0 * 64 + i.val; omega),
    Finset.sum_congr rfl fun i _ => one 1 i (Fin.natAdd 64 i) (by show 64 + i.val = 1 * 64 + i.val; omega)]
  match h with
  | 0 => simp
  | 1 => simp

end Cert.InprojSpec

end
-- ==== Proof.InprojChunk.lean ====
/-
  The input projection's body on one block of tokens, read at an index: the projected columns, and the rotation of a
  pair of heads.
-/
module

public import proofs.«01_k».proof.Proof.InprojSpec
public import proofs.«01_k».proof.Proof.Gen.InprojIdeal.Skeleton
public import Idealize.ShloMosaic.Lib.KernelVsHost

@[expose] public section

set_option maxRecDepth 16384

noncomputable section

namespace Cert.InprojIdeal.Chunk

open Cert.InprojIdeal Cert.InprojIdeal.Gen Idealize.ShloMosaic Idealize.ShloMosaic.ValueIdx Cert.RowNorm Cert.Softmax Cert.InprojSpec
open scoped BigOperators

/-- A cast to the same shape reads the same element. -/
theorem same_apply {s : Shape} {α : Type} (x : s.Idx → α) (h : s.ShapeCasts s) (i : s.Idx) : shapeCast s x h i = x i :=
  shapeCast_apply x h i i rfl

/-- The normalized block. -/
theorem hid_apply (x : FVec Ideal S512x1024 .f32) (g : FVec Ideal S1x1024 .f32) (r : Fin 512) (k : Fin 1024) :
    k0_pay4 (F := Ideal) x g (ix2 r k) = hid (fun k => x (ix2 r k)) (fun k => g (ix2 (0 : Fin 1) k)) k :=
  congrArg₂ (fun a b : EReal => a * b)
    (norm_apply (by decide) x reduces_S512x1024_S512 shapeCasts_S512_S512x1 broadcasts_S512x1_S512x1024 r k)
    ((row_apply (by decide) (shapeCast S1x1024 g shapeCasts_S1x1024_S1x1024) broadcasts_S1x1024_S512x1024 r k).trans
      (same_apply g shapeCasts_S1x1024_S1x1024 (ix2 (0 : Fin 1) k)))

/-- A product of the normalized block with 512 columns. -/
def cols (h : FVec Ideal S512x1024 .bf16) (w : FVec Ideal S1024x512 .bf16) : FVec Ideal S512x512 .f32 :=
  matmul dot_S512x1024_S1024x512_S512x512_1_0_0_1_n_n none h (shapeCast S1024x512 w shapeCasts_S1024x512_S1024x512) (constant S512x512 .f32 0x00000000#32)

theorem cols_apply (x : FVec Ideal S512x1024 .f32) (g : FVec Ideal S1x1024 .f32) (w : FVec Ideal S1024x512 .bf16) (r : Fin 512) (j : Fin 512) :
    cols (k0_pay4 (F := Ideal) x g) w (ix2 r j) = proj (fun k => x (ix2 r k)) (fun k => g (ix2 (0 : Fin 1) k)) (fun e => w (ix2 e j)) :=
  (product_apply _ _ r j).trans (Finset.sum_congr rfl fun e _ => congrArg₂ (fun a b : EReal => a * b) (hid_apply x g r e)
    (same_apply w shapeCasts_S1024x512_S1024x512 (ix2 e j)))

/-- A product of the normalized block with 256 columns. -/
def cols2 (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

theorem cols2_apply (x : FVec Ideal S512x1024 .f32) (g : FVec Ideal S1x1024 .f32) (w : FVec Ideal S1024x256 .bf16) (r : Fin 512) (j : Fin 256) :
    cols2 (k0_pay4 (F := Ideal) x g) w (ix2 r j) = proj (fun k => x (ix2 r k)) (fun k => g (ix2 (0 : Fin 1) k)) (fun e => w (ix2 e j)) :=
  (product_apply _ _ r j).trans (Finset.sum_congr rfl fun e _ => congrArg₂ (fun a b : EReal => a * b) (hid_apply x g r e)
    (same_apply w shapeCasts_S1024x256_S1024x256 (ix2 e j)))

/-- 128 of a block's columns. -/
theorem part_apply {n : ℕ} (u : FVec Ideal ⟨2, ![512, n]⟩ .f32) (o : ℕ) (h : (⟨2, ![512, n]⟩ : Shape).Slices ![0, o] S512x128) (r : Fin 512) (l : Fin 128) (j : Fin n)
    (hj : j.val = o + l.val) : extractStridedSlice S512x128 ![0, o] u h (ix2 r l) = u (ix2 r j) := by
  refine extractStridedSlice_apply _ u _ _ _ fun a => ?_
  match a with
  | ⟨0, _⟩ => show r.val = 0 + r.val; omega
  | ⟨1, _⟩ => exact hj

/-! ## The rotation of a pair of heads -/

/-- Which lanes are in the first half of their axis. -/
def half : IVec S512x128 1 := k0_pay9 32#32 k0_pay5 k0_pay6 k0_pay7 k0_pay8

/-- The half of a lane, computed from its number. -/
def halfOf (b : BitVec 32) : BitVec 1 :=
  let n := Scalar.select (Scalar.cmpi .eq 32#32 0#32) 1#32 32#32
  let q := Scalar.remsi b n
  Scalar.cmpi .slt (Scalar.select (Scalar.andi (Scalar.xori (Scalar.cmpi .slt q 0#32) (Scalar.cmpi .slt n 0#32)) (Scalar.cmpi .ne q 0#32)) (Scalar.addi q 32#32) q) 16#32

theorem half_apply (r : Fin 512) (l : Fin 128) : half (ix2 r l) = if l.val / 16 % 2 = 0 then 1#1 else 0#1 := by
  have h : half (ix2 r l) = halfOf (BitVec.ofNat 32 l.val) := congrArg halfOf (iota_single_apply .tc S512x128 32 1 iota_S512x128_d1_w32 (ix2 r l))
  rw [h]; clear h; revert l; decide +kernel

/-- The lanes' twins. -/
def twins (u : FVec Ideal S512x128 .f32) : FVec Ideal S512x128 .f32 :=
  select half (dynamicRotate 1 112#32 none u rotates_S512x128_d1) (dynamicRotate 1 16#32 none u rotates_S512x128_d1)

theorem twins_apply (u : FVec Ideal S512x128 .f32) (r : Fin 512) (h : Fin 2) (d : Fin 64) : twins u (ix2 r (pair h d)) = u (ix2 r (pair h (twin d))) := by
  unfold twins
  rw [select_apply, half_apply]
  have hh := h.isLt; have hd := d.isLt
  have e : (pair h d).val = h.val * 64 + d.val := rfl
  by_cases hp : d.val / 16 % 2 = 0
  · have ht : (twin d).val = d.val + 16 := by unfold twin; rw [dif_pos hp]
    rw [if_pos (show (pair h d).val / 16 % 2 = 0 by rw [e]; omega)]
    refine (if_pos rfl).trans (dynamicRotate_apply 1 _ u rotates_S512x128_d1 (ix2 r (pair h d)) (ix2 r (pair h (twin d))) fun b => ?_)
    match b with
    | ⟨0, _⟩ => rfl
    | ⟨1, _⟩ => show h.val * 64 + (twin d).val = (h.val * 64 + d.val + 128 - 112 % 128) % 128; rw [ht]; omega
  · have ht : (twin d).val = d.val - 16 := by unfold twin; rw [dif_neg hp]
    rw [if_neg (show ¬ (pair h d).val / 16 % 2 = 0 by rw [e]; omega)]
    refine (if_neg (by decide : ¬ (0#1 : BitVec 1) = 1#1)).trans (dynamicRotate_apply 1 _ u rotates_S512x128_d1 (ix2 r (pair h d)) (ix2 r (pair h (twin d))) fun b => ?_)
    match b with
    | ⟨0, _⟩ => rfl
    | ⟨1, _⟩ => show h.val * 64 + (twin d).val = (h.val * 64 + d.val + 128 - 16 % 128) % 128; rw [ht]; omega

/-- The squares, and what a cast leaves of them, side by side. -/
def squares (u : FVec Ideal S512x128 .f32) : FVec Ideal S512x256 .bf16 :=
  concatenate S512x256 1 [⟨S512x128, truncf .bf16 (mulf u u) bitsLt_bf16_f32⟩,
    ⟨S512x128, truncf .bf16 (subf (mulf u u) (extf .f32 (truncf .bf16 (mulf u u) bitsLt_bf16_f32) bitsLt_bf16_f32)) bitsLt_bf16_f32⟩] concatenates_S512x128_S512x128_S512x256_d1

theorem squares_apply (u : FVec Ideal S512x128 .f32) (r : Fin 512) (e : Fin 256) :
    squares u (ix2 r e) = if hl : e.val < 128 then (u (ix2 r (⟨e.val, hl⟩ : Fin 128)) * u (ix2 r (⟨e.val, hl⟩ : Fin 128)) : EReal)
      else (u (ix2 r (⟨e.val - 128, by have := e.isLt; omega⟩ : Fin 128)) * u (ix2 r (⟨e.val - 128, by have := e.isLt; omega⟩ : Fin 128))
        - u (ix2 r (⟨e.val - 128, by have := e.isLt; omega⟩ : Fin 128)) * u (ix2 r (⟨e.val - 128, by have := e.isLt; omega⟩ : Fin 128)) : EReal) := by
  unfold squares
  split
  · next hl =>
    refine concatenate_apply_piece 1 [⟨S512x128, truncf .bf16 (mulf u u) bitsLt_bf16_f32⟩,
      ⟨S512x128, truncf .bf16 (subf (mulf u u) (extf .f32 (truncf .bf16 (mulf u u) bitsLt_bf16_f32) bitsLt_bf16_f32)) bitsLt_bf16_f32⟩] _ (ix2 r e)
      0 (by show 0 < 2; omega) S512x128 _ rfl rfl 0 rfl (ix2 r (⟨e.val, hl⟩ : Fin 128)) (fun b hb => ?_) ?_
    · match b, hb with
      | ⟨0, _⟩, _ => rfl
      | ⟨1, _⟩, hb => exact absurd rfl hb
    · show 0 + e.val = e.val; omega
  · next hl =>
    refine concatenate_apply_piece 1 [⟨S512x128, truncf .bf16 (mulf u u) bitsLt_bf16_f32⟩,
      ⟨S512x128, truncf .bf16 (subf (mulf u u) (extf .f32 (truncf .bf16 (mulf u u) bitsLt_bf16_f32) bitsLt_bf16_f32)) bitsLt_bf16_f32⟩] _ (ix2 r e)
      1 (by show 1 < 2; omega) S512x128 _ rfl rfl 128 rfl (ix2 r (⟨e.val - 128, by have := e.isLt; omega⟩ : Fin 128)) (fun b hb => ?_) ?_
    · match b, hb with
      | ⟨0, _⟩, _ => rfl
      | ⟨1, _⟩, hb => exact absurd rfl hb
    · show 128 + (e.val - 128) = e.val; omega

/-- The mean square of each lane's head. -/
def means (u : FVec Ideal S512x128 .f32) (w : FVec Ideal S256x128 .bf16) : FVec Ideal S512x128 .f32 :=
  matmul dot_S512x256_S256x128_S512x128_1_0_0_1_n_n none (squares u) (shapeCast S256x128 w shapeCasts_S256x128_S256x128) (constant S512x128 .f32 0x00000000#32)

theorem means_apply (u : FVec Ideal S512x128 .f32) (w : FVec Ideal S256x128 .bf16)
    (hw : ∀ (e : Fin 256) (l : Fin 128), w (ix2 e l) = if e.val / 64 % 2 = l.val / 64 then Ideal.ofBits .f32 0x3C800000#32 else Ideal.ofBits .f32 0x00000000#32)
    (r : Fin 512) (hu : ∀ l : Fin 128, IsReal (u (ix2 r l))) (h : Fin 2) (d : Fin 64) :
    means u w (ix2 r (pair h d)) = Ideal.div (∑ d : Fin 64, u (ix2 r (pair h d)) * u (ix2 r (pair h d))) (Ideal.ofBits .f32 0x42800000#32) := by
  refine (product_apply _ _ r (pair h d)).trans (Eq.trans (Finset.sum_congr rfl fun e _ => ?_)
    (shares (fun l => (u (ix2 r l) * u (ix2 r l) : EReal)) (fun l => (u (ix2 r l) * u (ix2 r l) - u (ix2 r l) * u (ix2 r l) : EReal)) (fun l => ?_) h))
  · refine congrArg₂ (fun a b : EReal => a * b) (squares_apply u r e) ((same_apply w shapeCasts_S256x128_S256x128 (ix2 e (pair h d))).trans ((hw e (pair h d)).trans ?_))
    have hq : (pair h d).val / 64 = h.val := by show (h.val * 64 + d.val) / 64 = h.val; have := d.isLt; omega
    rw [hq]
  · obtain ⟨a, ha⟩ := hu l
    have ha' : (u (ix2 r l) : EReal) = (a : EReal) := ha
    show (u (ix2 r l) * u (ix2 r l) - u (ix2 r l) * u (ix2 r l) : EReal) = 0
    rw [ha', ← EReal.coe_mul, ← EReal.coe_sub, sub_self]; rfl

/-- A pair of heads rotated by the tables and scaled by the heads' factors. -/
def rotated (u : FVec Ideal S512x128 .f32) (w : FVec Ideal S256x128 .bf16) (c s : FVec Ideal S512x128 .f32) : FVec Ideal S512x128 .bf16 :=
  truncf .bf16 (mulf (addf (mulf u (shapeCast S512x128 c shapeCasts_S512x128_S512x128)) (mulf (twins u) (shapeCast S512x128 s shapeCasts_S512x128_S512x128)))
    (rsqrt (addf (means u w) (broadcast S512x128 (Scalar.ofBits .f32 0x358637BD#32 : Ideal .f32))))) bitsLt_bf16_f32

theorem rotated_apply (u : FVec Ideal S512x128 .f32) (w : FVec Ideal S256x128 .bf16) (c s : FVec Ideal S512x128 .f32)
    (hw : ∀ (e : Fin 256) (l : Fin 128), w (ix2 e l) = if e.val / 64 % 2 = l.val / 64 then Ideal.ofBits .f32 0x3C800000#32 else Ideal.ofBits .f32 0x00000000#32)
    (r : Fin 512) (hu : ∀ l : Fin 128, IsReal (u (ix2 r l))) (h : Fin 2) (d : Fin 64) (C S g : Fin 64 → EReal) (k : EReal)
    (hc : c (ix2 r (pair h d)) = C d * (g d * k)) (hs : s (ix2 r (pair h d)) = signed S d * (g (twin d) * k)) :
    rotated u w c s (ix2 r (pair h d)) = folded C S (fun d => u (ix2 r (pair h d))) g k d := by
  refine congrArg₂ (fun a b : EReal => a * b) (congrArg₂ (fun a b : EReal => a + b)
    (congrArg (fun a : EReal => u (ix2 r (pair h d)) * a) ((same_apply c shapeCasts_S512x128_S512x128 _).trans hc))
    (congrArg₂ (fun a b : EReal => a * b) (twins_apply u r h d) ((same_apply s shapeCasts_S512x128_S512x128 _).trans hs))) ?_
  exact congrArg (fun a : EReal => Ideal.rsqrt (a + Ideal.ofBits .f32 0x358637BD#32)) (means_apply u w hw r hu h d)

/-! ## The body's stored values, as these -/

variable (h : FVec Ideal S512x1024 .bf16) (w : FVec Ideal S1024x512 .bf16) (v : FVec Ideal S1024x256 .bf16) (o : FVec Ideal S256x128 .bf16) (c s : FVec Ideal S512x128 .f32)

theorem pair0_eq : k0_pay11 h 32#32 k0_pay5 k0_pay6 k0_pay7 k0_pay8 w o c s = rotated (extractStridedSlice S512x128 ![0, 0] (cols h w) slices_S512x512_o0_0_S512x128) o c s := rfl
theorem pair1_eq : k0_pay16 (k0_pay9 32#32 k0_pay5 k0_pay6 k0_pay7 k0_pay8) (k0_pay12 h w) (k0_pay14 h w) (k0_pay15 h w) o c s
    = rotated (extractStridedSlice S512x128 ![0, 128] (cols h w) slices_S512x512_o0_128_S512x128) o c s := rfl
theorem pair2_eq : k0_pay22 (k0_pay18 (k0_pay10 h w) o) (k0_pay19 (k0_pay9 32#32 k0_pay5 k0_pay6 k0_pay7 k0_pay8) (k0_pay10 h w)) (k0_pay20 s) (k0_pay21 (k0_pay10 h w) c)
    = rotated (extractStridedSlice S512x128 ![0, 256] (cols h w) slices_S512x512_o0_256_S512x128) o c s := rfl
theorem pair3_eq : k0_pay23 (k0_pay9 32#32 k0_pay5 k0_pay6 k0_pay7 k0_pay8) (k0_pay10 h w) o c s
    = rotated (extractStridedSlice S512x128 ![0, 384] (cols h w) slices_S512x512_o0_384_S512x128) o c s := rfl
theorem key_eq : k0_pay28 (k0_pay9 32#32 k0_pay5 k0_pay6 k0_pay7 k0_pay8) (k0_pay25 h v) (k0_pay26 h v) (k0_pay27 h v) o c s
    = rotated (extractStridedSlice S512x128 ![0, 0] (cols2 h v) slices_S512x256_o0_0_S512x128) o c s := rfl
theorem val_eq : k0_pay29 (k0_pay24 h v) = (truncf .bf16 (extractStridedSlice S512x128 ![0, 128] (cols2 h v) slices_S512x256_o0_128_S512x128) bitsLt_bf16_f32 : FVec Ideal S512x128 .bf16) := rfl
theorem up_eq : k0_pay30 h w = cols h w := rfl
theorem qc_eq : k0_pay1 (k0_pay31 h w) k0_pay32 = (truncf .bf16 (mulf (cols h w) (broadcast S512x512 (Scalar.ofBits .f32 0x3E000000#32 : Ideal .f32))) bitsLt_bf16_f32 : FVec Ideal S512x512 .bf16) := rfl
theorem kc_eq : k0_pay2 h w = (truncf .bf16 (cols h w) bitsLt_bf16_f32 : FVec Ideal S512x512 .bf16) := rfl
theorem vc_eq : k0_pay3 h w = (truncf .bf16 (cols h w) bitsLt_bf16_f32 : FVec Ideal S512x512 .bf16) := rfl

end Cert.InprojIdeal.Chunk

end
-- ==== Proof.InprojHost.lean ====
/-
  The input projection's host arrays read at an index: the projection's columns in the order the kernel takes them, the
  rotation's tables with the gains and the query scale in them, and the table of head shares.
-/
module

public import proofs.«01_k».proof.Proof.InprojSpec
public import proofs.«01_k».proof.Proof.Gen.InprojIdeal.Value
public import proofs.«01_k».proof.Proof.Gen.InprojRefIdeal.Read
public import Idealize.ShloMosaic.Lib.StableHlo.RunRead
public import Idealize.ShloMosaic.Lib.KernelVsHost

@[expose] public section

set_option maxRecDepth 16384

noncomputable section

namespace Cert.InprojIdeal.Host

open Cert.InprojIdeal Cert.InprojIdeal.Gen Idealize.ShloMosaic Idealize.ShloMosaic.TcCoe Idealize.ShloMosaic.ValueIdx Cert.InprojSpec

/-- The cosines and the sines of the row angles and of the column angles, a token by a place. -/
def cosRow : FVec Ideal S2048x16 .f32 := Cert.InprojRefIdeal.Read.val_main_v69 (F := Ideal)
def sinRow : FVec Ideal S2048x16 .f32 := Cert.InprojRefIdeal.Read.val_main_v71 (F := Ideal)
def cosCol : FVec Ideal S2048x16 .f32 := Cert.InprojRefIdeal.Read.val_main_v107 (F := Ideal)
def sinCol : FVec Ideal S2048x16 .f32 := Cert.InprojRefIdeal.Read.val_main_v109 (F := Ideal)

/-- A lane's cosine at a token: the row's angle in the first half of the lanes, the column's in the second. -/
def cosAt (p : Fin 2048) (d : Fin 64) : EReal := if d.val < 32 then cosRow (ix2 p (place d)) else cosCol (ix2 p (place d))
/-- A lane's sine at a token. -/
def sinAt (p : Fin 2048) (d : Fin 64) : EReal := if d.val < 32 then sinRow (ix2 p (place d)) else sinCol (ix2 p (place d))

/-! ## The tables -/

section Generic

variable {R A B N : ℕ}

/-- Two matrices side by side, read in the left one. -/
theorem side_left (x : FVec Ideal ⟨2, ![R, A]⟩ .f32) (y : FVec Ideal ⟨2, ![R, B]⟩ .f32) (h : Shape.Concatenates [⟨2, ![R, A]⟩, ⟨2, ![R, B]⟩] ⟨2, ![R, N]⟩ 1)
    (r : Fin R) (j : Fin N) (i : Fin A) (hj : i.val = j.val) :
    concatenate (⟨2, ![R, N]⟩ : Shape) 1 [⟨⟨2, ![R, A]⟩, x⟩, ⟨⟨2, ![R, B]⟩, y⟩] h (ix2 r j) = x (ix2 r i) := by
  refine concatenate_apply_piece 1 [⟨⟨2, ![R, A]⟩, x⟩, ⟨⟨2, ![R, B]⟩, y⟩] h (ix2 r j) 0 (by show 0 < 2; omega) ⟨2, ![R, A]⟩ x rfl rfl 0 rfl (ix2 r i) (fun b hb => ?_) ?_
  · match b, hb with
    | ⟨0, _⟩, _ => rfl
    | ⟨1, _⟩, hb => exact absurd rfl hb
  · show 0 + i.val = j.val; omega

/-- Two matrices side by side, read in the right one. -/
theorem side_right (x : FVec Ideal ⟨2, ![R, A]⟩ .f32) (y : FVec Ideal ⟨2, ![R, B]⟩ .f32) (h : Shape.Concatenates [⟨2, ![R, A]⟩, ⟨2, ![R, B]⟩] ⟨2, ![R, N]⟩ 1)
    (r : Fin R) (j : Fin N) (i : Fin B) (hj : A + i.val = j.val) :
    concatenate (⟨2, ![R, N]⟩ : Shape) 1 [⟨⟨2, ![R, A]⟩, x⟩, ⟨⟨2, ![R, B]⟩, y⟩] h (ix2 r j) = y (ix2 r i) := by
  refine concatenate_apply_piece 1 [⟨⟨2, ![R, A]⟩, x⟩, ⟨⟨2, ![R, B]⟩, y⟩] h (ix2 r j) 1 (by show 1 < 2; omega) ⟨2, ![R, B]⟩ y rfl rfl A rfl (ix2 r i) (fun b hb => ?_) ?_
  · match b, hb with
    | ⟨0, _⟩, _ => rfl
    | ⟨1, _⟩, hb => exact absurd rfl hb
  · exact hj

end Generic

/-- Four blocks of 16 lanes, two a row angle and two a column angle. -/
def four (a b c d : FVec Ideal S2048x16 .f32) : FVec Ideal S2048x64 .f32 :=
  concatenate S2048x64 1 [⟨S2048x32, concatenate S2048x32 1 [⟨S2048x16, a⟩, ⟨S2048x16, b⟩] concatenates_S2048x16_S2048x16_S2048x32_d1⟩,
    ⟨S2048x32, concatenate S2048x32 1 [⟨S2048x16, c⟩, ⟨S2048x16, d⟩] concatenates_S2048x16_S2048x16_S2048x32_d1⟩] concatenates_S2048x32_S2048x32_S2048x64_d1

theorem four_apply (a b c d : FVec Ideal S2048x16 .f32) (p : Fin 2048) (l : Fin 64) :
    four a b c d (ix2 p l) = if l.val / 16 % 2 = 0 then (if l.val < 32 then a (ix2 p (place l)) else c (ix2 p (place l)))
      else (if l.val < 32 then b (ix2 p (place l)) else d (ix2 p (place l))) := by
  have hl := l.isLt
  have hp : (place l).val = l.val % 16 := rfl
  unfold four
  by_cases h1 : l.val < 32
  · rw [if_pos h1, if_pos h1]
    refine (side_left _ _ concatenates_S2048x32_S2048x32_S2048x64_d1 p l ⟨l.val, h1⟩ rfl).trans ?_
    by_cases h0 : l.val / 16 % 2 = 0
    · rw [if_pos h0]
      exact side_left a b concatenates_S2048x16_S2048x16_S2048x32_d1 p ⟨l.val, h1⟩ (place l) (by rw [hp]; show _ = l.val; omega)
    · rw [if_neg h0]
      exact side_right a b concatenates_S2048x16_S2048x16_S2048x32_d1 p ⟨l.val, h1⟩ (place l) (by rw [hp]; show _ = l.val; omega)
  · rw [if_neg h1, if_neg h1]
    refine (side_right _ _ concatenates_S2048x32_S2048x32_S2048x64_d1 p l ⟨l.val - 32, by omega⟩ (by show 32 + (l.val - 32) = l.val; omega)).trans ?_
    by_cases h0 : l.val / 16 % 2 = 0
    · rw [if_pos h0]
      exact side_left c d concatenates_S2048x16_S2048x16_S2048x32_d1 p ⟨l.val - 32, by omega⟩ (place l) (by rw [hp]; show _ = l.val - 32; omega)
    · rw [if_neg h0]
      exact side_right c d concatenates_S2048x16_S2048x16_S2048x32_d1 p ⟨l.val - 32, by omega⟩ (place l) (by rw [hp]; show _ = l.val - 32; omega)

/-- The cosines of all the lanes. -/
theorem cos_apply (p : Fin 2048) (l : Fin 64) : four cosRow cosRow cosCol cosCol (ix2 p l) = cosAt p l := by
  rw [four_apply]; unfold cosAt; split <;> rfl

/-- The signed sines of all the lanes. -/
theorem sin_apply (p : Fin 2048) (l : Fin 64) : four (Host.negf sinRow) sinRow (Host.negf sinCol) sinCol (ix2 p l) = signed (sinAt p) l := by
  rw [four_apply]; unfold signed sinAt; split <;> split <;> rfl

/-- The gains, each lane's at its twin. -/
def swap (g : FVec Ideal S64 .f32) : FVec Ideal S64 .f32 :=
  concatenate S64 0 [⟨S16, extractStridedSlice S16 ![16] g slices_S64_S16_16⟩, ⟨S16, extractStridedSlice S16 ![0] g slices_S64_S16_0⟩,
    ⟨S16, extractStridedSlice S16 ![48] g slices_S64_S16_48⟩, ⟨S16, extractStridedSlice S16 ![32] g slices_S64_S16_32⟩] concatenates_S16_S16_S16_S16_S64_d0

theorem cut_apply (g : FVec Ideal S64 .f32) (o : ℕ) (h : S64.Slices ![o] S16) (i : Fin 16) (j : Fin 64) (hj : j.val = o + i.val) :
    extractStridedSlice S16 ![o] g h (ix1 i) = g (ix1 j) := by
  refine extractStridedSlice_apply _ g _ _ _ fun a => ?_
  match a with
  | ⟨0, _⟩ => exact hj

theorem swap_apply (g : FVec Ideal S64 .f32) (l : Fin 64) : swap g (ix1 l) = g (ix1 (twin l)) := by
  have hl := l.isLt
  have hp : (place l).val = l.val % 16 := rfl
  have ht : (twin l).val = if l.val / 16 % 2 = 0 then l.val + 16 else l.val - 16 := by unfold twin; split <;> rfl
  have hq : l.val / 16 = 0 ∨ l.val / 16 = 1 ∨ l.val / 16 = 2 ∨ l.val / 16 = 3 := by omega
  unfold swap
  rcases hq with h | h | h | h
  · refine (concatenate_apply_piece 0 [⟨S16, extractStridedSlice S16 ![16] g slices_S64_S16_16⟩, ⟨S16, extractStridedSlice S16 ![0] g slices_S64_S16_0⟩,
      ⟨S16, extractStridedSlice S16 ![48] g slices_S64_S16_48⟩, ⟨S16, extractStridedSlice S16 ![32] g slices_S64_S16_32⟩] _ (ix1 l)
      0 (by show 0 < 4; omega) S16 _ rfl rfl 0 rfl (ix1 (place l)) (fun b hb => ?_) (by show 0 + (place l).val = l.val; omega)).trans
      (cut_apply g 16 _ (place l) (twin l) (by rw [ht, hp, h]; simp; omega))
    match b, hb with
    | ⟨0, _⟩, hb => exact absurd rfl hb
  · refine (concatenate_apply_piece 0 [⟨S16, extractStridedSlice S16 ![16] g slices_S64_S16_16⟩, ⟨S16, extractStridedSlice S16 ![0] g slices_S64_S16_0⟩,
      ⟨S16, extractStridedSlice S16 ![48] g slices_S64_S16_48⟩, ⟨S16, extractStridedSlice S16 ![32] g slices_S64_S16_32⟩] _ (ix1 l)
      1 (by show 1 < 4; omega) S16 _ rfl rfl 16 rfl (ix1 (place l)) (fun b hb => ?_) (by show 16 + (place l).val = l.val; omega)).trans
      (cut_apply g 0 _ (place l) (twin l) (by rw [ht, hp, h]; simp; omega))
    match b, hb with
    | ⟨0, _⟩, hb => exact absurd rfl hb
  · refine (concatenate_apply_piece 0 [⟨S16, extractStridedSlice S16 ![16] g slices_S64_S16_16⟩, ⟨S16, extractStridedSlice S16 ![0] g slices_S64_S16_0⟩,
      ⟨S16, extractStridedSlice S16 ![48] g slices_S64_S16_48⟩, ⟨S16, extractStridedSlice S16 ![32] g slices_S64_S16_32⟩] _ (ix1 l)
      2 (by show 2 < 4; omega) S16 _ rfl rfl 32 rfl (ix1 (place l)) (fun b hb => ?_) (by show 32 + (place l).val = l.val; omega)).trans
      (cut_apply g 48 _ (place l) (twin l) (by rw [ht, hp, h]; simp; omega))
    match b, hb with
    | ⟨0, _⟩, hb => exact absurd rfl hb
  · refine (concatenate_apply_piece 0 [⟨S16, extractStridedSlice S16 ![16] g slices_S64_S16_16⟩, ⟨S16, extractStridedSlice S16 ![0] g slices_S64_S16_0⟩,
      ⟨S16, extractStridedSlice S16 ![48] g slices_S64_S16_48⟩, ⟨S16, extractStridedSlice S16 ![32] g slices_S64_S16_32⟩] _ (ix1 l)
      3 (by show 3 < 4; omega) S16 _ rfl rfl 48 rfl (ix1 (place l)) (fun b hb => ?_) (by show 48 + (place l).val = l.val; omega)).trans
      (cut_apply g 32 _ (place l) (twin l) (by rw [ht, hp, h]; simp; omega))
    match b, hb with
    | ⟨0, _⟩, hb => exact absurd rfl hb

/-- A table times the gains times a constant, laid out twice. -/
def table (A : FVec Ideal S2048x64 .f32) (g : FVec Ideal S64 .f32) (w : BitVec 32) : FVec Ideal S2048x128 .f32 :=
  shapeCast S2048x128 (broadcastInDim S1x2048x2x64 ![0, 1, 2, 3] bcast_S1x2048x1x64_S1x2048x2x64_0_1_2_3 (shapeCast S1x2048x1x64
    (mulf A (broadcastInDim S2048x64 ![0, 1] bcast_S1x64_S2048x64_0_1 (broadcastInDim S1x64 ![1] bcast_S64_S1x64_1
      (mulf g (broadcastInDim S64 ![] bcast_S_S64 (constant (F := Ideal) S_ .f32 w)))))) shapeCasts_S2048x64_S1x2048x1x64)) shapeCasts_S1x2048x2x64_S2048x128

theorem gains_apply (g : FVec Ideal S64 .f32) (w : BitVec 32) (p : Fin 2048) (d : Fin 64) :
    broadcastInDim S2048x64 ![0, 1] bcast_S1x64_S2048x64_0_1 (broadcastInDim S1x64 ![1] bcast_S64_S1x64_1
      (mulf g (broadcastInDim S64 ![] bcast_S_S64 (constant (F := Ideal) S_ .f32 w)))) (ix2 p d) = (g (ix1 d) * Ideal.ofBits .f32 w : EReal) := by
  refine (broadcastInDim_apply _ _ _ _ (ix2 (0 : Fin 1) d) fun a => ?_).trans ((broadcastInDim_apply _ _ _ _ (ix1 d) fun a => ?_).trans ?_)
  · match a with
    | ⟨0, _⟩ => rfl
    | ⟨1, _⟩ => rfl
  · match a with
    | ⟨0, _⟩ => rfl
  rfl

/-- A table laid out twice. -/
def twice (B : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 B shapeCasts_S2048x64_S1x2048x1x64)) shapeCasts_S1x2048x2x64_S2048x128

theorem twice_apply (B : FVec Ideal S2048x64 .f32) (p : Fin 2048) (h : Fin 2) (d : Fin 64) : twice B (ix2 p (pair h d)) = B (ix2 p d) := by
  unfold twice
  generalize hC : broadcastInDim S1x2048x2x64 ![0, 1, 2, 3] bcast_S1x2048x1x64_S1x2048x2x64_0_1_2_3 (shapeCast S1x2048x1x64 B shapeCasts_S2048x64_S1x2048x1x64) = C
  refine (shapeCast_apply C _ _ (ix4 (0 : Fin 1) p h d) ?_).trans ?_
  · rw [Shape.rowMajor_val_four, Shape.rowMajor_val_two]
    show ((0 * 2048 + p.val) * 2 + h.val) * 64 + d.val = p.val * 128 + (h.val * 64 + d.val)
    omega
  rw [← hC]
  refine (broadcastInDim_apply _ _ _ _ (ix4 (0 : Fin 1) p (0 : Fin 1) d) fun a => ?_).trans ?_
  · match a with
    | ⟨0, _⟩ => rfl
    | ⟨1, _⟩ => rfl
    | ⟨2, _⟩ => rfl
    | ⟨3, _⟩ => rfl
  refine shapeCast_apply B _ _ (ix2 p d) ?_
  rw [Shape.rowMajor_val_four, Shape.rowMajor_val_two]
  show p.val * 64 + d.val = ((0 * 2048 + p.val) * 1 + 0) * 64 + d.val
  omega

theorem table_apply (A : FVec Ideal S2048x64 .f32) (g : FVec Ideal S64 .f32) (w : BitVec 32) (p : Fin 2048) (h : Fin 2) (d : Fin 64) :
    table A g w (ix2 p (pair h d)) = (A (ix2 p d) * (g (ix1 d) * Ideal.ofBits .f32 w) : EReal) :=
  (twice_apply (mulf A (broadcastInDim S2048x64 ![0, 1] bcast_S1x64_S2048x64_0_1 (broadcastInDim S1x64 ![1] bcast_S64_S1x64_1
      (mulf g (broadcastInDim S64 ![] bcast_S_S64 (constant (F := Ideal) S_ .f32 w)))))) p h d).trans (congrArg (fun a : EReal => A (ix2 p d) * a) (gains_apply g w p d))

/-! ## The results, as functions of the arguments -/

section Results

variable (X : FVec Ideal S32768x1024 .f32) (G : FVec Ideal S1024 .f32) (W : FVec Ideal S1024x5888 .f32) (g : FVec Ideal S64 .f32)

/-- A token's place in its image. -/
def pos (T : Fin 32768) : Fin 2048 := ⟨T.val % 2048, by omega⟩
/-- A token's projected column. -/
def col (T : Fin 32768) (j : Fin 5888) : EReal := proj (fun k => X (ix2 T k)) (fun k => G (ix1 k)) (fun e => W (ix2 e j))
/-- A head of a token, its columns starting at a given one, rotated. -/
def head (T : Fin 32768) (o : Fin 5824) (d : Fin 64) : EReal :=
  turned (cosAt (pos T)) (sinAt (pos T)) (fun e => col X G W T ⟨o.val + e.val, by have := o.isLt; have := e.isLt; omega⟩) (fun e => g (ix1 e)) d

/-- The queries: head `h * 4 + q` at columns `128 q + 64 h …`, times one eighth. -/
def queries (T : Fin 32768) (j : Fin 512) : EReal :=
  head X G W g T ⟨(j.val / 64 % 2 * 4 + j.val / 128) * 64, by have := j.isLt; omega⟩ ⟨j.val % 64, by omega⟩ * Ideal.ofBits .f32 0x3E000000#32
/-- The keys. -/
def keys (T : Fin 32768) (j : Fin 128) : EReal := head X G W g T ⟨512 + j.val / 64 * 64, by have := j.isLt; omega⟩ ⟨j.val % 64, by omega⟩
/-- The values. -/
def vals (T : Fin 32768) (j : Fin 128) : EReal := col X G W T ⟨640 + j.val, by have := j.isLt; omega⟩
/-- 512 columns from a given one on. -/
def wide (o : Fin 5376) (T : Fin 32768) (j : Fin 512) : EReal := col X G W T ⟨o.val + j.val, by have := o.isLt; have := j.isLt; omega⟩

end Results

/-! ## The arrays the kernel reads -/

variable (m : (ℓ : Loc nD τ sig) → Buf (Elt Ideal) ℓ) (c : Dev nD)

/-- The arguments the tables and the columns are made of. -/
def tokens : FVec Ideal S32768x1024 .f32 := m ((c : Thread nD τ).loc main_arg0)
def scaleIn : FVec Ideal S1024 .f32 := m ((c : Thread nD τ).loc main_arg1)
def weight : FVec Ideal S1024x5888 .f32 := m ((c : Thread nD τ).loc main_arg2)
def gainQ : FVec Ideal S64 .f32 := m ((c : Thread nD τ).loc main_arg3)
def gainK : FVec Ideal S64 .f32 := m ((c : Thread nD τ).loc main_arg4)

theorem V_v34 : V m c main_v34 = cosRow := by
  after_reads_simp
  try rfl
theorem V_v35 : V m c main_v35 = sinRow := by
  after_reads_simp
  try rfl
theorem V_v46 : V m c main_v46 = cosCol := by
  after_reads_simp
  try rfl
theorem V_v47 : V m c main_v47 = sinCol := by
  after_reads_simp
  try rfl
theorem V_v37 : V m c main_v37 = Host.negf sinRow := by
  after_reads_simp
  try rfl
theorem V_v49 : V m c main_v49 = Host.negf sinCol := by
  after_reads_simp
  try rfl
theorem V_v36 : V m c main_v36 = concatenate S2048x32 1 [⟨S2048x16, (V m c main_v34 : FVec Ideal S2048x16 .f32)⟩, ⟨S2048x16, (V m c main_v34 : FVec Ideal S2048x16 .f32)⟩] concatenates_S2048x16_S2048x16_S2048x32_d1 := by
  after_reads_simp
  try rfl
theorem V_v38 : V m c main_v38 = concatenate S2048x32 1 [⟨S2048x16, (V m c main_v37 : FVec Ideal S2048x16 .f32)⟩, ⟨S2048x16, (V m c main_v35 : FVec Ideal S2048x16 .f32)⟩] concatenates_S2048x16_S2048x16_S2048x32_d1 := by
  after_reads_simp
  try rfl
theorem V_v48 : V m c main_v48 = concatenate S2048x32 1 [⟨S2048x16, (V m c main_v46 : FVec Ideal S2048x16 .f32)⟩, ⟨S2048x16, (V m c main_v46 : FVec Ideal S2048x16 .f32)⟩] concatenates_S2048x16_S2048x16_S2048x32_d1 := by
  after_reads_simp
  try rfl
theorem V_v50 : V m c main_v50 = concatenate S2048x32 1 [⟨S2048x16, (V m c main_v49 : FVec Ideal S2048x16 .f32)⟩, ⟨S2048x16, (V m c main_v47 : FVec Ideal S2048x16 .f32)⟩] concatenates_S2048x16_S2048x16_S2048x32_d1 := by
  after_reads_simp
  try rfl
theorem V_v51 : V m c main_v51 = concatenate S2048x64 1 [⟨S2048x32, (V m c main_v36 : FVec Ideal S2048x32 .f32)⟩, ⟨S2048x32, (V m c main_v48 : FVec Ideal S2048x32 .f32)⟩] concatenates_S2048x32_S2048x32_S2048x64_d1 := by
  after_reads_simp
  try rfl
theorem V_v52 : V m c main_v52 = concatenate S2048x64 1 [⟨S2048x32, (V m c main_v38 : FVec Ideal S2048x32 .f32)⟩, ⟨S2048x32, (V m c main_v50 : FVec Ideal S2048x32 .f32)⟩] concatenates_S2048x32_S2048x32_S2048x64_d1 := by
  after_reads_simp
  try rfl
theorem V_v51_four : V m c main_v51 = four cosRow cosRow cosCol cosCol := by
  rw [V_v51, V_v36, V_v48, V_v34, V_v46]
  rfl
theorem V_v52_four : V m c main_v52 = four (Host.negf sinRow) sinRow (Host.negf sinCol) sinCol := by
  rw [V_v52, V_v38, V_v50, V_v37, V_v49, V_v35, V_v47]
  rfl
theorem V_v53 : V m c main_v53 = extractStridedSlice S16 ![16] (gainQ m c) slices_S64_S16_16 := by
  after_reads_simp
  try rfl
theorem V_v54 : V m c main_v54 = extractStridedSlice S16 ![0] (gainQ m c) slices_S64_S16_0 := by
  after_reads_simp
  try rfl
theorem V_v55 : V m c main_v55 = extractStridedSlice S16 ![48] (gainQ m c) slices_S64_S16_48 := by
  after_reads_simp
  try rfl
theorem V_v56 : V m c main_v56 = extractStridedSlice S16 ![32] (gainQ m c) slices_S64_S16_32 := by
  after_reads_simp
  try rfl
theorem V_v57_cat : V m c main_v57 = concatenate S64 0 [⟨S16, (V m c main_v53 : FVec Ideal S16 .f32)⟩, ⟨S16, (V m c main_v54 : FVec Ideal S16 .f32)⟩, ⟨S16, (V m c main_v55 : FVec Ideal S16 .f32)⟩, ⟨S16, (V m c main_v56 : FVec Ideal S16 .f32)⟩] concatenates_S16_S16_S16_S16_S64_d0 := by
  after_reads_simp
  try rfl
theorem V_v57 : V m c main_v57 = swap (gainQ m c) := by
  rw [V_v57_cat, V_v53, V_v54, V_v55, V_v56]
  rfl
theorem V_v70 : V m c main_v70 = table (V m c main_v51) (gainQ m c) 0x3E000000#32 := by
  after_reads_simp
  try rfl
theorem V_v73 : V m c main_v73 = table (V m c main_v52) (V m c main_v57) 0x3E000000#32 := by
  after_reads_simp
  try rfl

/-- The cosine table of the queries. -/
theorem cos_q_apply (p : Fin 2048) (h : Fin 2) (d : Fin 64) :
    V m c main_v70 (ix2 p (pair h d)) = (cosAt p d * ((gainQ m c) (ix1 d) * Ideal.ofBits .f32 0x3E000000#32) : EReal) := by
  rw [V_v70, V_v51_four]
  exact (table_apply _ _ _ p h d).trans (congrArg (fun a : EReal => a * ((gainQ m c) (ix1 d) * Ideal.ofBits .f32 0x3E000000#32)) (cos_apply p d))

/-- The sine table of the queries. -/
theorem sin_q_apply (p : Fin 2048) (h : Fin 2) (d : Fin 64) :
    V m c main_v73 (ix2 p (pair h d)) = (signed (sinAt p) d * ((gainQ m c) (ix1 (twin d)) * Ideal.ofBits .f32 0x3E000000#32) : EReal) := by
  rw [V_v73, V_v52_four, V_v57]
  exact (table_apply _ _ _ p h d).trans (congrArg₂ (fun a b : EReal => a * (b * Ideal.ofBits .f32 0x3E000000#32)) (sin_apply p d) (swap_apply _ d))

theorem V_v92 : V m c main_v92 = cosRow := by
  after_reads_simp
  try rfl
theorem V_v93 : V m c main_v93 = sinRow := by
  after_reads_simp
  try rfl
theorem V_v104 : V m c main_v104 = cosCol := by
  after_reads_simp
  try rfl
theorem V_v105 : V m c main_v105 = sinCol := by
  after_reads_simp
  try rfl
theorem V_v95 : V m c main_v95 = Host.negf sinRow := by
  after_reads_simp
  try rfl
theorem V_v107 : V m c main_v107 = Host.negf sinCol := by
  after_reads_simp
  try rfl
theorem V_v94 : V m c main_v94 = concatenate S2048x32 1 [⟨S2048x16, (V m c main_v92 : FVec Ideal S2048x16 .f32)⟩, ⟨S2048x16, (V m c main_v92 : FVec Ideal S2048x16 .f32)⟩] concatenates_S2048x16_S2048x16_S2048x32_d1 := by
  after_reads_simp
  try rfl
theorem V_v96 : V m c main_v96 = concatenate S2048x32 1 [⟨S2048x16, (V m c main_v95 : FVec Ideal S2048x16 .f32)⟩, ⟨S2048x16, (V m c main_v93 : FVec Ideal S2048x16 .f32)⟩] concatenates_S2048x16_S2048x16_S2048x32_d1 := by
  after_reads_simp
  try rfl
theorem V_v106 : V m c main_v106 = concatenate S2048x32 1 [⟨S2048x16, (V m c main_v104 : FVec Ideal S2048x16 .f32)⟩, ⟨S2048x16, (V m c main_v104 : FVec Ideal S2048x16 .f32)⟩] concatenates_S2048x16_S2048x16_S2048x32_d1 := by
  after_reads_simp
  try rfl
theorem V_v108 : V m c main_v108 = concatenate S2048x32 1 [⟨S2048x16, (V m c main_v107 : FVec Ideal S2048x16 .f32)⟩, ⟨S2048x16, (V m c main_v105 : FVec Ideal S2048x16 .f32)⟩] concatenates_S2048x16_S2048x16_S2048x32_d1 := by
  after_reads_simp
  try rfl
theorem V_v109 : V m c main_v109 = concatenate S2048x64 1 [⟨S2048x32, (V m c main_v94 : FVec Ideal S2048x32 .f32)⟩, ⟨S2048x32, (V m c main_v106 : FVec Ideal S2048x32 .f32)⟩] concatenates_S2048x32_S2048x32_S2048x64_d1 := by
  after_reads_simp
  try rfl
theorem V_v110 : V m c main_v110 = concatenate S2048x64 1 [⟨S2048x32, (V m c main_v96 : FVec Ideal S2048x32 .f32)⟩, ⟨S2048x32, (V m c main_v108 : FVec Ideal S2048x32 .f32)⟩] concatenates_S2048x32_S2048x32_S2048x64_d1 := by
  after_reads_simp
  try rfl
theorem V_v109_four : V m c main_v109 = four cosRow cosRow cosCol cosCol := by
  rw [V_v109, V_v94, V_v106, V_v92, V_v104]
  rfl
theorem V_v110_four : V m c main_v110 = four (Host.negf sinRow) sinRow (Host.negf sinCol) sinCol := by
  rw [V_v110, V_v96, V_v108, V_v95, V_v107, V_v93, V_v105]
  rfl
theorem V_v111 : V m c main_v111 = extractStridedSlice S16 ![16] (gainK m c) slices_S64_S16_16 := by
  after_reads_simp
  try rfl
theorem V_v112 : V m c main_v112 = extractStridedSlice S16 ![0] (gainK m c) slices_S64_S16_0 := by
  after_reads_simp
  try rfl
theorem V_v113 : V m c main_v113 = extractStridedSlice S16 ![48] (gainK m c) slices_S64_S16_48 := by
  after_reads_simp
  try rfl
theorem V_v114 : V m c main_v114 = extractStridedSlice S16 ![32] (gainK m c) slices_S64_S16_32 := by
  after_reads_simp
  try rfl
theorem V_v115_cat : V m c main_v115 = concatenate S64 0 [⟨S16, (V m c main_v111 : FVec Ideal S16 .f32)⟩, ⟨S16, (V m c main_v112 : FVec Ideal S16 .f32)⟩, ⟨S16, (V m c main_v113 : FVec Ideal S16 .f32)⟩, ⟨S16, (V m c main_v114 : FVec Ideal S16 .f32)⟩] concatenates_S16_S16_S16_S16_S64_d0 := by
  after_reads_simp
  try rfl
theorem V_v115 : V m c main_v115 = swap (gainK m c) := by
  rw [V_v115_cat, V_v111, V_v112, V_v113, V_v114]
  rfl
theorem V_v128 : V m c main_v128 = table (V m c main_v109) (gainK m c) 0x3F800000#32 := by
  after_reads_simp
  try rfl
theorem V_v131 : V m c main_v131 = table (V m c main_v110) (V m c main_v115) 0x3F800000#32 := by
  after_reads_simp
  try rfl

/-- The cosine table of the keys. -/
theorem cos_k_apply (p : Fin 2048) (h : Fin 2) (d : Fin 64) :
    V m c main_v128 (ix2 p (pair h d)) = (cosAt p d * ((gainK m c) (ix1 d) * Ideal.ofBits .f32 0x3F800000#32) : EReal) := by
  rw [V_v128, V_v109_four]
  exact (table_apply _ _ _ p h d).trans (congrArg (fun a : EReal => a * ((gainK m c) (ix1 d) * Ideal.ofBits .f32 0x3F800000#32)) (cos_apply p d))

/-- The sine table of the keys. -/
theorem sin_k_apply (p : Fin 2048) (h : Fin 2) (d : Fin 64) :
    V m c main_v131 (ix2 p (pair h d)) = (signed (sinAt p) d * ((gainK m c) (ix1 (twin d)) * Ideal.ofBits .f32 0x3F800000#32) : EReal) := by
  rw [V_v131, V_v110_four, V_v115]
  exact (table_apply _ _ _ p h d).trans (congrArg₂ (fun a b : EReal => a * (b * Ideal.ofBits .f32 0x3F800000#32)) (sin_apply p d) (swap_apply _ d))

theorem V_v132 : V m c main_v132 = shapeCast S1x1024 (scaleIn m c) shapeCasts_S1024_S1x1024 := by
  after_reads_simp
  try rfl

/-- The norm's scale. -/
theorem scale_apply (k : Fin 1024) : V m c main_v132 (ix2 (0 : Fin 1) k) = (scaleIn m c) (ix1 k) := by
  rw [V_v132]
  refine shapeCast_apply (scaleIn m c) _ _ (ix1 k) ?_
  rw [Shape.rowMajor_val_one, Shape.rowMajor_val_two]
  show k.val = 0 * 1024 + k.val
  omega

theorem V_v12 : V m c main_v12 = shapeCast S1024x512 (transpose S1024x4x2x64 [0, 2, 1, 3] (shapeCast S1024x2x4x64 (extractStridedSlice S1024x512 ![0, 0]
    (weight m c) slices_S1024x5888_S1024x512_0_0) shapeCasts_S1024x512_S1024x2x4x64 : FVec Ideal S1024x2x4x64 .f32)
    transposes_S1024x2x4x64_S1024x4x2x64_0_2_1_3) shapeCasts_S1024x4x2x64_S1024x512 := by
  after_reads_simp
  try rfl
theorem V_v13 : V m c main_v13 = extractStridedSlice S1024x2304 ![0, 512] (weight m c) slices_S1024x5888_S1024x2304_0_512 := by
  after_reads_simp
  try rfl
theorem V_v15 : V m c main_v15 = (truncf .bf16 (concatenate S1024x2816 1 [⟨S1024x512, (V m c main_v12 : FVec Ideal S1024x512 .f32)⟩, ⟨S1024x2304, (V m c main_v13 : FVec Ideal S1024x2304 .f32)⟩]
    concatenates_S1024x512_S1024x2304_S1024x2816_d1 : FVec Ideal S1024x2816 .f32) bitsLt_bf16_f32 : FVec Ideal S1024x2816 .bf16) := by
  after_reads_simp
  try rfl

/-- A column of the second to the seventh group keeps its place. -/
theorem rest_apply (e : Fin 1024) (j : Fin 2816) (hj : 512 ≤ j.val) :
    V m c main_v15 (ix2 e j) = (weight m c) (ix2 e ⟨j.val, by have := j.isLt; omega⟩) := by
  rw [V_v15, V_v13]
  have hlt := j.isLt
  refine (side_right _ _ concatenates_S1024x512_S1024x2304_S1024x2816_d1 e j ⟨j.val - 512, by omega⟩ (by show 512 + (j.val - 512) = j.val; omega)).trans ?_
  refine extractStridedSlice_apply _ (weight m c) _ _ _ fun a => ?_
  match a with
  | ⟨0, _⟩ => show e.val = 0 + e.val; omega
  | ⟨1, _⟩ => show j.val = 512 + (j.val - 512); omega

/-- A query column: the pair of heads the kernel keeps together is one head of each half. -/
theorem query_apply (e : Fin 1024) (q : Fin 4) (h : Fin 2) (d : Fin 64) :
    V m c main_v15 (ix2 e ⟨128 * q.val + (pair h d).val, by have := q.isLt; have := (pair h d).isLt; omega⟩)
      = (weight m c) (ix2 e ⟨(h.val * 4 + q.val) * 64 + d.val, by have := q.isLt; have := h.isLt; have := d.isLt; omega⟩) := by
  rw [V_v15, V_v12]
  have hq := q.isLt; have hh := h.isLt; have hd := d.isLt
  have hp : (pair h d).val = h.val * 64 + d.val := rfl
  refine (side_left _ _ concatenates_S1024x512_S1024x2304_S1024x2816_d1 e _ ⟨128 * q.val + (pair h d).val, by omega⟩ rfl).trans ?_
  refine (shapeCast_apply (transpose S1024x4x2x64 [0, 2, 1, 3] (shapeCast S1024x2x4x64 (extractStridedSlice S1024x512 ![0, 0]
    (weight m c) slices_S1024x5888_S1024x512_0_0) shapeCasts_S1024x512_S1024x2x4x64 : FVec Ideal S1024x2x4x64 .f32)
    transposes_S1024x2x4x64_S1024x4x2x64_0_2_1_3) _ _ (ix4 e q h d) ?_).trans ?_
  · rw [Shape.rowMajor_val_four, Shape.rowMajor_val_two]
    show ((e.val * 4 + q.val) * 2 + h.val) * 64 + d.val = e.val * 512 + (128 * q.val + (h.val * 64 + d.val))
    omega
  refine (transpose_apply _ (shapeCast S1024x2x4x64 (extractStridedSlice S1024x512 ![0, 0]
    (weight m c) slices_S1024x5888_S1024x512_0_0) shapeCasts_S1024x512_S1024x2x4x64 : FVec Ideal S1024x2x4x64 .f32) _ _ (ix4 e h q d) fun b => ?_).trans ?_
  · match b with
    | ⟨0, _⟩ => rfl
    | ⟨1, _⟩ => rfl
    | ⟨2, _⟩ => rfl
    | ⟨3, _⟩ => rfl
  refine (shapeCast_apply (extractStridedSlice S1024x512 ![0, 0]
    (weight m c) slices_S1024x5888_S1024x512_0_0) _ _ (ix2 e ⟨(h.val * 4 + q.val) * 64 + d.val, by omega⟩) ?_).trans ?_
  · rw [Shape.rowMajor_val_four, Shape.rowMajor_val_two]
    show e.val * 512 + ((h.val * 4 + q.val) * 64 + d.val) = ((e.val * 2 + h.val) * 4 + q.val) * 64 + d.val
    omega
  refine extractStridedSlice_apply _ (weight m c) _ _ _ fun a => ?_
  match a with
  | ⟨0, _⟩ => show e.val = 0 + e.val; omega
  | ⟨1, _⟩ => show (h.val * 4 + q.val) * 64 + d.val = 0 + ((h.val * 4 + q.val) * 64 + d.val); omega

theorem V_v8 : V m c main_v8 = (truncf .bf16 (select (cmpi .eq (andi (iotaInDim S256x128 32 0) (broadcastInDim S256x128 ![] bcast_S_S256x128 (constantI S_ 32 64#32)))
    (andi (iotaInDim S256x128 32 1) (broadcastInDim S256x128 ![] bcast_S_S256x128 (constantI S_ 32 64#32))))
    (broadcastInDim S256x128 ![] bcast_S_S256x128 (constant (F := Ideal) S_ .f32 0x3C800000#32)) (broadcastInDim S256x128 ![] bcast_S_S256x128 (constant (F := Ideal) S_ .f32 0x00000000#32)) : FVec Ideal S256x128 .f32)
    bitsLt_bf16_f32 : FVec Ideal S256x128 .bf16) := by
  after_reads_simp
  try rfl

theorem bit_row : ∀ e : Fin 256, IntOp.andi (BitVec.ofNat 32 e.val) 64#32 = if e.val / 64 % 2 = 1 then 64#32 else 0#32 := by decide +kernel
theorem bit_lane : ∀ l : Fin 128, IntOp.andi (BitVec.ofNat 32 l.val) 64#32 = if l.val / 64 = 1 then 64#32 else 0#32 := by decide +kernel

/-- A head's share: one sixty-fourth for its own squares, nothing for the other head's. -/
theorem share_apply (e : Fin 256) (l : Fin 128) :
    V m c main_v8 (ix2 e l) = if e.val / 64 % 2 = l.val / 64 then Ideal.ofBits .f32 0x3C800000#32 else Ideal.ofBits .f32 0x00000000#32 := by
  rw [V_v8]
  show Scalar.select (IntOp.cmpi .eq (IntOp.andi (BitVec.ofNat 32 e.val) 64#32) (IntOp.andi (BitVec.ofNat 32 l.val) 64#32)) (Ideal.ofBits .f32 0x3C800000#32) (Ideal.ofBits .f32 0x00000000#32) = _
  rw [bit_row, bit_lane]
  have he := e.isLt; have hl := l.isLt
  by_cases h1 : e.val / 64 % 2 = 1
  · by_cases h2 : l.val / 64 = 1
    · rw [if_pos h1, if_pos h2, if_pos (by omega)]; rfl
    · rw [if_pos h1, if_neg h2, if_neg (by omega)]; rfl
  · by_cases h2 : l.val / 64 = 1
    · rw [if_neg h1, if_pos h2, if_neg (by omega)]; rfl
    · rw [if_neg h1, if_neg h2, if_pos (by omega)]; rfl

end Cert.InprojIdeal.Host

end
-- ==== Proof.InprojBlock.lean ====
/-
  What the input projection's body leaves in its seven output blocks at a grid point, in terms of the arguments.
-/
module

public import proofs.«01_k».proof.Proof.InprojChunk
public import proofs.«01_k».proof.Proof.InprojHost
public import proofs.«01_k».proof.Proof.MergeArray
public import Idealize.ShloMosaic.Lib.Pipeline.ValueKit.Tiles

@[expose] public section

set_option maxRecDepth 16384

noncomputable section

namespace Cert.InprojIdeal.Block

open Cert.InprojIdeal Cert.InprojIdeal.Gen Cert.InprojIdeal.Chunk Cert.InprojIdeal.Host Idealize.ShloMosaic Idealize.ShloMosaic.TcCoe Idealize.ShloMosaic.ValueIdx Idealize.ShloMosaic.Tactic
open Cert.InprojSpec Cert.Softmax
open Cert.MergeIdeal.Array (ld2_apply)
open scoped BigOperators

/-- The input's window moves with the point. -/
theorem idx_in : ∀ t : Fin cfg0.N, win0_0.index t 0 = t.val ∧ win0_0.index t 1 = 0 :=
  (by decide +kernel : ∀ t : Fin grid0.N, win0_0.index t 0 = t.val ∧ win0_0.index t 1 = 0)

/-- The other inputs' windows do not move. -/
theorem idx_still : ∀ t : Fin cfg0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0))

/-- Where in the tables a point's tokens start. -/
theorem off_val : ∀ t : Fin cfg0.N, k0_off1 (grid0.coords t) 0 = t.val % 4 * 512 ∧ k0_off1 (grid0.coords t) 1 = 0 :=
  (by decide +kernel : ∀ t : Fin grid0.N, k0_off1 (grid0.coords t) 0 = t.val % 4 * 512 ∧ k0_off1 (grid0.coords t) 1 = 0)

theorem lt_N (t : Fin cfg0.N) : t.val < 64 := t.isLt

/-- A token of a block. -/
def tok (t : Fin cfg0.N) (r : Fin 512) : Fin 32768 := ⟨512 * t.val + r.val, by have := lt_N t; have := r.isLt; omega⟩

/-- A point's part of a table is the table at the point's tokens' places. -/
theorem part_of_table (x : (⟨S2048x128, .f32⟩ : BufTy).Contents (Elt Ideal)) (t : Fin cfg0.N) (r : Fin 512) (l : Fin 128) :
    View.ld (S := S2048x128) (e' := .f32) (Val := Elt Ideal) x (Rect.unit (s := S2048x128) (k0_off1 (grid0.coords t)) S512x128.size (k0_off1_inb (grid0.coords t))) (ix2 r l)
      = x (ix2 (pos (tok t r)) l) := by
  obtain ⟨ha, hb⟩ := off_val t
  have hr := r.isLt
  refine congrArg x (funext fun a => Fin.ext ?_)
  match a with
  | ⟨0, _⟩ => show k0_off1 (grid0.coords t) 0 + 1 * r.val = (512 * t.val + r.val) % 2048; rw [ha]; omega
  | ⟨1, _⟩ => show k0_off1 (grid0.coords t) 1 + 1 * l.val = l.val; rw [hb]; omega

variable (m : (ℓ : Loc nD τ sig) → Buf (Elt Ideal) ℓ) (c : Dev nD)

theorem iblk0_apply (t : Fin cfg0.N) (r : Fin 512) (k : Fin 1024) : iblk m c 0 t (ix2 r k) = tokens m c (ix2 (tok t r) k) := by
  obtain ⟨ha, hb⟩ := idx_in t
  refine congrArg (tokens m c) (funext fun a => Fin.ext ?_)
  match a with
  | ⟨0, _⟩ => show win0_0.index t 0 * 512 + 1 * r.val = 512 * t.val + r.val; rw [ha]; omega
  | ⟨1, _⟩ => show win0_0.index t 1 * 1024 + 1 * k.val = k.val; rw [hb]; omega

theorem iblk1_apply (t : Fin cfg0.N) (i : Fin 1) (j : Fin 1024) : iblk m c 1 t (ix2 i j) = V m c main_v132 (ix2 i j) := by
  obtain ⟨⟨ha, hb⟩, -⟩ := idx_still t
  refine congrArg (V m c main_v132) (funext fun a => Fin.ext ?_)
  match a with
  | ⟨0, _⟩ => show win0_1.index t 0 * 1 + 1 * i.val = i.val; rw [ha]; omega
  | ⟨1, _⟩ => show win0_1.index t 1 * 1024 + 1 * j.val = j.val; rw [hb]; omega

theorem iblk2_apply (t : Fin cfg0.N) (i : Fin 1024) (j : Fin 2816) : iblk m c 2 t (ix2 i j) = V m c main_v15 (ix2 i j) := by
  obtain ⟨-, ⟨ha, hb⟩, -⟩ := idx_still t
  refine congrArg (V m c main_v15) (funext fun a => Fin.ext ?_)
  match a with
  | ⟨0, _⟩ => show win0_2.index t 0 * 1024 + 1 * i.val = i.val; rw [ha]; omega
  | ⟨1, _⟩ => show win0_2.index t 1 * 2816 + 1 * j.val = j.val; rw [hb]; omega

theorem iblk3_apply (t : Fin cfg0.N) (i : Fin 2048) (j : Fin 128) : iblk m c 3 t (ix2 i j) = V m c main_v70 (ix2 i j) := by
  obtain ⟨-, -, ⟨ha, hb⟩, -⟩ := idx_still t
  refine congrArg (V m c main_v70) (funext fun a => Fin.ext ?_)
  match a with
  | ⟨0, _⟩ => show win0_3.index t 0 * 2048 + 1 * i.val = i.val; rw [ha]; omega
  | ⟨1, _⟩ => show win0_3.index t 1 * 128 + 1 * j.val = j.val; rw [hb]; omega

theorem iblk4_apply (t : Fin cfg0.N) (i : Fin 2048) (j : Fin 128) : iblk m c 4 t (ix2 i j) = V m c main_v73 (ix2 i j) := by
  obtain ⟨-, -, -, ⟨ha, hb⟩, -⟩ := idx_still t
  refine congrArg (V m c main_v73) (funext fun a => Fin.ext ?_)
  match a with
  | ⟨0, _⟩ => show win0_4.index t 0 * 2048 + 1 * i.val = i.val; rw [ha]; omega
  | ⟨1, _⟩ => show win0_4.index t 1 * 128 + 1 * j.val = j.val; rw [hb]; omega

theorem iblk5_apply (t : Fin cfg0.N) (i : Fin 2048) (j : Fin 128) : iblk m c 5 t (ix2 i j) = V m c main_v128 (ix2 i j) := by
  obtain ⟨-, -, -, -, ⟨ha, hb⟩, -⟩ := idx_still t
  refine congrArg (V m c main_v128) (funext fun a => Fin.ext ?_)
  match a with
  | ⟨0, _⟩ => show win0_5.index t 0 * 2048 + 1 * i.val = i.val; rw [ha]; omega
  | ⟨1, _⟩ => show win0_5.index t 1 * 128 + 1 * j.val = j.val; rw [hb]; omega

theorem iblk6_apply (t : Fin cfg0.N) (i : Fin 2048) (j : Fin 128) : iblk m c 6 t (ix2 i j) = V m c main_v131 (ix2 i j) := by
  obtain ⟨-, -, -, -, -, ⟨ha, hb⟩, -⟩ := idx_still t
  refine congrArg (V m c main_v131) (funext fun a => Fin.ext ?_)
  match a with
  | ⟨0, _⟩ => show win0_6.index t 0 * 2048 + 1 * i.val = i.val; rw [ha]; omega
  | ⟨1, _⟩ => show win0_6.index t 1 * 128 + 1 * j.val = j.val; rw [hb]; omega

theorem iblk7_apply (t : Fin cfg0.N) (i : Fin 256) (j : Fin 128) : iblk m c 7 t (ix2 i j) = V m c main_v8 (ix2 i j) := by
  obtain ⟨-, -, -, -, -, -, ha, hb⟩ := idx_still t
  refine congrArg (V m c main_v8) (funext fun a => Fin.ext ?_)
  match a with
  | ⟨0, _⟩ => show win0_7.index t 0 * 256 + 1 * i.val = i.val; rw [ha]; omega
  | ⟨1, _⟩ => show win0_7.index t 1 * 128 + 1 * j.val = j.val; rw [hb]; omega

/-- The normalized tokens of a block. -/
def hidden (t : Fin cfg0.N) : FVec Ideal S512x1024 .bf16 :=
  k0_pay4 (F := Ideal) (View.ld (iblk m c 0 t) (Rect.unit (s := S512x1024) ![0, 0] S512x1024.size inb_S512x1024_S512x1024_0_0)) (View.ld (iblk m c 1 t) (Rect.unit (s := S1x1024) ![0, 0] S1x1024.size inb_S1x1024_S1x1024_0_0))

theorem ld_tokens (t : Fin cfg0.N) : View.ld (iblk m c 0 t) (Rect.unit (s := S512x1024) ![0, 0] S512x1024.size inb_S512x1024_S512x1024_0_0) = iblk m c 0 t :=
  View.ld_unit_zero (S := S512x1024) (by funext a; match a with | ⟨0, _⟩ => rfl | ⟨1, _⟩ => rfl) _ (iblk m c 0 t)
theorem ld_scale (t : Fin cfg0.N) : View.ld (iblk m c 1 t) (Rect.unit (s := S1x1024) ![0, 0] S1x1024.size inb_S1x1024_S1x1024_0_0) = iblk m c 1 t :=
  View.ld_unit_zero (S := S1x1024) (by funext a; match a with | ⟨0, _⟩ => rfl | ⟨1, _⟩ => rfl) _ (iblk m c 1 t)
theorem ld_share (t : Fin cfg0.N) : View.ld (iblk m c 7 t) (Rect.unit (s := S256x128) ![0, 0] S256x128.size inb_S256x128_S256x128_0_0) = iblk m c 7 t :=
  View.ld_unit_zero (S := S256x128) (by funext a; match a with | ⟨0, _⟩ => rfl | ⟨1, _⟩ => rfl) _ (iblk m c 7 t)

/-- 512 columns of the kernel's projection. -/
def part (t : Fin cfg0.N) (o : ℕ) (inb : ∀ a, (![0, o] : Fin 2 → ℕ) a + S1024x512.size a ≤ S1024x2816.size a) : FVec Ideal S1024x512 .bf16 :=
  View.ld (iblk m c 2 t) (Rect.unit (s := S1024x2816) ![0, o] S1024x512.size inb)
/-- 256 columns of the kernel's projection. -/
def part2 (t : Fin cfg0.N) (o : ℕ) (inb : ∀ a, (![0, o] : Fin 2 → ℕ) a + S1024x256.size a ≤ S1024x2816.size a) : FVec Ideal S1024x256 .bf16 :=
  View.ld (iblk m c 2 t) (Rect.unit (s := S1024x2816) ![0, o] S1024x256.size inb)

theorem part_apply (t : Fin cfg0.N) (o : ℕ) (inb : ∀ a, (![0, o] : Fin 2 → ℕ) a + S1024x512.size a ≤ S1024x2816.size a) (e : Fin 1024) (j : Fin 512) (J : Fin 2816) (hJ : J.val = o + j.val) :
    part m c t o inb (ix2 e j) = V m c main_v15 (ix2 e J) :=
  (ld2_apply (n0 := 1024) (n1 := 512) (iblk m c 2 t) 0 o inb e j e J (by omega) hJ).trans (iblk2_apply m c t e J)
theorem part2_apply (t : Fin cfg0.N) (o : ℕ) (inb : ∀ a, (![0, o] : Fin 2 → ℕ) a + S1024x256.size a ≤ S1024x2816.size a) (e : Fin 1024) (j : Fin 256) (J : Fin 2816) (hJ : J.val = o + j.val) :
    part2 m c t o inb (ix2 e j) = V m c main_v15 (ix2 e J) :=
  (ld2_apply (n0 := 1024) (n1 := 256) (iblk m c 2 t) 0 o inb e j e J (by omega) hJ).trans (iblk2_apply m c t e J)

/-- A column of the kernel's projection at a token. -/
def colK (T : Fin 32768) (J : Fin 2816) : EReal :=
  proj (fun k => tokens m c (ix2 T k)) (fun k => scaleIn m c (ix1 k)) (fun e => (V m c main_v15 : FVec Ideal S1024x2816 .bf16) (ix2 e J))

theorem cols_part (t : Fin cfg0.N) (o : ℕ) (inb : ∀ a, (![0, o] : Fin 2 → ℕ) a + S1024x512.size a ≤ S1024x2816.size a) (r : Fin 512) (j : Fin 512) (J : Fin 2816) (hJ : J.val = o + j.val) :
    cols (hidden m c t) (part m c t o inb) (ix2 r j) = colK m c (tok t r) J := by
  unfold hidden
  rw [ld_tokens, ld_scale]
  refine (cols_apply (iblk m c 0 t) (iblk m c 1 t) (part m c t o inb) r j).trans ?_
  unfold colK
  rw [show (fun k => iblk m c 0 t (ix2 r k)) = fun k => tokens m c (ix2 (tok t r) k) from funext fun k => iblk0_apply m c t r k,
    show (fun k => iblk m c 1 t (ix2 (0 : Fin 1) k)) = fun k => scaleIn m c (ix1 k) from funext fun k => (iblk1_apply m c t 0 k).trans (scale_apply m c k),
    show (fun e => part m c t o inb (ix2 e j)) = fun e => (V m c main_v15 : FVec Ideal S1024x2816 .bf16) (ix2 e J) from funext fun e => part_apply m c t o inb e j J hJ]

theorem cols2_part (t : Fin cfg0.N) (o : ℕ) (inb : ∀ a, (![0, o] : Fin 2 → ℕ) a + S1024x256.size a ≤ S1024x2816.size a) (r : Fin 512) (j : Fin 256) (J : Fin 2816) (hJ : J.val = o + j.val) :
    cols2 (hidden m c t) (part2 m c t o inb) (ix2 r j) = colK m c (tok t r) J := by
  unfold hidden
  rw [ld_tokens, ld_scale]
  refine (cols2_apply (iblk m c 0 t) (iblk m c 1 t) (part2 m c t o inb) r j).trans ?_
  unfold colK
  rw [show (fun k => iblk m c 0 t (ix2 r k)) = fun k => tokens m c (ix2 (tok t r) k) from funext fun k => iblk0_apply m c t r k,
    show (fun k => iblk m c 1 t (ix2 (0 : Fin 1) k)) = fun k => scaleIn m c (ix1 k) from funext fun k => (iblk1_apply m c t 0 k).trans (scale_apply m c k),
    show (fun e => part2 m c t o inb (ix2 e j)) = fun e => (V m c main_v15 : FVec Ideal S1024x2816 .bf16) (ix2 e J) from funext fun e => part2_apply m c t o inb e j J hJ]

/-- A column of the second to the seventh group. -/
theorem colK_rest (T : Fin 32768) (J : Fin 2816) (hJ : 512 ≤ J.val) (j : Fin 5888) (hj : j.val = J.val) : colK m c T J = col (tokens m c) (scaleIn m c) (weight m c) T j := by
  unfold colK col
  rw [show (fun e => (V m c main_v15 : FVec Ideal S1024x2816 .bf16) (ix2 e J)) = fun e => weight m c (ix2 e j) from funext fun e =>
    (rest_apply m c e J hJ).trans (congrArg (weight m c) (congrArg (ix2 e) (Fin.ext hj.symm)))]

/-- A query column. -/
theorem colK_query (T : Fin 32768) (J : Fin 2816) (q : Fin 4) (h : Fin 2) (d : Fin 64) (hJ : J.val = 128 * q.val + (pair h d).val) (j : Fin 5888) (hj : j.val = (h.val * 4 + q.val) * 64 + d.val) :
    colK m c T J = col (tokens m c) (scaleIn m c) (weight m c) T j := by
  unfold colK col
  rw [show (fun e => (V m c main_v15 : FVec Ideal S1024x2816 .bf16) (ix2 e J)) = fun e => weight m c (ix2 e j) from funext fun e =>
    (congrArg (V m c main_v15) (congrArg (ix2 e) (Fin.ext hJ))).trans ((query_apply m c e q h d).trans (congrArg (weight m c) (congrArg (ix2 e) (Fin.ext hj.symm))))]

/-- The share table at a point. -/
theorem share_block (t : Fin cfg0.N) (e : Fin 256) (l : Fin 128) :
    (View.ld (iblk m c 7 t) (Rect.unit (s := S256x128) ![0, 0] S256x128.size inb_S256x128_S256x128_0_0) : FVec Ideal S256x128 .bf16) (ix2 e l)
      = if e.val / 64 % 2 = l.val / 64 then Ideal.ofBits .f32 0x3C800000#32 else Ideal.ofBits .f32 0x00000000#32 := by
  rw [ld_share]
  exact (iblk7_apply m c t e l).trans (share_apply m c e l)

/-- What the claims ask of the arguments: finite scales and query and key columns. -/
def Finite : Prop := (∀ k, IsReal (scaleIn m c (ix1 k))) ∧ ∀ e (j : Fin 5888), j.val < 640 → IsReal (weight m c (ix2 e j))

theorem isReal_col (hf : Finite m c) (T : Fin 32768) (j : Fin 5888) (hj : j.val < 640) : IsReal (col (tokens m c) (scaleIn m c) (weight m c) T j) :=
  isReal_proj _ hf.1 fun e => hf.2 e j hj

theorem pair_split (l : Fin 128) : l = pair ⟨l.val / 64, by have := l.isLt; omega⟩ ⟨l.val % 64, by omega⟩ :=
  Fin.ext (by show l.val = l.val / 64 * 64 + l.val % 64; omega)

/-- **A pair of query heads.** -/
theorem query_piece (hf : Finite m c) (t : Fin cfg0.N) (q : Fin 4) (o : ℕ) (ho : o = 128 * q.val) (hs : S512x512.Slices ![0, o] S512x128)
    (inb : ∀ a, (![0, 0] : Fin 2 → ℕ) a + S1024x512.size a ≤ S1024x2816.size a) (r : Fin 512) (l : Fin 128) (j : Fin 512) (hj : j.val = o + l.val) :
    rotated (extractStridedSlice S512x128 ![0, o] (cols (hidden m c t) (part m c t 0 inb)) hs)
      (View.ld (iblk m c 7 t) (Rect.unit (s := S256x128) ![0, 0] S256x128.size inb_S256x128_S256x128_0_0))
      (View.ld (iblk m c 3 t) (Rect.unit (s := S2048x128) (k0_off1 (grid0.coords t)) S512x128.size (k0_off1_inb (grid0.coords t))))
      (View.ld (iblk m c 4 t) (Rect.unit (s := S2048x128) (k0_off1 (grid0.coords t)) S512x128.size (k0_off1_inb (grid0.coords t)))) (ix2 r l)
      = queries (tokens m c) (scaleIn m c) (weight m c) (gainQ m c) (tok t r) j := by
  have hq := q.isLt
  have val : ∀ (h : Fin 2) (d : Fin 64), extractStridedSlice S512x128 ![0, o] (cols (hidden m c t) (part m c t 0 inb)) hs (ix2 r (pair h d))
      = col (tokens m c) (scaleIn m c) (weight m c) (tok t r) ⟨(h.val * 4 + q.val) * 64 + d.val, by have := h.isLt; have := d.isLt; omega⟩ := fun h d => by
    have hp : (pair h d).val = h.val * 64 + d.val := rfl
    have hh := h.isLt; have hd := d.isLt
    refine (Chunk.part_apply _ o hs r (pair h d) ⟨o + (pair h d).val, by omega⟩ rfl).trans ?_
    refine (cols_part m c t 0 inb r _ ⟨o + (pair h d).val, by omega⟩ (by show o + (pair h d).val = 0 + (o + (pair h d).val); omega)).trans ?_
    exact colK_query m c (tok t r) _ q h d (by show o + (pair h d).val = _; omega) _ rfl
  have hl := l.isLt
  have key : ∀ (h : Fin 2) (d : Fin 64), h.val = l.val / 64 → d.val = l.val % 64 → rotated (extractStridedSlice S512x128 ![0, o] (cols (hidden m c t) (part m c t 0 inb)) hs)
      (View.ld (iblk m c 7 t) (Rect.unit (s := S256x128) ![0, 0] S256x128.size inb_S256x128_S256x128_0_0))
      (View.ld (iblk m c 3 t) (Rect.unit (s := S2048x128) (k0_off1 (grid0.coords t)) S512x128.size (k0_off1_inb (grid0.coords t))))
      (View.ld (iblk m c 4 t) (Rect.unit (s := S2048x128) (k0_off1 (grid0.coords t)) S512x128.size (k0_off1_inb (grid0.coords t)))) (ix2 r (pair h d))
      = queries (tokens m c) (scaleIn m c) (weight m c) (gainQ m c) (tok t r) j := fun h d eh ed => by
    refine (rotated_apply _ _ _ _ (share_block m c t) r (fun l' => ?_) h d (cosAt (pos (tok t r))) (sinAt (pos (tok t r))) (fun e => gainQ m c (ix1 e)) (Ideal.ofBits .f32 0x3E000000#32)
      ((part_of_table (iblk m c 3 t) t r (pair h d)).trans ((iblk3_apply m c t _ _).trans (cos_q_apply m c _ h d)))
      ((part_of_table (iblk m c 4 t) t r (pair h d)).trans ((iblk4_apply m c t _ _).trans (sin_q_apply m c _ h d)))).trans ?_
    · rw [pair_split l', val]; exact isReal_col m c hf _ _ (by show ((⟨l'.val / 64, by omega⟩ : Fin 2).val * 4 + q.val) * 64 + l'.val % 64 < 640; have := l'.isLt; omega)
    · rw [w8th]
      refine (folded_eq _ _ _ _ (by norm_num : (0 : ℝ) ≤ 1 / 8) d).trans ?_
      unfold queries head
      rw [w8th]
      refine congrArg (fun a : EReal => a * ((1 / 8 : ℝ) : EReal)) ?_
      refine congrArg₂ (turned (cosAt (pos (tok t r))) (sinAt (pos (tok t r))) · (fun e => gainQ m c (ix1 e)) ·) (funext fun e => ?_) (Fin.ext ?_)
      · refine (val h e).trans (congrArg (col (tokens m c) (scaleIn m c) (weight m c) (tok t r)) (Fin.ext ?_))
        show (h.val * 4 + q.val) * 64 + e.val = (j.val / 64 % 2 * 4 + j.val / 128) * 64 + e.val
        have h1 : j.val / 64 % 2 = h.val := by omega
        have h2 : j.val / 128 = q.val := by omega
        rw [h1, h2]
      · show d.val = j.val % 64; omega
  exact (congrArg (rotated _ _ _ _) (congrArg (ix2 r) (pair_split l))).trans (key _ _ rfl rfl)

/-- **The pair of key heads.** -/
theorem key_piece (hf : Finite m c) (t : Fin cfg0.N) (hs : S512x256.Slices ![0, 0] S512x128)
    (inb : ∀ a, (![0, 512] : Fin 2 → ℕ) a + S1024x256.size a ≤ S1024x2816.size a) (r : Fin 512) (l : Fin 128) :
    rotated (extractStridedSlice S512x128 ![0, 0] (cols2 (hidden m c t) (part2 m c t 512 inb)) hs)
      (View.ld (iblk m c 7 t) (Rect.unit (s := S256x128) ![0, 0] S256x128.size inb_S256x128_S256x128_0_0))
      (View.ld (iblk m c 5 t) (Rect.unit (s := S2048x128) (k0_off1 (grid0.coords t)) S512x128.size (k0_off1_inb (grid0.coords t))))
      (View.ld (iblk m c 6 t) (Rect.unit (s := S2048x128) (k0_off1 (grid0.coords t)) S512x128.size (k0_off1_inb (grid0.coords t)))) (ix2 r l)
      = keys (tokens m c) (scaleIn m c) (weight m c) (gainK m c) (tok t r) l := by
  have val : ∀ (h : Fin 2) (d : Fin 64), extractStridedSlice S512x128 ![0, 0] (cols2 (hidden m c t) (part2 m c t 512 inb)) hs (ix2 r (pair h d))
      = col (tokens m c) (scaleIn m c) (weight m c) (tok t r) ⟨512 + (pair h d).val, by have := (pair h d).isLt; omega⟩ := fun h d => by
    have hlt := (pair h d).isLt
    refine (Chunk.part_apply _ 0 hs r (pair h d) ⟨(pair h d).val, by omega⟩ (by show (pair h d).val = 0 + (pair h d).val; omega)).trans ?_
    refine (cols2_part m c t 512 inb r _ ⟨512 + (pair h d).val, by omega⟩ rfl).trans ?_
    exact colK_rest m c (tok t r) _ (by show 512 ≤ 512 + (pair h d).val; omega) _ rfl
  have hl := l.isLt
  have key : ∀ (h : Fin 2) (d : Fin 64), h.val = l.val / 64 → d.val = l.val % 64 → rotated (extractStridedSlice S512x128 ![0, 0] (cols2 (hidden m c t) (part2 m c t 512 inb)) hs)
      (View.ld (iblk m c 7 t) (Rect.unit (s := S256x128) ![0, 0] S256x128.size inb_S256x128_S256x128_0_0))
      (View.ld (iblk m c 5 t) (Rect.unit (s := S2048x128) (k0_off1 (grid0.coords t)) S512x128.size (k0_off1_inb (grid0.coords t))))
      (View.ld (iblk m c 6 t) (Rect.unit (s := S2048x128) (k0_off1 (grid0.coords t)) S512x128.size (k0_off1_inb (grid0.coords t)))) (ix2 r (pair h d))
      = keys (tokens m c) (scaleIn m c) (weight m c) (gainK m c) (tok t r) l := fun h d eh ed => by
    refine (rotated_apply _ _ _ _ (share_block m c t) r (fun l' => ?_) h d (cosAt (pos (tok t r))) (sinAt (pos (tok t r))) (fun e => gainK m c (ix1 e)) (Ideal.ofBits .f32 0x3F800000#32)
      ((part_of_table (iblk m c 5 t) t r (pair h d)).trans ((iblk5_apply m c t _ _).trans (cos_k_apply m c _ h d)))
      ((part_of_table (iblk m c 6 t) t r (pair h d)).trans ((iblk6_apply m c t _ _).trans (sin_k_apply m c _ h d)))).trans ?_
    · rw [pair_split l', val]; exact isReal_col m c hf _ _ (by have := (pair ⟨l'.val / 64, by have := l'.isLt; omega⟩ ⟨l'.val % 64, by omega⟩).isLt; show 512 + (pair _ _).val < 640; omega)
    · rw [Ideal.ofBits_one_f32]
      refine (folded_eq _ _ _ _ (by norm_num : (0 : ℝ) ≤ 1) d).trans ?_
      rw [EReal.coe_one, mul_one]
      unfold keys head
      refine congrArg₂ (turned (cosAt (pos (tok t r))) (sinAt (pos (tok t r))) · (fun e => gainK m c (ix1 e)) ·) (funext fun e => ?_) (Fin.ext ed)
      refine (val h e).trans (congrArg (col (tokens m c) (scaleIn m c) (weight m c) (tok t r)) (Fin.ext ?_))
      show 512 + (h.val * 64 + e.val) = 512 + l.val / 64 * 64 + e.val
      omega
  exact (congrArg (rotated _ _ _ _) (congrArg (ix2 r) (pair_split l))).trans (key _ _ rfl rfl)

/-- 512 columns past the queries. -/
theorem wide_piece (t : Fin cfg0.N) (o : Fin 5376) (h512 : 512 ≤ o.val) (inb : ∀ a, (![0, o.val] : Fin 2 → ℕ) a + S1024x512.size a ≤ S1024x2816.size a) (r : Fin 512) (j : Fin 512) :
    cols (hidden m c t) (part m c t o.val inb) (ix2 r j) = wide (tokens m c) (scaleIn m c) (weight m c) o (tok t r) j := by
  have hi : o.val + 512 ≤ 2816 := inb 1
  have hj := j.isLt
  exact (cols_part m c t o.val inb r j ⟨o.val + j.val, by omega⟩ rfl).trans (colK_rest m c (tok t r) _ (by show 512 ≤ o.val + j.val; omega) _ rfl)

/-- The values. -/
theorem val_piece (t : Fin cfg0.N) (hs : S512x256.Slices ![0, 128] S512x128) (inb : ∀ a, (![0, 512] : Fin 2 → ℕ) a + S1024x256.size a ≤ S1024x2816.size a) (r : Fin 512) (l : Fin 128) :
    extractStridedSlice S512x128 ![0, 128] (cols2 (hidden m c t) (part2 m c t 512 inb)) hs (ix2 r l) = vals (tokens m c) (scaleIn m c) (weight m c) (tok t r) l := by
  have hl := l.isLt
  refine (Chunk.part_apply _ 128 hs r l ⟨128 + l.val, by omega⟩ rfl).trans ?_
  refine (cols2_part m c t 512 inb r _ ⟨640 + l.val, by omega⟩ (by show 640 + l.val = 512 + (128 + l.val); omega)).trans ?_
  exact colK_rest m c (tok t r) _ (by show 512 ≤ 640 + l.val; omega) _ rfl

end Cert.InprojIdeal.Block

end
-- ==== Proof.InprojArray.lean ====
/-
  The input projection's result arrays after its run, index by index. A grid point stores one block of 512 tokens of each
  of the seven results; the blocks tile the arrays.
-/
module

public import proofs.«01_k».proof.Proof.InprojBlock
public import proofs.«01_k».proof.Proof.Gen.InprojIdeal.Value
public import Idealize.ShloMosaic.Lib.Pipeline.ValueKit.Tiles

@[expose] public section

set_option maxRecDepth 16384

noncomputable section

namespace Cert.InprojIdeal.Array

open Cert.InprojIdeal Cert.InprojIdeal.Gen Cert.InprojIdeal.Host Cert.InprojIdeal.Block Idealize.ShloMosaic Idealize.ShloMosaic.TcCoe Idealize.ShloMosaic.Tactic Idealize.ShloMosaic.ValueIdx
open Cert.InprojIdeal.Chunk (cols cols2 rotated pair0_eq pair1_eq pair2_eq pair3_eq key_eq val_eq up_eq qc_eq kc_eq vc_eq)
open Idealize.ShloMosaic.Pipeline (Dat)

variable (m : (ℓ : Loc nD τ sig) → Buf (Elt Ideal) ℓ) (c : Dev nD)

/-- Where each result's block sits at a grid point. -/
theorem idx_out : ∀ t : Fin cfg0.N, (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) :=
  (by decide +kernel : ∀ t : Fin grid0.N, (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0))

/-- The columns from 1280 on, an eighth of them. -/
def scaledWide (T : Fin 32768) (j : Fin 512) : EReal := wide (tokens m c) (scaleIn m c) (weight m c) ⟨1280, by omega⟩ T j * Ideal.ofBits .f32 0x3E000000#32

theorem val_at (h : FVec Ideal S512x1024 .bf16) (v : FVec Ideal S1024x256 .bf16) (y : S512x128.Idx) :
    (k0_pay29 (k0_pay24 h v) y : EReal) = extractStridedSlice S512x128 ![0, 128] (cols2 h v) slices_S512x256_o0_128_S512x128 y := rfl

/-- A point's block of the queries. -/
def queryBlock (t : Fin cfg0.N) : S512x512.Idx → Elt Ideal .bf16 := fun y => queries (tokens m c) (scaleIn m c) (weight m c) (gainQ m c) (tok t (y 0)) (y 1)

theorem query_at (hf : Finite m c) (t : Fin cfg0.N) (q : Fin 4) (o : ℕ) (ho : o = 128 * q.val) (hs : S512x512.Slices ![0, o] S512x128)
    (inb : ∀ a, (![0, 0] : Fin 2 → ℕ) a + S1024x512.size a ≤ S1024x2816.size a) (inb' : ∀ a, (![0, o] : Fin 2 → ℕ) a + S512x128.size a ≤ S512x512.size a) (x : S512x128.Idx) :
    rotated (extractStridedSlice S512x128 ![0, o] (cols (hidden m c t) (part m c t 0 inb)) hs)
      (View.ld (iblk m c 7 t) (Rect.unit (s := S256x128) ![0, 0] S256x128.size inb_S256x128_S256x128_0_0))
      (View.ld (iblk m c 3 t) (Rect.unit (s := S2048x128) (k0_off1 (grid0.coords t)) S512x128.size (k0_off1_inb (grid0.coords t))))
      (View.ld (iblk m c 4 t) (Rect.unit (s := S2048x128) (k0_off1 (grid0.coords t)) S512x128.size (k0_off1_inb (grid0.coords t)))) x
      = queries (tokens m c) (scaleIn m c) (weight m c) (gainQ m c) (tok t ((Rect.unit (s := S512x512) ![0, o] S512x128.size inb').emb x 0)) ((Rect.unit (s := S512x512) ![0, o] S512x128.size inb').emb x 1) := by
  have hq := q.isLt
  have h1 : (x 1).val < 128 := (x 1).isLt
  have hx : x = (ix2 (x 0) (x 1) : S512x128.Idx) := eq_ix2 (n0 := 512) (n1 := 128) x
  refine (congrArg (rotated _ _ _ _) hx).trans ((query_piece m c hf t q o ho hs inb (x 0) (x 1) ⟨o + (x 1).val, by omega⟩ rfl).trans (congrArg₂ (queries _ _ _ _) (congrArg (tok t) (Fin.ext ?_)) (Fin.ext ?_)))
  · show (x 0).val = 0 + 1 * (x 0).val; omega
  · show o + (x 1).val = o + 1 * (x 1).val; omega

/-- A point's block of the queries. -/
theorem point8 (hf : Finite m c) (t : Fin cfg0.N) (y : S512x512.Idx) : (outsAt0 m c t).1 y = queries (tokens m c) (scaleIn m c) (weight m c) (gainQ m c) (tok t (y 0)) (y 1) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine View.canon_apply_of_pieces (Val := Elt Ideal) (queryBlock m c t) _ ?_ y ?_
  · intro p hp x
    simp only [List.mem_cons, List.not_mem_nil, or_false] at hp
    rcases hp with rfl | rfl | rfl | rfl
    · exact (congrFun (pair3_eq (hidden m c t) (part m c t 0 inb_S1024x2816_S1024x512_0_0) _ _ _) x).trans (query_at m c hf t 3 384 rfl _ _ inb_S512x512_S512x128_0_384 x)
    · exact (congrFun (pair2_eq (hidden m c t) (part m c t 0 inb_S1024x2816_S1024x512_0_0) _ _ _) x).trans (query_at m c hf t 2 256 rfl _ _ inb_S512x512_S512x128_0_256 x)
    · exact (congrFun (pair1_eq (hidden m c t) (part m c t 0 inb_S1024x2816_S1024x512_0_0) _ _ _) x).trans (query_at m c hf t 1 128 rfl _ _ inb_S512x512_S512x128_0_128 x)
    · exact (congrFun (pair0_eq (hidden m c t) (part m c t 0 inb_S1024x2816_S1024x512_0_0) _ _ _) x).trans (query_at m c hf t 0 0 rfl _ _ inb_S512x512_S512x128_0_0 x)
  · have h0 : (y 0).val < 512 := (y 0).isLt
    have h1 : (y 1).val < 512 := (y 1).isLt
    have side : ∀ (o : ℕ) (inb : ∀ a, (![0, o] : Fin 2 → ℕ) a + S512x128.size a ≤ S512x512.size a), o ≤ (y 1).val → (y 1).val < o + 128 → y ∈ (Rect.unit (s := S512x512) ![0, o] S512x128.size inb).set := fun o inb hl hr => by
      rw [Rect.mem_set_unit]
      intro a
      match a with
      | ⟨0, _⟩ => exact ⟨Nat.zero_le _, by show (y 0).val < 0 + 512; omega⟩
      | ⟨1, _⟩ => exact ⟨hl, hr⟩
    by_cases c3 : 384 ≤ (y 1).val
    · exact ⟨_, .head _, side 384 inb_S512x512_S512x128_0_384 c3 (by omega)⟩
    by_cases c2 : 256 ≤ (y 1).val
    · exact ⟨_, .tail _ (.head _), side 256 inb_S512x512_S512x128_0_256 c2 (by omega)⟩
    by_cases c1 : 128 ≤ (y 1).val
    · exact ⟨_, .tail _ (.tail _ (.head _)), side 128 inb_S512x512_S512x128_0_128 c1 (by omega)⟩
    · exact ⟨_, .tail _ (.tail _ (.tail _ (.head _))), side 0 inb_S512x512_S512x128_0_0 (Nat.zero_le _) (by omega)⟩

/-- A point's block of the keys. -/
theorem point9 (hf : Finite m c) (t : Fin cfg0.N) (y : S512x128.Idx) : (outsAt0 m c t).2.1 y = keys (tokens m c) (scaleIn m c) (weight m c) (gainK m c) (tok t (y 0)) (y 1) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x128) (Val := Elt Ideal) (by funext a; match a with | ⟨0, _⟩ => rfl | ⟨1, _⟩ => rfl) _ _) y).trans ?_
  have hy : y = (ix2 (y 0) (y 1) : S512x128.Idx) := eq_ix2 (n0 := 512) (n1 := 128) y
  exact (congrFun (key_eq (hidden m c t) (part2 m c t 512 inb_S1024x2816_S1024x256_0_512) _ _ _) y).trans ((congrArg (rotated _ _ _ _) hy).trans (key_piece m c hf t _ _ (y 0) (y 1)))

/-- A point's block of the values. -/
theorem point10 (t : Fin cfg0.N) (y : S512x128.Idx) : (outsAt0 m c t).2.2.1 y = vals (tokens m c) (scaleIn m c) (weight m c) (tok t (y 0)) (y 1) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x128) (Val := Elt Ideal) (by funext a; match a with | ⟨0, _⟩ => rfl | ⟨1, _⟩ => rfl) _ _) y).trans ?_
  have hy : y = (ix2 (y 0) (y 1) : S512x128.Idx) := eq_ix2 (n0 := 512) (n1 := 128) y
  have e := val_piece m c t slices_S512x256_o0_128_S512x128 inb_S1024x2816_S1024x256_0_512 (y 0) (y 1)
  rw [← hy] at e
  refine Eq.trans ?_ e
  exact val_at (hidden m c t) (part2 m c t 512 inb_S1024x2816_S1024x256_0_512) y

/-- A point's block of the up-branch. -/
theorem point11 (t : Fin cfg0.N) (y : S512x512.Idx) : (outsAt0 m c t).2.2.2.1 y = wide (tokens m c) (scaleIn m c) (weight m c) ⟨768, by omega⟩ (tok t (y 0)) (y 1) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x512) (Val := Elt Ideal) (by funext a; match a with | ⟨0, _⟩ => rfl | ⟨1, _⟩ => rfl) _ _) y).trans ?_
  have hy : y = (ix2 (y 0) (y 1) : S512x512.Idx) := eq_ix2 (n0 := 512) (n1 := 512) y
  exact (congrFun (up_eq (hidden m c t) (part m c t 768 inb_S1024x2816_S1024x512_0_768)) y).trans ((congrArg (cols (hidden m c t) (part m c t 768 inb_S1024x2816_S1024x512_0_768)) hy).trans (wide_piece m c t ⟨768, by omega⟩ (by show 512 ≤ 768; omega) inb_S1024x2816_S1024x512_0_768 (y 0) (y 1)))

/-- A point's block of the convolution's queries. -/
theorem point12 (t : Fin cfg0.N) (y : S512x512.Idx) : (outsAt0 m c t).2.2.2.2.1 y = scaledWide m c (tok t (y 0)) (y 1) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x512) (Val := Elt Ideal) (by funext a; match a with | ⟨0, _⟩ => rfl | ⟨1, _⟩ => rfl) _ _) y).trans ?_
  have hy : y = (ix2 (y 0) (y 1) : S512x512.Idx) := eq_ix2 (n0 := 512) (n1 := 512) y
  exact (congrFun (qc_eq (hidden m c t) (part m c t 1280 inb_S1024x2816_S1024x512_0_1280)) y).trans (congrArg (fun a : EReal => a * Ideal.ofBits .f32 0x3E000000#32) ((congrArg (cols (hidden m c t) (part m c t 1280 inb_S1024x2816_S1024x512_0_1280)) hy).trans (wide_piece m c t ⟨1280, by omega⟩ (by show 512 ≤ 1280; omega) inb_S1024x2816_S1024x512_0_1280 (y 0) (y 1))))

/-- A point's block of the convolution's keys. -/
theorem point13 (t : Fin cfg0.N) (y : S512x512.Idx) : (outsAt0 m c t).2.2.2.2.2.1 y = wide (tokens m c) (scaleIn m c) (weight m c) ⟨1792, by omega⟩ (tok t (y 0)) (y 1) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x512) (Val := Elt Ideal) (by funext a; match a with | ⟨0, _⟩ => rfl | ⟨1, _⟩ => rfl) _ _) y).trans ?_
  have hy : y = (ix2 (y 0) (y 1) : S512x512.Idx) := eq_ix2 (n0 := 512) (n1 := 512) y
  exact (congrFun (kc_eq (hidden m c t) (part m c t 1792 inb_S1024x2816_S1024x512_0_1792)) y).trans ((congrArg (cols (hidden m c t) (part m c t 1792 inb_S1024x2816_S1024x512_0_1792)) hy).trans (wide_piece m c t ⟨1792, by omega⟩ (by show 512 ≤ 1792; omega) inb_S1024x2816_S1024x512_0_1792 (y 0) (y 1)))

/-- A point's block of the convolution's values. -/
theorem point14 (t : Fin cfg0.N) (y : S512x512.Idx) : (outsAt0 m c t).2.2.2.2.2.2 y = wide (tokens m c) (scaleIn m c) (weight m c) ⟨2304, by omega⟩ (tok t (y 0)) (y 1) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine (congrFun (View.canon_unit_zero (S := S512x512) (Val := Elt Ideal) (by funext a; match a with | ⟨0, _⟩ => rfl | ⟨1, _⟩ => rfl) _ _) y).trans ?_
  have hy : y = (ix2 (y 0) (y 1) : S512x512.Idx) := eq_ix2 (n0 := 512) (n1 := 512) y
  exact (congrFun (vc_eq (hidden m c t) (part m c t 2304 inb_S1024x2816_S1024x512_0_2304)) y).trans ((congrArg (cols (hidden m c t) (part m c t 2304 inb_S1024x2816_S1024x512_0_2304)) hy).trans (wide_piece m c t ⟨2304, by omega⟩ (by show 512 ≤ 2304; omega) inb_S1024x2816_S1024x512_0_2304 (y 0) (y 1)))

/-- The queries as one function of the arguments. -/
def result8 : Buf (Elt Ideal) ((c : Thread nD τ).loc main_v133_0) := fun i => queries (tokens m c) (scaleIn m c) (weight m c) (gainQ m c) (i 0) (i 1)

/-- What a point writes back of the queries is its block of the result. -/
theorem flushed_eq8 (hf : Finite m c) (t : Fin cfg0.N) : (dats m 0 c).flushed 8 t = ((cfg0.win 8).blk t).view.read (Elt Ideal) (result8 m c) := by
  rw [Value.flushed8]
  obtain ⟨⟨ha, hb⟩, -⟩ := idx_out t
  funext y
  refine (point8 m c hf t y).trans (congrArg₂ (queries (tokens m c) (scaleIn m c) (weight m c) (gainQ m c)) (Fin.ext ?_) (Fin.ext ?_))
  · show 512 * t.val + (y 0).val = win0_8.index t 0 * 512 + 1 * (y 0).val; rw [ha]; omega
  · show (y 1).val = win0_8.index t 1 * 512 + 1 * (y 1).val; rw [hb]; omega

theorem mem_blk8 (t : Fin cfg0.N) (i : S32768x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v133_0).slice (win0_8.rect t)).set ↔ _
  rw [View.set_slice_whole, Rect.mem_set_unit]
  exact Iff.rfl

/-- **The queries after the run.** -/
theorem array_eq8 (hf : Finite m c) : (dats m 0 c).arrAt 8 cfg0.N = result8 m c := by
  refine (dats m 0 c).arrAt_eq_of_cover 8 (result8 m c) (fun t _ => flushed_eq8 m c hf t) fun i => ?_
  have h0 : (i 0).val < 32768 := (i 0).isLt
  have h1 : (i 1).val < 512 := (i 1).isLt
  let t : Fin cfg0.N := ⟨(i 0).val / 512, by show _ < 64; omega⟩
  obtain ⟨⟨ha, hb⟩, -⟩ := idx_out t
  refine ⟨t, flush0_8 t, ?_⟩
  rw [mem_blk8]
  intro a
  match a with
  | ⟨0, _⟩ =>
    show win0_8.index t 0 * 512 ≤ (i 0).val ∧ (i 0).val < win0_8.index t 0 * 512 + 512
    rw [ha]; show (i 0).val / 512 * 512 ≤ _ ∧ _ < (i 0).val / 512 * 512 + 512; omega
  | ⟨1, _⟩ =>
    show win0_8.index t 1 * 512 ≤ (i 1).val ∧ (i 1).val < win0_8.index t 1 * 512 + 512
    rw [hb]; omega

/-- The keys as one function of the arguments. -/
def result9 : Buf (Elt Ideal) ((c : Thread nD τ).loc main_v133_1) := fun i => keys (tokens m c) (scaleIn m c) (weight m c) (gainK m c) (i 0) (i 1)

/-- What a point writes back of the keys is its block of the result. -/
theorem flushed_eq9 (hf : Finite m c) (t : Fin cfg0.N) : (dats m 0 c).flushed 9 t = ((cfg0.win 9).blk t).view.read (Elt Ideal) (result9 m c) := by
  rw [Value.flushed9]
  obtain ⟨-, ⟨ha, hb⟩, -⟩ := idx_out t
  funext y
  refine (point9 m c hf t y).trans (congrArg₂ (keys (tokens m c) (scaleIn m c) (weight m c) (gainK m c)) (Fin.ext ?_) (Fin.ext ?_))
  · show 512 * t.val + (y 0).val = win0_9.index t 0 * 512 + 1 * (y 0).val; rw [ha]; omega
  · show (y 1).val = win0_9.index t 1 * 128 + 1 * (y 1).val; rw [hb]; omega

theorem mem_blk9 (t : Fin cfg0.N) (i : S32768x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v133_1).slice (win0_9.rect t)).set ↔ _
  rw [View.set_slice_whole, Rect.mem_set_unit]
  exact Iff.rfl

/-- **The keys after the run.** -/
theorem array_eq9 (hf : Finite m c) : (dats m 0 c).arrAt 9 cfg0.N = result9 m c := by
  refine (dats m 0 c).arrAt_eq_of_cover 9 (result9 m c) (fun t _ => flushed_eq9 m c hf t) fun i => ?_
  have h0 : (i 0).val < 32768 := (i 0).isLt
  have h1 : (i 1).val < 128 := (i 1).isLt
  let t : Fin cfg0.N := ⟨(i 0).val / 512, by show _ < 64; omega⟩
  obtain ⟨-, ⟨ha, hb⟩, -⟩ := idx_out t
  refine ⟨t, flush0_9 t, ?_⟩
  rw [mem_blk9]
  intro a
  match a with
  | ⟨0, _⟩ =>
    show win0_9.index t 0 * 512 ≤ (i 0).val ∧ (i 0).val < win0_9.index t 0 * 512 + 512
    rw [ha]; show (i 0).val / 512 * 512 ≤ _ ∧ _ < (i 0).val / 512 * 512 + 512; omega
  | ⟨1, _⟩ =>
    show win0_9.index t 1 * 128 ≤ (i 1).val ∧ (i 1).val < win0_9.index t 1 * 128 + 128
    rw [hb]; omega

/-- The values as one function of the arguments. -/
def result10 : Buf (Elt Ideal) ((c : Thread nD τ).loc main_v133_2) := fun i => vals (tokens m c) (scaleIn m c) (weight m c) (i 0) (i 1)

/-- What a point writes back of the values is its block of the result. -/
theorem flushed_eq10 (t : Fin cfg0.N) : (dats m 0 c).flushed 10 t = ((cfg0.win 10).blk t).view.read (Elt Ideal) (result10 m c) := by
  rw [Value.flushed10]
  obtain ⟨-, -, ⟨ha, hb⟩, -⟩ := idx_out t
  funext y
  refine (point10 m c t y).trans (congrArg₂ (vals (tokens m c) (scaleIn m c) (weight m c)) (Fin.ext ?_) (Fin.ext ?_))
  · show 512 * t.val + (y 0).val = win0_10.index t 0 * 512 + 1 * (y 0).val; rw [ha]; omega
  · show (y 1).val = win0_10.index t 1 * 128 + 1 * (y 1).val; rw [hb]; omega

theorem mem_blk10 (t : Fin cfg0.N) (i : S32768x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v133_2).slice (win0_10.rect t)).set ↔ _
  rw [View.set_slice_whole, Rect.mem_set_unit]
  exact Iff.rfl

/-- **The values after the run.** -/
theorem array_eq10 : (dats m 0 c).arrAt 10 cfg0.N = result10 m c := by
  refine (dats m 0 c).arrAt_eq_of_cover 10 (result10 m c) (fun t _ => flushed_eq10 m c t) fun i => ?_
  have h0 : (i 0).val < 32768 := (i 0).isLt
  have h1 : (i 1).val < 128 := (i 1).isLt
  let t : Fin cfg0.N := ⟨(i 0).val / 512, by show _ < 64; omega⟩
  obtain ⟨-, -, ⟨ha, hb⟩, -⟩ := idx_out t
  refine ⟨t, flush0_10 t, ?_⟩
  rw [mem_blk10]
  intro a
  match a with
  | ⟨0, _⟩ =>
    show win0_10.index t 0 * 512 ≤ (i 0).val ∧ (i 0).val < win0_10.index t 0 * 512 + 512
    rw [ha]; show (i 0).val / 512 * 512 ≤ _ ∧ _ < (i 0).val / 512 * 512 + 512; omega
  | ⟨1, _⟩ =>
    show win0_10.index t 1 * 128 ≤ (i 1).val ∧ (i 1).val < win0_10.index t 1 * 128 + 128
    rw [hb]; omega

/-- The up-branch as one function of the arguments. -/
def result11 : Buf (Elt Ideal) ((c : Thread nD τ).loc main_v133_3) := fun i => wide (tokens m c) (scaleIn m c) (weight m c) ⟨768, by omega⟩ (i 0) (i 1)

/-- What a point writes back of the up-branch is its block of the result. -/
theorem flushed_eq11 (t : Fin cfg0.N) : (dats m 0 c).flushed 11 t = ((cfg0.win 11).blk t).view.read (Elt Ideal) (result11 m c) := by
  rw [Value.flushed11]
  obtain ⟨-, -, -, ⟨ha, hb⟩, -⟩ := idx_out t
  funext y
  refine (point11 m c t y).trans (congrArg₂ (wide (tokens m c) (scaleIn m c) (weight m c) ⟨768, by omega⟩) (Fin.ext ?_) (Fin.ext ?_))
  · show 512 * t.val + (y 0).val = win0_11.index t 0 * 512 + 1 * (y 0).val; rw [ha]; omega
  · show (y 1).val = win0_11.index t 1 * 512 + 1 * (y 1).val; rw [hb]; omega

theorem mem_blk11 (t : Fin cfg0.N) (i : S32768x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v133_3).slice (win0_11.rect t)).set ↔ _
  rw [View.set_slice_whole, Rect.mem_set_unit]
  exact Iff.rfl

/-- **The up-branch after the run.** -/
theorem array_eq11 : (dats m 0 c).arrAt 11 cfg0.N = result11 m c := by
  refine (dats m 0 c).arrAt_eq_of_cover 11 (result11 m c) (fun t _ => flushed_eq11 m c t) fun i => ?_
  have h0 : (i 0).val < 32768 := (i 0).isLt
  have h1 : (i 1).val < 512 := (i 1).isLt
  let t : Fin cfg0.N := ⟨(i 0).val / 512, by show _ < 64; omega⟩
  obtain ⟨-, -, -, ⟨ha, hb⟩, -⟩ := idx_out t
  refine ⟨t, flush0_11 t, ?_⟩
  rw [mem_blk11]
  intro a
  match a with
  | ⟨0, _⟩ =>
    show win0_11.index t 0 * 512 ≤ (i 0).val ∧ (i 0).val < win0_11.index t 0 * 512 + 512
    rw [ha]; show (i 0).val / 512 * 512 ≤ _ ∧ _ < (i 0).val / 512 * 512 + 512; omega
  | ⟨1, _⟩ =>
    show win0_11.index t 1 * 512 ≤ (i 1).val ∧ (i 1).val < win0_11.index t 1 * 512 + 512
    rw [hb]; omega

/-- The convolution's queries as one function of the arguments. -/
def result12 : Buf (Elt Ideal) ((c : Thread nD τ).loc main_v133_4) := fun i => scaledWide m c (i 0) (i 1)

/-- What a point writes back of the convolution's queries is its block of the result. -/
theorem flushed_eq12 (t : Fin cfg0.N) : (dats m 0 c).flushed 12 t = ((cfg0.win 12).blk t).view.read (Elt Ideal) (result12 m c) := by
  rw [Value.flushed12]
  obtain ⟨-, -, -, -, ⟨ha, hb⟩, -⟩ := idx_out t
  funext y
  refine (point12 m c t y).trans (congrArg₂ (scaledWide m c) (Fin.ext ?_) (Fin.ext ?_))
  · show 512 * t.val + (y 0).val = win0_12.index t 0 * 512 + 1 * (y 0).val; rw [ha]; omega
  · show (y 1).val = win0_12.index t 1 * 512 + 1 * (y 1).val; rw [hb]; omega

theorem mem_blk12 (t : Fin cfg0.N) (i : S32768x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v133_4).slice (win0_12.rect t)).set ↔ _
  rw [View.set_slice_whole, Rect.mem_set_unit]
  exact Iff.rfl

/-- **The convolution's queries after the run.** -/
theorem array_eq12 : (dats m 0 c).arrAt 12 cfg0.N = result12 m c := by
  refine (dats m 0 c).arrAt_eq_of_cover 12 (result12 m c) (fun t _ => flushed_eq12 m c t) fun i => ?_
  have h0 : (i 0).val < 32768 := (i 0).isLt
  have h1 : (i 1).val < 512 := (i 1).isLt
  let t : Fin cfg0.N := ⟨(i 0).val / 512, by show _ < 64; omega⟩
  obtain ⟨-, -, -, -, ⟨ha, hb⟩, -⟩ := idx_out t
  refine ⟨t, flush0_12 t, ?_⟩
  rw [mem_blk12]
  intro a
  match a with
  | ⟨0, _⟩ =>
    show win0_12.index t 0 * 512 ≤ (i 0).val ∧ (i 0).val < win0_12.index t 0 * 512 + 512
    rw [ha]; show (i 0).val / 512 * 512 ≤ _ ∧ _ < (i 0).val / 512 * 512 + 512; omega
  | ⟨1, _⟩ =>
    show win0_12.index t 1 * 512 ≤ (i 1).val ∧ (i 1).val < win0_12.index t 1 * 512 + 512
    rw [hb]; omega

/-- The convolution's keys as one function of the arguments. -/
def result13 : Buf (Elt Ideal) ((c : Thread nD τ).loc main_v133_5) := fun i => wide (tokens m c) (scaleIn m c) (weight m c) ⟨1792, by omega⟩ (i 0) (i 1)

/-- What a point writes back of the convolution's keys is its block of the result. -/
theorem flushed_eq13 (t : Fin cfg0.N) : (dats m 0 c).flushed 13 t = ((cfg0.win 13).blk t).view.read (Elt Ideal) (result13 m c) := by
  rw [Value.flushed13]
  obtain ⟨-, -, -, -, -, ⟨ha, hb⟩, -⟩ := idx_out t
  funext y
  refine (point13 m c t y).trans (congrArg₂ (wide (tokens m c) (scaleIn m c) (weight m c) ⟨1792, by omega⟩) (Fin.ext ?_) (Fin.ext ?_))
  · show 512 * t.val + (y 0).val = win0_13.index t 0 * 512 + 1 * (y 0).val; rw [ha]; omega
  · show (y 1).val = win0_13.index t 1 * 512 + 1 * (y 1).val; rw [hb]; omega

theorem mem_blk13 (t : Fin cfg0.N) (i : S32768x512.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v133_5).slice (win0_13.rect t)).set ↔ _
  rw [View.set_slice_whole, Rect.mem_set_unit]
  exact Iff.rfl

/-- **The convolution's keys after the run.** -/
theorem array_eq13 : (dats m 0 c).arrAt 13 cfg0.N = result13 m c := by
  refine (dats m 0 c).arrAt_eq_of_cover 13 (result13 m c) (fun t _ => flushed_eq13 m c t) fun i => ?_
  have h0 : (i 0).val < 32768 := (i 0).isLt
  have h1 : (i 1).val < 512 := (i 1).isLt
  let t : Fin cfg0.N := ⟨(i 0).val / 512, by show _ < 64; omega⟩
  obtain ⟨-, -, -, -, -, ⟨ha, hb⟩, -⟩ := idx_out t
  refine ⟨t, flush0_13 t, ?_⟩
  rw [mem_blk13]
  intro a
  match a with
  | ⟨0, _⟩ =>
    show win0_13.index t 0 * 512 ≤ (i 0).val ∧ (i 0).val < win0_13.index t 0 * 512 + 512
    rw [ha]; show (i 0).val / 512 * 512 ≤ _ ∧ _ < (i 0).val / 512 * 512 + 512; omega
  | ⟨1, _⟩ =>
    show win0_13.index t 1 * 512 ≤ (i 1).val ∧ (i 1).val < win0_13.index t 1 * 512 + 512
    rw [hb]; omega

/-- The convolution's values as one function of the arguments. -/
def result14 : Buf (Elt Ideal) ((c : Thread nD τ).loc main_v133_6) := fun i => wide (tokens m c) (scaleIn m c) (weight m c) ⟨2304, by omega⟩ (i 0) (i 1)

/-- What a point writes back of the convolution's values is its block of the result. -/
theorem flushed_eq14 (t : Fin cfg0.N) : (dats m 0 c).flushed 14 t = ((cfg0.win 14).blk t).view.read (Elt Ideal) (result14 m c) := by
  rw [Value.flushed14]
  obtain ⟨-, -, -, -, -, -, ha, hb⟩ := idx_out t
  funext y
  refine (point14 m c t y).trans (congrArg₂ (wide (tokens m c) (scaleIn m c) (weight m c) ⟨2304, by omega⟩) (Fin.ext ?_) (Fin.ext ?_))
  · show 512 * t.val + (y 0).val = win0_14.index t 0 * 512 + 1 * (y 0).val; rw [ha]; omega
  · show (y 1).val = win0_14.index t 1 * 512 + 1 * (y 1).val; rw [hb]; omega

theorem mem_blk14 (t : Fin cfg0.N) (i : S32768x512.Idx) :
    i ∈ ((cfg0.win 14).blk t).view.set ↔ ∀ a : Fin 2, win0_14.index t a * S512x512.size a ≤ (i a).val ∧ (i a).val < win0_14.index t a * S512x512.size a + S512x512.size a := by
  show i ∈ ((View.whole main_v133_6).slice (win0_14.rect t)).set ↔ _
  rw [View.set_slice_whole, Rect.mem_set_unit]
  exact Iff.rfl

/-- **The convolution's values after the run.** -/
theorem array_eq14 : (dats m 0 c).arrAt 14 cfg0.N = result14 m c := by
  refine (dats m 0 c).arrAt_eq_of_cover 14 (result14 m c) (fun t _ => flushed_eq14 m c t) fun i => ?_
  have h0 : (i 0).val < 32768 := (i 0).isLt
  have h1 : (i 1).val < 512 := (i 1).isLt
  let t : Fin cfg0.N := ⟨(i 0).val / 512, by show _ < 64; omega⟩
  obtain ⟨-, -, -, -, -, -, ha, hb⟩ := idx_out t
  refine ⟨t, flush0_14 t, ?_⟩
  rw [mem_blk14]
  intro a
  match a with
  | ⟨0, _⟩ =>
    show win0_14.index t 0 * 512 ≤ (i 0).val ∧ (i 0).val < win0_14.index t 0 * 512 + 512
    rw [ha]; show (i 0).val / 512 * 512 ≤ _ ∧ _ < (i 0).val / 512 * 512 + 512; omega
  | ⟨1, _⟩ =>
    show win0_14.index t 1 * 512 ≤ (i 1).val ∧ (i 1).val < win0_14.index t 1 * 512 + 512
    rw [hb]; omega

end Cert.InprojIdeal.Array

end
-- ==== Proof.InprojRef.lean ====
/-
  The reference's input projection read at an index: the columns of a token, and the heads' rotation as it spells it.
-/
module

public import proofs.«01_k».proof.Proof.InprojHost

@[expose] public section

set_option maxRecDepth 16384

noncomputable section

namespace Cert.InprojRefIdeal.Array

open Cert.InprojRefIdeal Cert.InprojRefIdeal.Gen Cert.InprojRefIdeal.Read Idealize.ShloMosaic Idealize.ShloMosaic.TcCoe Idealize.ShloMosaic.ValueIdx
open Cert.InprojSpec Cert.RowNorm
open Cert.InprojIdeal.Host (cosRow sinRow cosCol sinCol cosAt sinAt pos col head queries keys vals wide)
open scoped BigOperators

section Generic

variable {B R H A C N : ℕ}

/-- Two arrays of rows side by side, read in the left one. -/
theorem side_left (x : FVec Ideal ⟨4, ![B, R, H, A]⟩ .f32) (y : FVec Ideal ⟨4, ![B, R, H, C]⟩ .f32) (hc : Shape.Concatenates [⟨4, ![B, R, H, A]⟩, ⟨4, ![B, R, H, C]⟩] ⟨4, ![B, R, H, N]⟩ 3)
    (b : Fin B) (n : Fin R) (h : Fin H) (j : Fin N) (i : Fin A) (hj : i.val = j.val) :
    concatenate (⟨4, ![B, R, H, N]⟩ : Shape) 3 [⟨⟨4, ![B, R, H, A]⟩, x⟩, ⟨⟨4, ![B, R, H, C]⟩, y⟩] hc (ix4 b n h j) = x (ix4 b n h i) := by
  refine concatenate_apply_piece 3 [⟨⟨4, ![B, R, H, A]⟩, x⟩, ⟨⟨4, ![B, R, H, C]⟩, y⟩] hc (ix4 b n h j) 0 (by show 0 < 2; omega) ⟨4, ![B, R, H, A]⟩ x rfl rfl 0 rfl (ix4 b n h i) (fun a ha => ?_) ?_
  · match a, ha with
    | ⟨0, _⟩, _ => rfl
    | ⟨1, _⟩, _ => rfl
    | ⟨2, _⟩, _ => rfl
    | ⟨3, _⟩, ha => exact absurd rfl ha
  · show 0 + i.val = j.val; omega

/-- Two arrays of rows side by side, read in the right one. -/
theorem side_right (x : FVec Ideal ⟨4, ![B, R, H, A]⟩ .f32) (y : FVec Ideal ⟨4, ![B, R, H, C]⟩ .f32) (hc : Shape.Concatenates [⟨4, ![B, R, H, A]⟩, ⟨4, ![B, R, H, C]⟩] ⟨4, ![B, R, H, N]⟩ 3)
    (b : Fin B) (n : Fin R) (h : Fin H) (j : Fin N) (i : Fin C) (hj : A + i.val = j.val) :
    concatenate (⟨4, ![B, R, H, N]⟩ : Shape) 3 [⟨⟨4, ![B, R, H, A]⟩, x⟩, ⟨⟨4, ![B, R, H, C]⟩, y⟩] hc (ix4 b n h j) = y (ix4 b n h i) := by
  refine concatenate_apply_piece 3 [⟨⟨4, ![B, R, H, A]⟩, x⟩, ⟨⟨4, ![B, R, H, C]⟩, y⟩] hc (ix4 b n h j) 1 (by show 1 < 2; omega) ⟨4, ![B, R, H, C]⟩ y rfl rfl A rfl (ix4 b n h i) (fun a ha => ?_) ?_
  · match a, ha with
    | ⟨0, _⟩, _ => rfl
    | ⟨1, _⟩, _ => rfl
    | ⟨2, _⟩, _ => rfl
    | ⟨3, _⟩, ha => exact absurd rfl ha
  · exact hj

/-- Four blocks of 16 lanes side by side. -/
theorem four_apply (a b' c d : FVec Ideal ⟨4, ![B, R, H, 16]⟩ .f32) (h1 : Shape.Concatenates [⟨4, ![B, R, H, 16]⟩, ⟨4, ![B, R, H, 16]⟩] ⟨4, ![B, R, H, 32]⟩ 3)
    (h2 : Shape.Concatenates [⟨4, ![B, R, H, 32]⟩, ⟨4, ![B, R, H, 32]⟩] ⟨4, ![B, R, H, 64]⟩ 3) (b : Fin B) (n : Fin R) (h : Fin H) (l : Fin 64) :
    concatenate (⟨4, ![B, R, H, 64]⟩ : Shape) 3 [⟨⟨4, ![B, R, H, 32]⟩, concatenate (⟨4, ![B, R, H, 32]⟩ : Shape) 3 [⟨⟨4, ![B, R, H, 16]⟩, a⟩, ⟨⟨4, ![B, R, H, 16]⟩, b'⟩] h1⟩,
        ⟨⟨4, ![B, R, H, 32]⟩, concatenate (⟨4, ![B, R, H, 32]⟩ : Shape) 3 [⟨⟨4, ![B, R, H, 16]⟩, c⟩, ⟨⟨4, ![B, R, H, 16]⟩, d⟩] h1⟩] h2 (ix4 b n h l)
      = if l.val / 16 % 2 = 0 then (if l.val < 32 then a (ix4 b n h (place l)) else c (ix4 b n h (place l))) else (if l.val < 32 then b' (ix4 b n h (place l)) else d (ix4 b n h (place l))) := by
  have hl := l.isLt
  have hp : (place l).val = l.val % 16 := rfl
  by_cases hlt : l.val < 32
  · rw [if_pos hlt, if_pos hlt]
    refine (side_left _ _ h2 b n h l ⟨l.val, hlt⟩ rfl).trans ?_
    by_cases h0 : l.val / 16 % 2 = 0
    · rw [if_pos h0]
      exact side_left a b' h1 b n h ⟨l.val, hlt⟩ (place l) (by rw [hp]; show _ = l.val; omega)
    · rw [if_neg h0]
      exact side_right a b' h1 b n h ⟨l.val, hlt⟩ (place l) (by rw [hp]; show _ = l.val; omega)
  · rw [if_neg hlt, if_neg hlt]
    refine (side_right _ _ h2 b n h l ⟨l.val - 32, by omega⟩ (by show 32 + (l.val - 32) = l.val; omega)).trans ?_
    by_cases h0 : l.val / 16 % 2 = 0
    · rw [if_pos h0]
      exact side_left c d h1 b n h ⟨l.val - 32, by omega⟩ (place l) (by rw [hp]; show _ = l.val - 32; omega)
    · rw [if_neg h0]
      exact side_right c d h1 b n h ⟨l.val - 32, by omega⟩ (place l) (by rw [hp]; show _ = l.val - 32; omega)

end Generic

/-- A rotation from its four blocks: `N` are the normalized lanes. -/
theorem turned_of_blocks (n : Fin 2048) (u g N : Fin 64 → EReal) (hN : ∀ d, N d = lane u g d) (l : Fin 64) (a b c d : Fin 16 → EReal)
    (ha : ∀ i : Fin 16, a i = N ⟨i.val, by have := i.isLt; omega⟩ * cosRow (ix2 n i) - N ⟨16 + i.val, by have := i.isLt; omega⟩ * sinRow (ix2 n i))
    (hb : ∀ i : Fin 16, b i = N ⟨i.val, by have := i.isLt; omega⟩ * sinRow (ix2 n i) + N ⟨16 + i.val, by have := i.isLt; omega⟩ * cosRow (ix2 n i))
    (hc : ∀ i : Fin 16, c i = N ⟨32 + i.val, by have := i.isLt; omega⟩ * cosCol (ix2 n i) - N ⟨48 + i.val, by have := i.isLt; omega⟩ * sinCol (ix2 n i))
    (hd : ∀ i : Fin 16, d i = N ⟨32 + i.val, by have := i.isLt; omega⟩ * sinCol (ix2 n i) + N ⟨48 + i.val, by have := i.isLt; omega⟩ * cosCol (ix2 n i)) :
    (if l.val / 16 % 2 = 0 then (if l.val < 32 then a (place l) else c (place l)) else (if l.val < 32 then b (place l) else d (place l))) = turned (cosAt n) (sinAt n) u g l := by
  have hl := l.isLt
  have hp : (place l).val = l.val % 16 := rfl
  have ht : (twin l).val = if l.val / 16 % 2 = 0 then l.val + 16 else l.val - 16 := by unfold twin; split <;> rfl
  have at' : ∀ (x : ℕ) (hx : x < 64) (y : Fin 64), x = y.val → N ⟨x, hx⟩ = lane u g y := fun x hx y e => (congrArg N (Fin.ext e)).trans (hN y)
  unfold turned cosAt sinAt
  by_cases h0 : l.val / 16 % 2 = 0
  · rw [if_pos h0] at ht
    rw [if_pos h0, if_pos h0]
    by_cases hlt : l.val < 32
    · rw [if_pos hlt, if_pos hlt, if_pos hlt, ha, at' (place l).val _ l (by omega), at' (16 + (place l).val) _ (twin l) (by omega)]
    · rw [if_neg hlt, if_neg hlt, if_neg hlt, hc, at' (32 + (place l).val) _ l (by omega), at' (48 + (place l).val) _ (twin l) (by omega)]
  · rw [if_neg h0] at ht
    rw [if_neg h0, if_neg h0]
    by_cases hlt : l.val < 32
    · rw [if_pos hlt, if_pos hlt, if_pos hlt, hb, at' (place l).val _ (twin l) (by omega), at' (16 + (place l).val) _ l (by omega)]
    · rw [if_neg hlt, if_neg hlt, if_neg hlt, hd, at' (32 + (place l).val) _ (twin l) (by omega), at' (48 + (place l).val) _ l (by omega)]

variable (x0 : (⟨S32768x1024, .f32⟩ : BufTy).Contents (Elt Ideal)) (x1 : (⟨S1024, .f32⟩ : BufTy).Contents (Elt Ideal)) (x2 : (⟨S1024x5888, .f32⟩ : BufTy).Contents (Elt Ideal))
  (x3 x4 : (⟨S64, .f32⟩ : BufTy).Contents (Elt Ideal))

theorem zero_word : (FloatOps.ofBits .f32 0x00000000#32 : Ideal .f32) = (0 : EReal) := Ideal.ofBits_zero_f32

/-- The normalized row times its scale. -/
theorem hid_apply (T : Fin 32768) (k : Fin 1024) : val_main_v12 (F := Ideal) x0 x1 (ix2 T k) = hid (fun k => x0 (ix2 T k)) (fun k => x1 (ix1 k)) k := by
  rw [val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_cst_apply, val_main_cst_0_apply, val_main_cst_1_apply, zero_word, zero_add]
  refine congrArg₂ (fun a b : EReal => a * b) (congrArg (fun a : EReal => x0 (ix2 T k) * a) ?_) (congrArg x1 (funext fun a => ?_))
  · refine congrArg (fun s : EReal => Ideal.rsqrt (Ideal.div s (Ideal.ofBits .f32 0x44800000#32) + Ideal.ofBits .f32 0x358637BD#32)) (Finset.sum_congr rfl fun e _ => ?_)
    rw [val_main_v0_apply]
    refine congrArg₂ (fun a b : EReal => a * b) (congrArg x0 (funext fun a => ?_)) (congrArg x0 (funext fun a => ?_))
    · match a with
      | ⟨0, _⟩ => rfl
      | ⟨1, _⟩ => rfl
    · match a with
      | ⟨0, _⟩ => rfl
      | ⟨1, _⟩ => rfl
  · match a with
    | ⟨0, _⟩ => rfl

/-- A projected column. -/
theorem col_apply (T : Fin 32768) (j : Fin 5888) : val_main_v13 (F := Ideal) x0 x1 x2 (ix2 T j) = col x0 x1 x2 T j := by
  rw [val_main_v13_apply]
  unfold col proj
  refine Finset.sum_congr rfl fun k _ => congrArg₂ (fun a b : EReal => a * b) ((congrArg (val_main_v12 (F := Ideal) x0 x1) (funext fun a => ?_)).trans (hid_apply x0 x1 T k)) (congrArg x2 (funext fun a => ?_))
  · match a with
    | ⟨0, _⟩ => rfl
    | ⟨1, _⟩ => rfl
  · match a with
    | ⟨0, _⟩ => rfl
    | ⟨1, _⟩ => rfl

/-! ## The queries -/

/-- A token's heads. -/
theorem heads_q (b : Fin 16) (n : Fin 2048) (h : Fin 8) (e : Fin 64) (T : Fin 32768) (hT : T.val = b.val * 2048 + n.val) (j : Fin 5888) (hj : j.val = 0 + h.val * 64 + e.val) :
    val_main_v24 (F := Ideal) x0 x1 x2 (ix4 b n h e) = col x0 x1 x2 T j := by
  have hb := b.isLt; have hn := n.isLt; have hh := h.isLt; have he := e.isLt
  refine (val_main_v24_apply x0 x1 x2 _).trans ((congrArg (val_main_v14 (F := Ideal) x0 x1 x2) (funext fun a => Fin.ext ?_ : _ = (ix2 T (⟨h.val * 64 + e.val, by omega⟩ : Fin 512) : S32768x512.Idx))).trans
    ((val_main_v14_apply x0 x1 x2 _).trans ((congrArg (val_main_v13 (F := Ideal) x0 x1 x2) (funext fun a => Fin.ext ?_ : _ = (ix2 T j : S32768x5888.Idx))).trans (col_apply x0 x1 x2 T j))))
  · match a with
    | ⟨0, _⟩ => show (((b.val * 2048 + n.val) * 8 + h.val) * 64 + e.val) / 512 = T.val; omega
    | ⟨1, _⟩ => show (((b.val * 2048 + n.val) * 8 + h.val) * 64 + e.val) % 512 = h.val * 64 + e.val; omega
  · match a with
    | ⟨0, _⟩ => rfl
    | ⟨1, _⟩ => show (h.val * 64 + e.val) = j.val; omega

/-- A normalized lane. -/
theorem lane_q (b : Fin 16) (n : Fin 2048) (h : Fin 8) (d : Fin 64) :
    val_main_v37 (F := Ideal) x0 x1 x2 x3 (ix4 b n h d) = lane (fun e => val_main_v24 (F := Ideal) x0 x1 x2 (ix4 b n h e)) (fun e => x3 (ix1 e)) d := by
  rw [val_main_v37_apply, val_main_v36_apply, val_main_v35_apply, val_main_v34_apply, val_main_v33_apply, val_main_v32_apply, val_main_v31_apply, val_main_v30_apply, val_main_v29_apply, val_main_v28_apply, val_main_v27_apply, val_main_v26_apply,
    val_main_cst_3_apply, val_main_cst_4_apply, val_main_cst_5_apply, zero_word, zero_add]
  refine congrArg₂ (fun a b : EReal => a * b) (congrArg (fun a : EReal => val_main_v24 (F := Ideal) x0 x1 x2 (ix4 b n h d) * a) ?_) (congrArg x3 (funext fun a => ?_))
  · refine congrArg (fun s : EReal => Ideal.rsqrt (Ideal.div s (Ideal.ofBits .f32 0x42800000#32) + Ideal.ofBits .f32 0x358637BD#32)) (Finset.sum_congr rfl fun e _ => ?_)
    rw [val_main_v25_apply]
    have hi : (val_main_v24 (F := Ideal) x0 x1 x2 (idx_main_v26 (idx_main_v27 (idx_main_v33 (ix4 b n h d))) e) : EReal) = val_main_v24 (F := Ideal) x0 x1 x2 (ix4 b n h e) :=
      congrArg (val_main_v24 (F := Ideal) x0 x1 x2) (funext fun a => by
        match a with
        | ⟨0, _⟩ => rfl
        | ⟨1, _⟩ => rfl
        | ⟨2, _⟩ => rfl
        | ⟨3, _⟩ => rfl)
    exact congrArg₂ (fun a b : EReal => a * b) hi hi
  · match a with
    | ⟨0, _⟩ => rfl

theorem cosRow_q : val_main_v69 (F := Ideal) = cosRow := rfl
theorem sinRow_q : val_main_v71 (F := Ideal) = sinRow := rfl
theorem cosCol_q : val_main_v107 (F := Ideal) = cosCol := rfl
theorem sinCol_q : val_main_v109 (F := Ideal) = sinCol := rfl

theorem firstRow_q (b : Fin 16) (n : Fin 2048) (h : Fin 8) (i : Fin 16) :
    val_main_v81 (F := Ideal) x0 x1 x2 x3 (ix4 b n h i) = (val_main_v37 (F := Ideal) x0 x1 x2 x3 (ix4 b n h ⟨i.val, by have := i.isLt; omega⟩) * cosRow (ix2 n i) - val_main_v37 (F := Ideal) x0 x1 x2 x3 (ix4 b n h ⟨16 + i.val, by have := i.isLt; omega⟩) * sinRow (ix2 n i) : EReal) := by
  rw [val_main_v81_apply, val_main_v77_apply, val_main_v80_apply, val_main_v73_apply, val_main_v74_apply, val_main_v52_apply, val_main_v52_apply, val_main_v76_apply, val_main_v75_apply, val_main_v70_apply, val_main_v79_apply, val_main_v78_apply, val_main_v72_apply, cosRow_q, sinRow_q]
  refine congrArg₂ (fun a b : EReal => a - b)
    (congrArg₂ (fun a b : EReal => a * b) (congrArg (val_main_v37 (F := Ideal) x0 x1 x2 x3) (funext fun a => Fin.ext ?_)) (congrArg cosRow (funext fun a => ?_)))
    (congrArg₂ (fun a b : EReal => a * b) (congrArg (val_main_v37 (F := Ideal) x0 x1 x2 x3) (funext fun a => Fin.ext ?_)) (congrArg sinRow (funext fun a => ?_)))
  · match a with
    | ⟨0, _⟩ => rfl
    | ⟨1, _⟩ => rfl
    | ⟨2, _⟩ => rfl
    | ⟨3, _⟩ => first | rfl | (show 0 + i.val = 0 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 0 + (16 + i.val) = 16 + i.val; omega)
  · match a with
    | ⟨0, _⟩ => rfl
    | ⟨1, _⟩ => rfl

theorem secondRow_q (b : Fin 16) (n : Fin 2048) (h : Fin 8) (i : Fin 16) :
    val_main_v88 (F := Ideal) x0 x1 x2 x3 (ix4 b n h i) = (val_main_v37 (F := Ideal) x0 x1 x2 x3 (ix4 b n h ⟨i.val, by have := i.isLt; omega⟩) * sinRow (ix2 n i) + val_main_v37 (F := Ideal) x0 x1 x2 x3 (ix4 b n h ⟨16 + i.val, by have := i.isLt; omega⟩) * cosRow (ix2 n i) : EReal) := by
  rw [val_main_v88_apply, val_main_v84_apply, val_main_v87_apply, val_main_v73_apply, val_main_v74_apply, val_main_v52_apply, val_main_v52_apply, val_main_v83_apply, val_main_v82_apply, val_main_v72_apply, val_main_v86_apply, val_main_v85_apply, val_main_v70_apply, sinRow_q, cosRow_q]
  refine congrArg₂ (fun a b : EReal => a + b)
    (congrArg₂ (fun a b : EReal => a * b) (congrArg (val_main_v37 (F := Ideal) x0 x1 x2 x3) (funext fun a => Fin.ext ?_)) (congrArg sinRow (funext fun a => ?_)))
    (congrArg₂ (fun a b : EReal => a * b) (congrArg (val_main_v37 (F := Ideal) x0 x1 x2 x3) (funext fun a => Fin.ext ?_)) (congrArg cosRow (funext fun a => ?_)))
  · match a with
    | ⟨0, _⟩ => rfl
    | ⟨1, _⟩ => rfl
    | ⟨2, _⟩ => rfl
    | ⟨3, _⟩ => first | rfl | (show 0 + i.val = 0 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 0 + (16 + i.val) = 16 + i.val; omega)
  · match a with
    | ⟨0, _⟩ => rfl
    | ⟨1, _⟩ => rfl

theorem firstCol_q (b : Fin 16) (n : Fin 2048) (h : Fin 8) (i : Fin 16) :
    val_main_v119 (F := Ideal) x0 x1 x2 x3 (ix4 b n h i) = (val_main_v37 (F := Ideal) x0 x1 x2 x3 (ix4 b n h ⟨32 + i.val, by have := i.isLt; omega⟩) * cosCol (ix2 n i) - val_main_v37 (F := Ideal) x0 x1 x2 x3 (ix4 b n h ⟨48 + i.val, by have := i.isLt; omega⟩) * sinCol (ix2 n i) : EReal) := by
  rw [val_main_v119_apply, val_main_v115_apply, val_main_v118_apply, val_main_v111_apply, val_main_v112_apply, val_main_v90_apply, val_main_v90_apply, val_main_v114_apply, val_main_v113_apply, val_main_v108_apply, val_main_v117_apply, val_main_v116_apply, val_main_v110_apply, cosCol_q, sinCol_q]
  refine congrArg₂ (fun a b : EReal => a - b)
    (congrArg₂ (fun a b : EReal => a * b) (congrArg (val_main_v37 (F := Ideal) x0 x1 x2 x3) (funext fun a => Fin.ext ?_)) (congrArg cosCol (funext fun a => ?_)))
    (congrArg₂ (fun a b : EReal => a * b) (congrArg (val_main_v37 (F := Ideal) x0 x1 x2 x3) (funext fun a => Fin.ext ?_)) (congrArg sinCol (funext fun a => ?_)))
  · match a with
    | ⟨0, _⟩ => rfl
    | ⟨1, _⟩ => rfl
    | ⟨2, _⟩ => rfl
    | ⟨3, _⟩ => first | rfl | (show 32 + i.val = 32 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 32 + (16 + i.val) = 48 + i.val; omega)
  · match a with
    | ⟨0, _⟩ => rfl
    | ⟨1, _⟩ => rfl

theorem secondCol_q (b : Fin 16) (n : Fin 2048) (h : Fin 8) (i : Fin 16) :
    val_main_v126 (F := Ideal) x0 x1 x2 x3 (ix4 b n h i) = (val_main_v37 (F := Ideal) x0 x1 x2 x3 (ix4 b n h ⟨32 + i.val, by have := i.isLt; omega⟩) * sinCol (ix2 n i) + val_main_v37 (F := Ideal) x0 x1 x2 x3 (ix4 b n h ⟨48 + i.val, by have := i.isLt; omega⟩) * cosCol (ix2 n i) : EReal) := by
  rw [val_main_v126_apply, val_main_v122_apply, val_main_v125_apply, val_main_v111_apply, val_main_v112_apply, val_main_v90_apply, val_main_v90_apply, val_main_v121_apply, val_main_v120_apply, val_main_v110_apply, val_main_v124_apply, val_main_v123_apply, val_main_v108_apply, sinCol_q, cosCol_q]
  refine congrArg₂ (fun a b : EReal => a + b)
    (congrArg₂ (fun a b : EReal => a * b) (congrArg (val_main_v37 (F := Ideal) x0 x1 x2 x3) (funext fun a => Fin.ext ?_)) (congrArg sinCol (funext fun a => ?_)))
    (congrArg₂ (fun a b : EReal => a * b) (congrArg (val_main_v37 (F := Ideal) x0 x1 x2 x3) (funext fun a => Fin.ext ?_)) (congrArg cosCol (funext fun a => ?_)))
  · match a with
    | ⟨0, _⟩ => rfl
    | ⟨1, _⟩ => rfl
    | ⟨2, _⟩ => rfl
    | ⟨3, _⟩ => first | rfl | (show 32 + i.val = 32 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 32 + (16 + i.val) = 48 + i.val; omega)
  · match a with
    | ⟨0, _⟩ => rfl
    | ⟨1, _⟩ => rfl

/-- The rotated heads. -/
theorem turned_q (b : Fin 16) (n : Fin 2048) (h : Fin 8) (d : Fin 64) :
    val_main_v128 (F := Ideal) x0 x1 x2 x3 (ix4 b n h d) = turned (cosAt n) (sinAt n) (fun e => val_main_v24 (F := Ideal) x0 x1 x2 (ix4 b n h e)) (fun e => x3 (ix1 e)) d := by
  unfold val_main_v128 val_main_v89 val_main_v127
  exact (four_apply _ _ _ _ _ _ b n h d).trans (turned_of_blocks n _ _ (fun e => val_main_v37 (F := Ideal) x0 x1 x2 x3 (ix4 b n h e)) (fun e => lane_q x0 x1 x2 x3 b n h e) d
    (fun i => val_main_v81 (F := Ideal) x0 x1 x2 x3 (ix4 b n h i)) (fun i => val_main_v88 (F := Ideal) x0 x1 x2 x3 (ix4 b n h i)) (fun i => val_main_v119 (F := Ideal) x0 x1 x2 x3 (ix4 b n h i)) (fun i => val_main_v126 (F := Ideal) x0 x1 x2 x3 (ix4 b n h i))
    (fun i => firstRow_q x0 x1 x2 x3 b n h i) (fun i => secondRow_q x0 x1 x2 x3 b n h i) (fun i => firstCol_q x0 x1 x2 x3 b n h i) (fun i => secondCol_q x0 x1 x2 x3 b n h i))

/-- The same, a head of a token. -/
theorem head_q (b : Fin 16) (n : Fin 2048) (h : Fin 8) (d : Fin 64) (T : Fin 32768) (hT : T.val = b.val * 2048 + n.val) (o : Fin 5824) (ho : o.val = 0 + h.val * 64) :
    val_main_v128 (F := Ideal) x0 x1 x2 x3 (ix4 b n h d) = head x0 x1 x2 x3 T o d := by
  rw [turned_q]
  unfold head
  have hp : pos T = n := Fin.ext (by show T.val % 2048 = n.val; have := n.isLt; omega)
  rw [hp, show (fun e => val_main_v24 (F := Ideal) x0 x1 x2 (ix4 b n h e)) = fun e : Fin 64 => col x0 x1 x2 T ⟨o.val + e.val, by have := o.isLt; have := e.isLt; omega⟩ from
    funext fun e => heads_q x0 x1 x2 b n h e T hT _ (by show o.val + e.val = _; omega)]

/-! ## The keys -/

/-- A token's heads. -/
theorem heads_k (b : Fin 16) (n : Fin 2048) (h : Fin 2) (e : Fin 64) (T : Fin 32768) (hT : T.val = b.val * 2048 + n.val) (j : Fin 5888) (hj : j.val = 512 + h.val * 64 + e.val) :
    val_main_v38 (F := Ideal) x0 x1 x2 (ix4 b n h e) = col x0 x1 x2 T j := by
  have hb := b.isLt; have hn := n.isLt; have hh := h.isLt; have he := e.isLt
  refine (val_main_v38_apply x0 x1 x2 _).trans ((congrArg (val_main_v15 (F := Ideal) x0 x1 x2) (funext fun a => Fin.ext ?_ : _ = (ix2 T (⟨h.val * 64 + e.val, by omega⟩ : Fin 128) : S32768x128.Idx))).trans
    ((val_main_v15_apply x0 x1 x2 _).trans ((congrArg (val_main_v13 (F := Ideal) x0 x1 x2) (funext fun a => Fin.ext ?_ : _ = (ix2 T j : S32768x5888.Idx))).trans (col_apply x0 x1 x2 T j))))
  · match a with
    | ⟨0, _⟩ => show (((b.val * 2048 + n.val) * 2 + h.val) * 64 + e.val) / 128 = T.val; omega
    | ⟨1, _⟩ => show (((b.val * 2048 + n.val) * 2 + h.val) * 64 + e.val) % 128 = h.val * 64 + e.val; omega
  · match a with
    | ⟨0, _⟩ => rfl
    | ⟨1, _⟩ => show 512 + (h.val * 64 + e.val) = j.val; omega

/-- A normalized lane. -/
theorem lane_k (b : Fin 16) (n : Fin 2048) (h : Fin 2) (d : Fin 64) :
    val_main_v51 (F := Ideal) x0 x1 x2 x4 (ix4 b n h d) = lane (fun e => val_main_v38 (F := Ideal) x0 x1 x2 (ix4 b n h e)) (fun e => x4 (ix1 e)) d := by
  rw [val_main_v51_apply, val_main_v50_apply, val_main_v49_apply, val_main_v48_apply, val_main_v47_apply, val_main_v46_apply, val_main_v45_apply, val_main_v44_apply, val_main_v43_apply, val_main_v42_apply, val_main_v41_apply, val_main_v40_apply,
    val_main_cst_6_apply, val_main_cst_7_apply, val_main_cst_8_apply, zero_word, zero_add]
  refine congrArg₂ (fun a b : EReal => a * b) (congrArg (fun a : EReal => val_main_v38 (F := Ideal) x0 x1 x2 (ix4 b n h d) * a) ?_) (congrArg x4 (funext fun a => ?_))
  · refine congrArg (fun s : EReal => Ideal.rsqrt (Ideal.div s (Ideal.ofBits .f32 0x42800000#32) + Ideal.ofBits .f32 0x358637BD#32)) (Finset.sum_congr rfl fun e _ => ?_)
    rw [val_main_v39_apply]
    have hi : (val_main_v38 (F := Ideal) x0 x1 x2 (idx_main_v40 (idx_main_v41 (idx_main_v47 (ix4 b n h d))) e) : EReal) = val_main_v38 (F := Ideal) x0 x1 x2 (ix4 b n h e) :=
      congrArg (val_main_v38 (F := Ideal) x0 x1 x2) (funext fun a => by
        match a with
        | ⟨0, _⟩ => rfl
        | ⟨1, _⟩ => rfl
        | ⟨2, _⟩ => rfl
        | ⟨3, _⟩ => rfl)
    exact congrArg₂ (fun a b : EReal => a * b) hi hi
  · match a with
    | ⟨0, _⟩ => rfl

theorem cosRow_k : val_main_v148 (F := Ideal) = cosRow := rfl
theorem sinRow_k : val_main_v150 (F := Ideal) = sinRow := rfl
theorem cosCol_k : val_main_v186 (F := Ideal) = cosCol := rfl
theorem sinCol_k : val_main_v188 (F := Ideal) = sinCol := rfl

theorem firstRow_k (b : Fin 16) (n : Fin 2048) (h : Fin 2) (i : Fin 16) :
    val_main_v160 (F := Ideal) x0 x1 x2 x4 (ix4 b n h i) = (val_main_v51 (F := Ideal) x0 x1 x2 x4 (ix4 b n h ⟨i.val, by have := i.isLt; omega⟩) * cosRow (ix2 n i) - val_main_v51 (F := Ideal) x0 x1 x2 x4 (ix4 b n h ⟨16 + i.val, by have := i.isLt; omega⟩) * sinRow (ix2 n i) : EReal) := by
  rw [val_main_v160_apply, val_main_v156_apply, val_main_v159_apply, val_main_v152_apply, val_main_v153_apply, val_main_v131_apply, val_main_v131_apply, val_main_v155_apply, val_main_v154_apply, val_main_v149_apply, val_main_v158_apply, val_main_v157_apply, val_main_v151_apply, cosRow_k, sinRow_k]
  refine congrArg₂ (fun a b : EReal => a - b)
    (congrArg₂ (fun a b : EReal => a * b) (congrArg (val_main_v51 (F := Ideal) x0 x1 x2 x4) (funext fun a => Fin.ext ?_)) (congrArg cosRow (funext fun a => ?_)))
    (congrArg₂ (fun a b : EReal => a * b) (congrArg (val_main_v51 (F := Ideal) x0 x1 x2 x4) (funext fun a => Fin.ext ?_)) (congrArg sinRow (funext fun a => ?_)))
  · match a with
    | ⟨0, _⟩ => rfl
    | ⟨1, _⟩ => rfl
    | ⟨2, _⟩ => rfl
    | ⟨3, _⟩ => first | rfl | (show 0 + i.val = 0 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 0 + (16 + i.val) = 16 + i.val; omega)
  · match a with
    | ⟨0, _⟩ => rfl
    | ⟨1, _⟩ => rfl

theorem secondRow_k (b : Fin 16) (n : Fin 2048) (h : Fin 2) (i : Fin 16) :
    val_main_v167 (F := Ideal) x0 x1 x2 x4 (ix4 b n h i) = (val_main_v51 (F := Ideal) x0 x1 x2 x4 (ix4 b n h ⟨i.val, by have := i.isLt; omega⟩) * sinRow (ix2 n i) + val_main_v51 (F := Ideal) x0 x1 x2 x4 (ix4 b n h ⟨16 + i.val, by have := i.isLt; omega⟩) * cosRow (ix2 n i) : EReal) := by
  rw [val_main_v167_apply, val_main_v163_apply, val_main_v166_apply, val_main_v152_apply, val_main_v153_apply, val_main_v131_apply, val_main_v131_apply, val_main_v162_apply, val_main_v161_apply, val_main_v151_apply, val_main_v165_apply, val_main_v164_apply, val_main_v149_apply, sinRow_k, cosRow_k]
  refine congrArg₂ (fun a b : EReal => a + b)
    (congrArg₂ (fun a b : EReal => a * b) (congrArg (val_main_v51 (F := Ideal) x0 x1 x2 x4) (funext fun a => Fin.ext ?_)) (congrArg sinRow (funext fun a => ?_)))
    (congrArg₂ (fun a b : EReal => a * b) (congrArg (val_main_v51 (F := Ideal) x0 x1 x2 x4) (funext fun a => Fin.ext ?_)) (congrArg cosRow (funext fun a => ?_)))
  · match a with
    | ⟨0, _⟩ => rfl
    | ⟨1, _⟩ => rfl
    | ⟨2, _⟩ => rfl
    | ⟨3, _⟩ => first | rfl | (show 0 + i.val = 0 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 0 + (16 + i.val) = 16 + i.val; omega)
  · match a with
    | ⟨0, _⟩ => rfl
    | ⟨1, _⟩ => rfl

theorem firstCol_k (b : Fin 16) (n : Fin 2048) (h : Fin 2) (i : Fin 16) :
    val_main_v198 (F := Ideal) x0 x1 x2 x4 (ix4 b n h i) = (val_main_v51 (F := Ideal) x0 x1 x2 x4 (ix4 b n h ⟨32 + i.val, by have := i.isLt; omega⟩) * cosCol (ix2 n i) - val_main_v51 (F := Ideal) x0 x1 x2 x4 (ix4 b n h ⟨48 + i.val, by have := i.isLt; omega⟩) * sinCol (ix2 n i) : EReal) := by
  rw [val_main_v198_apply, val_main_v194_apply, val_main_v197_apply, val_main_v190_apply, val_main_v191_apply, val_main_v169_apply, val_main_v169_apply, val_main_v193_apply, val_main_v192_apply, val_main_v187_apply, val_main_v196_apply, val_main_v195_apply, val_main_v189_apply, cosCol_k, sinCol_k]
  refine congrArg₂ (fun a b : EReal => a - b)
    (congrArg₂ (fun a b : EReal => a * b) (congrArg (val_main_v51 (F := Ideal) x0 x1 x2 x4) (funext fun a => Fin.ext ?_)) (congrArg cosCol (funext fun a => ?_)))
    (congrArg₂ (fun a b : EReal => a * b) (congrArg (val_main_v51 (F := Ideal) x0 x1 x2 x4) (funext fun a => Fin.ext ?_)) (congrArg sinCol (funext fun a => ?_)))
  · match a with
    | ⟨0, _⟩ => rfl
    | ⟨1, _⟩ => rfl
    | ⟨2, _⟩ => rfl
    | ⟨3, _⟩ => first | rfl | (show 32 + i.val = 32 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 32 + (16 + i.val) = 48 + i.val; omega)
  · match a with
    | ⟨0, _⟩ => rfl
    | ⟨1, _⟩ => rfl

theorem secondCol_k (b : Fin 16) (n : Fin 2048) (h : Fin 2) (i : Fin 16) :
    val_main_v205 (F := Ideal) x0 x1 x2 x4 (ix4 b n h i) = (val_main_v51 (F := Ideal) x0 x1 x2 x4 (ix4 b n h ⟨32 + i.val, by have := i.isLt; omega⟩) * sinCol (ix2 n i) + val_main_v51 (F := Ideal) x0 x1 x2 x4 (ix4 b n h ⟨48 + i.val, by have := i.isLt; omega⟩) * cosCol (ix2 n i) : EReal) := by
  rw [val_main_v205_apply, val_main_v201_apply, val_main_v204_apply, val_main_v190_apply, val_main_v191_apply, val_main_v169_apply, val_main_v169_apply, val_main_v200_apply, val_main_v199_apply, val_main_v189_apply, val_main_v203_apply, val_main_v202_apply, val_main_v187_apply, sinCol_k, cosCol_k]
  refine congrArg₂ (fun a b : EReal => a + b)
    (congrArg₂ (fun a b : EReal => a * b) (congrArg (val_main_v51 (F := Ideal) x0 x1 x2 x4) (funext fun a => Fin.ext ?_)) (congrArg sinCol (funext fun a => ?_)))
    (congrArg₂ (fun a b : EReal => a * b) (congrArg (val_main_v51 (F := Ideal) x0 x1 x2 x4) (funext fun a => Fin.ext ?_)) (congrArg cosCol (funext fun a => ?_)))
  · match a with
    | ⟨0, _⟩ => rfl
    | ⟨1, _⟩ => rfl
    | ⟨2, _⟩ => rfl
    | ⟨3, _⟩ => first | rfl | (show 32 + i.val = 32 + i.val; rfl)
  · match a with
    | ⟨0, _⟩ => rfl
    | ⟨1, _⟩ => rfl
  · match a with
    | ⟨0, _⟩ => rfl
    | ⟨1, _⟩ => rfl
    | ⟨2, _⟩ => rfl
    | ⟨3, _⟩ => first | rfl | (show 32 + (16 + i.val) = 48 + i.val; omega)
  · match a with
    | ⟨0, _⟩ => rfl
    | ⟨1, _⟩ => rfl

/-- The rotated heads. -/
theorem turned_k (b : Fin 16) (n : Fin 2048) (h : Fin 2) (d : Fin 64) :
    val_main_v207 (F := Ideal) x0 x1 x2 x4 (ix4 b n h d) = turned (cosAt n) (sinAt n) (fun e => val_main_v38 (F := Ideal) x0 x1 x2 (ix4 b n h e)) (fun e => x4 (ix1 e)) d := by
  unfold val_main_v207 val_main_v168 val_main_v206
  exact (four_apply _ _ _ _ _ _ b n h d).trans (turned_of_blocks n _ _ (fun e => val_main_v51 (F := Ideal) x0 x1 x2 x4 (ix4 b n h e)) (fun e => lane_k x0 x1 x2 x4 b n h e) d
    (fun i => val_main_v160 (F := Ideal) x0 x1 x2 x4 (ix4 b n h i)) (fun i => val_main_v167 (F := Ideal) x0 x1 x2 x4 (ix4 b n h i)) (fun i => val_main_v198 (F := Ideal) x0 x1 x2 x4 (ix4 b n h i)) (fun i => val_main_v205 (F := Ideal) x0 x1 x2 x4 (ix4 b n h i))
    (fun i => firstRow_k x0 x1 x2 x4 b n h i) (fun i => secondRow_k x0 x1 x2 x4 b n h i) (fun i => firstCol_k x0 x1 x2 x4 b n h i) (fun i => secondCol_k x0 x1 x2 x4 b n h i))

/-- The same, a head of a token. -/
theorem head_k (b : Fin 16) (n : Fin 2048) (h : Fin 2) (d : Fin 64) (T : Fin 32768) (hT : T.val = b.val * 2048 + n.val) (o : Fin 5824) (ho : o.val = 512 + h.val * 64) :
    val_main_v207 (F := Ideal) x0 x1 x2 x4 (ix4 b n h d) = head x0 x1 x2 x4 T o d := by
  rw [turned_k]
  unfold head
  have hp : pos T = n := Fin.ext (by show T.val % 2048 = n.val; have := n.isLt; omega)
  rw [hp, show (fun e => val_main_v38 (F := Ideal) x0 x1 x2 (ix4 b n h e)) = fun e : Fin 64 => col x0 x1 x2 T ⟨o.val + e.val, by have := o.isLt; have := e.isLt; omega⟩ from
    funext fun e => heads_k x0 x1 x2 b n h e T hT _ (by show o.val + e.val = _; omega)]

/-! ## The results -/

/-- A token's image. -/
def image (T : Fin 32768) : Fin 16 := ⟨T.val / 2048, by have := T.isLt; omega⟩

/-- The coordinates of a flat position among a query's heads. -/
theorem flat_facts (T p q d : ℕ) (hp : p < 2) (hq : q < 4) (hd : d < 64) :
    ((((T / 2048 * 2048 + T % 2048) * 2 + p) * 4 + q) * 64 + d) / 1048576 = T / 2048 ∧ ((((T / 2048 * 2048 + T % 2048) * 2 + p) * 4 + q) * 64 + d) / 512 % 2048 = T % 2048
      ∧ ((((T / 2048 * 2048 + T % 2048) * 2 + p) * 4 + q) * 64 + d) / 64 % 8 = p * 4 + q ∧ ((((T / 2048 * 2048 + T % 2048) * 2 + p) * 4 + q) * 64 + d) % 64 = d := by
  rw [show T / 2048 * 2048 + T % 2048 = T by omega]
  have h1 : (((T * 2 + p) * 4 + q) * 64 + d) / 512 = T := by omega
  have h2 : (((T * 2 + p) * 4 + q) * 64 + d) / 64 = T * 8 + (p * 4 + q) := by omega
  refine ⟨?_, ?_, ?_, ?_⟩
  · rw [show (1048576 : ℕ) = 512 * 2048 from rfl, ← Nat.div_div_eq_div_mul, h1]
  · rw [h1]
  · rw [h2]; omega
  · omega

theorem queries_apply (T : Fin 32768) (j : Fin 512) : val_main_v211 (F := Ideal) x0 x1 x2 x3 (ix2 T j) = queries x0 x1 x2 x3 T j := by
  have hT := T.isLt; have hj := j.isLt
  rw [val_main_v211_apply]
  show (val_main_v210 (F := Ideal) x0 x1 x2 x3 (ix2 T j) : EReal) = _
  refine (val_main_v210_apply x0 x1 x2 x3 _).trans ((congrArg (val_main_v209 (F := Ideal) x0 x1 x2 x3)
    (funext fun a => Fin.ext ?_ : _ = (ix5 (image T) (pos T) (⟨j.val / 128, by omega⟩ : Fin 4) (⟨j.val / 64 % 2, by omega⟩ : Fin 2) (⟨j.val % 64, by omega⟩ : Fin 64) : S16x2048x4x2x64.Idx))).trans
    ((val_main_v209_apply x0 x1 x2 x3 _).trans ((congrArg (val_main_v208 (F := Ideal) x0 x1 x2 x3)
    (funext fun a => Fin.ext ?_ : _ = (ix5 (image T) (pos T) (⟨j.val / 64 % 2, by omega⟩ : Fin 2) (⟨j.val / 128, by omega⟩ : Fin 4) (⟨j.val % 64, by omega⟩ : Fin 64) : S16x2048x2x4x64.Idx))).trans
    ((val_main_v208_apply x0 x1 x2 x3 _).trans ((congrArg (val_main_v130 (F := Ideal) x0 x1 x2 x3)
    (funext fun a => Fin.ext ?_ : _ = (ix4 (image T) (pos T) (⟨j.val / 64 % 2 * 4 + j.val / 128, by omega⟩ : Fin 8) (⟨j.val % 64, by omega⟩ : Fin 64) : S16x2048x8x64.Idx))).trans ?_)))))
  · match a with
    | ⟨0, _⟩ => show (T.val * 512 + j.val) / 1048576 = T.val / 2048; omega
    | ⟨1, _⟩ => show (T.val * 512 + j.val) / 512 % 2048 = T.val % 2048; omega
    | ⟨2, _⟩ => show (T.val * 512 + j.val) / 128 % 4 = j.val / 128; omega
    | ⟨3, _⟩ => show (T.val * 512 + j.val) / 64 % 2 = j.val / 64 % 2; omega
    | ⟨4, _⟩ => show (T.val * 512 + j.val) % 64 = j.val % 64; omega
  · match a with
    | ⟨0, _⟩ => rfl
    | ⟨1, _⟩ => rfl
    | ⟨2, _⟩ => rfl
    | ⟨3, _⟩ => rfl
    | ⟨4, _⟩ => rfl
  · have hf := flat_facts T.val (j.val / 64 % 2) (j.val / 128) (j.val % 64) (by omega) (by omega) (by omega)
    match a with
    | ⟨0, _⟩ => exact hf.1
    | ⟨1, _⟩ => exact hf.2.1
    | ⟨2, _⟩ => exact hf.2.2.1
    | ⟨3, _⟩ => exact hf.2.2.2
  · rw [val_main_v130_apply, val_main_v129_apply]
    unfold queries
    exact congrArg (fun a : EReal => a * Ideal.ofBits .f32 0x3E000000#32) (head_q x0 x1 x2 x3 (image T) (pos T) _ _ T (by show T.val = T.val / 2048 * 2048 + T.val % 2048; omega) _ (by show (j.val / 64 % 2 * 4 + j.val / 128) * 64 = 0 + (j.val / 64 % 2 * 4 + j.val / 128) * 64; omega))

theorem keys_apply (T : Fin 32768) (j : Fin 128) : val_main_v213 (F := Ideal) x0 x1 x2 x4 (ix2 T j) = keys x0 x1 x2 x4 T j := by
  have hT := T.isLt; have hj := j.isLt
  rw [val_main_v213_apply]
  show (val_main_v212 (F := Ideal) x0 x1 x2 x4 (ix2 T j) : EReal) = _
  refine (val_main_v212_apply x0 x1 x2 x4 _).trans ((congrArg (val_main_v207 (F := Ideal) x0 x1 x2 x4)
    (funext fun a => Fin.ext ?_ : _ = (ix4 (image T) (pos T) (⟨j.val / 64, by omega⟩ : Fin 2) (⟨j.val % 64, by omega⟩ : Fin 64) : S16x2048x2x64.Idx))).trans ?_)
  · match a with
    | ⟨0, _⟩ => show (T.val * 128 + j.val) / 262144 = T.val / 2048; omega
    | ⟨1, _⟩ => show (T.val * 128 + j.val) / 128 % 2048 = T.val % 2048; omega
    | ⟨2, _⟩ => show (T.val * 128 + j.val) / 64 % 2 = j.val / 64; omega
    | ⟨3, _⟩ => show (T.val * 128 + j.val) % 64 = j.val % 64; omega
  · exact head_k x0 x1 x2 x4 (image T) (pos T) _ _ T (by show T.val = T.val / 2048 * 2048 + T.val % 2048; omega) _ rfl

theorem vals_apply (T : Fin 32768) (j : Fin 128) : val_main_v214 (F := Ideal) x0 x1 x2 (ix2 T j) = vals x0 x1 x2 T j := by
  have h : (val_main_v16 (F := Ideal) x0 x1 x2 (ix2 T j) : EReal) = col x0 x1 x2 T ⟨640 + j.val, by have := j.isLt; omega⟩ := (val_main_v16_apply x0 x1 x2 _).trans ((congrArg (val_main_v13 (F := Ideal) x0 x1 x2) (funext fun a => by
    match a with
    | ⟨0, _⟩ => rfl
    | ⟨1, _⟩ => rfl : _ = (ix2 T (⟨640 + j.val, by have := j.isLt; omega⟩ : Fin 5888) : S32768x5888.Idx))).trans (col_apply x0 x1 x2 T _))
  exact h

theorem up_apply (T : Fin 32768) (j : Fin 512) : val_main_v17 (F := Ideal) x0 x1 x2 (ix2 T j) = wide x0 x1 x2 ⟨768, by omega⟩ T j := by
  have h : (val_main_v17 (F := Ideal) x0 x1 x2 (ix2 T j) : EReal) = col x0 x1 x2 T ⟨768 + j.val, by have := j.isLt; omega⟩ := (val_main_v17_apply x0 x1 x2 _).trans ((congrArg (val_main_v13 (F := Ideal) x0 x1 x2) (funext fun a => by
    match a with
    | ⟨0, _⟩ => rfl
    | ⟨1, _⟩ => rfl : _ = (ix2 T (⟨768 + j.val, by have := j.isLt; omega⟩ : Fin 5888) : S32768x5888.Idx))).trans (col_apply x0 x1 x2 T _))
  exact h

theorem qc_apply (T : Fin 32768) (j : Fin 512) : val_main_v217 (F := Ideal) x0 x1 x2 (ix2 T j) = (wide x0 x1 x2 ⟨1280, by omega⟩ T j * Ideal.ofBits .f32 0x3E000000#32 : EReal) := by
  have h : (val_main_v18 (F := Ideal) x0 x1 x2 (ix2 T j) : EReal) = col x0 x1 x2 T ⟨1280 + j.val, by have := j.isLt; omega⟩ := (val_main_v18_apply x0 x1 x2 _).trans ((congrArg (val_main_v13 (F := Ideal) x0 x1 x2) (funext fun a => by
    match a with
    | ⟨0, _⟩ => rfl
    | ⟨1, _⟩ => rfl : _ = (ix2 T (⟨1280 + j.val, by have := j.isLt; omega⟩ : Fin 5888) : S32768x5888.Idx))).trans (col_apply x0 x1 x2 T _))
  rw [val_main_v217_apply]
  show (val_main_v216 (F := Ideal) x0 x1 x2 (ix2 T j) : EReal) = _
  rw [val_main_v216_apply, val_main_v215_apply]
  exact congrArg (fun a : EReal => a * Ideal.ofBits .f32 0x3E000000#32) h

theorem kc_apply (T : Fin 32768) (j : Fin 512) : val_main_v218 (F := Ideal) x0 x1 x2 (ix2 T j) = wide x0 x1 x2 ⟨1792, by omega⟩ T j := by
  have h : (val_main_v19 (F := Ideal) x0 x1 x2 (ix2 T j) : EReal) = col x0 x1 x2 T ⟨1792 + j.val, by have := j.isLt; omega⟩ := (val_main_v19_apply x0 x1 x2 _).trans ((congrArg (val_main_v13 (F := Ideal) x0 x1 x2) (funext fun a => by
    match a with
    | ⟨0, _⟩ => rfl
    | ⟨1, _⟩ => rfl : _ = (ix2 T (⟨1792 + j.val, by have := j.isLt; omega⟩ : Fin 5888) : S32768x5888.Idx))).trans (col_apply x0 x1 x2 T _))
  exact h

theorem vc_apply (T : Fin 32768) (j : Fin 512) : val_main_v219 (F := Ideal) x0 x1 x2 (ix2 T j) = wide x0 x1 x2 ⟨2304, by omega⟩ T j := by
  have h : (val_main_v20 (F := Ideal) x0 x1 x2 (ix2 T j) : EReal) = col x0 x1 x2 T ⟨2304 + j.val, by have := j.isLt; omega⟩ := (val_main_v20_apply x0 x1 x2 _).trans ((congrArg (val_main_v13 (F := Ideal) x0 x1 x2) (funext fun a => by
    match a with
    | ⟨0, _⟩ => rfl
    | ⟨1, _⟩ => rfl : _ = (ix2 T (⟨2304 + j.val, by have := j.isLt; omega⟩ : Fin 5888) : S32768x5888.Idx))).trans (col_apply x0 x1 x2 T _))
  exact h

end Cert.InprojRefIdeal.Array

end
-- ==== Proof.InprojPre.lean ====
/-
  What the input projection's precondition says: the norm's scale and the columns of the queries and the keys are real numbers.
-/
module

public import proofs.«01_k».proof.Proof.Softmax
public import proofs.«01_k».proof.Proof.Gen.Pre_finite_w
public import Idealize.ShloMosaic.Lib.ReduceAll
public import Idealize.ShloMosaic.Lib.ValueIdx
public import Idealize.ShloMosaic.Lib.Pipeline.Value

@[expose] public section

noncomputable section

namespace Cert.InprojSpec

open Cert.Pre_finite_w Idealize.ShloMosaic Idealize.ShloMosaic.ValueIdx Cert.Softmax

/-- An element whose absolute value compares below the +∞ word is a real number. -/
theorem isReal_of_below {s : Shape} (x : FVec Ideal s .f32) (b : S_.BroadcastsInDim s (![] : Fin 0 → Fin s.rank)) (i : s.Idx)
    (h : cmpf (F := Ideal) .olt (Host.absf x) (broadcastInDim s ![] b (constant S_ .f32 0x7F800000#32)) i = 1#1) : IsReal (x i) := by
  have ht : (FloatOps.ofBits .f32 0x7F800000#32 : Ideal .f32) = (⊤ : EReal) := by
    show Ideal.ofBits .f32 0x7F800000#32 = ⊤; simp [Ideal.ofBits, Ideal.ieee]
  have h' : Ideal.cmp .olt (max (x i : EReal) (-(x i : EReal))) ⊤ = 1#1 := by
    rw [← ht]; exact h
  have hl : max (x i : EReal) (-(x i : EReal)) < ⊤ := by
    by_contra hn
    rw [show Ideal.cmp .olt (max (x i : EReal) (-(x i : EReal))) ⊤ = _ from rfl] at h'
    simp [Ideal.cmp, hn] at h'
  revert hl
  generalize (x i : EReal) = y
  intro hl
  induction y using EReal.rec with
  | bot => simp at hl
  | coe r => exact ⟨r, rfl⟩
  | top => simp at hl

theorem isReal_params [Cert.Pre_finite_w.Facts] {x2 : FVec Ideal S32768x1024 .f32} {g : FVec Ideal S1024 .f32} {w : FVec Ideal S1024x5888 .f32} {gq gk : FVec Ideal S64 .f32}
    (h : Cert.Pre_finite_w.fn (F := Ideal) x2 g w gq gk = fun _ => 1#1) : (∀ k, IsReal (g (ix1 k))) ∧ ∀ (e : Fin 1024) (j : Fin 5888), j.val < 640 → IsReal (w (ix2 e j)) := by
  haveI : Subsingleton S_.Idx := ⟨fun a b => funext fun z => z.elim0⟩
  have h0 := congrFun h ix0
  obtain ⟨h1, h2⟩ := IntOp.andi_eq_one.1 h0
  refine ⟨fun k => isReal_of_below g _ _ (Host.reduce_andi_all _ _ _ _ ix0 h1 (ix1 k)), fun e j hj => ?_⟩
  have hc := isReal_of_below _ _ _ (Host.reduce_andi_all _ _ _ _ ix0 h2 (ix2 e (⟨j.val, hj⟩ : Fin 640)))
  refine Eq.mp (congrArg IsReal (extractStridedSlice_apply _ w _ _ (ix2 e j) fun a => ?_)) hc
  match a with
  | ⟨0, _⟩ => show e.val = 0 + e.val; omega
  | ⟨1, _⟩ => show j.val = 0 + j.val; omega

end Cert.InprojSpec

end
-- ==== Proof.InprojClaims.lean ====
/-
  The claims about the input projection: its frames, and that the kernel and the reference compute the same seven
  results from any tokens and head scales, and from a finite norm scale and finite query and key columns.
-/
module

public import proofs.«01_k».proof.Proof.InprojArray
public import proofs.«01_k».proof.Proof.InprojRef
public import proofs.«01_k».proof.Proof.InprojPre
public import proofs.«01_k».proof.Proof.Gen.Inproj.Frame
public import proofs.«01_k».proof.Proof.Gen.InprojRefIdeal.Run
public import proofs.«01_k».proof.Defs

@[expose] public section

noncomputable section

namespace Cert.InprojSpec

open Idealize.ShloMosaic Idealize.SL.Sem Idealize.ShloMosaic.ValueIdx

theorem frame_kernel : Cert.quiescent_Inproj := fun m ρ _ => Cert.Inproj.Gen.frame m ρ
theorem frame_ideal : Cert.quiescent_InprojIdeal := fun m ρ _ => Cert.InprojIdeal.Gen.frame m ρ
theorem frame_ideal_pre : Cert.quiescent_InprojIdeal_pre_finite_w := fun m ρ _ => Cert.InprojIdeal.Gen.frame m ρ

/-- The reference's arguments end unchanged; it declares no semaphore. -/
theorem frame_ref : Cert.quiescent_InprojRefIdeal := fun m ρ _ =>
  (θ_run Cert.InprojRefIdeal.defs _ _).mono (fun r h => ⟨fun c => (h c).2.2.2.2.2.2.2, sem_eq_zero_of_no_sems (by decide) r.2⟩)
    (Cert.InprojRefIdeal.Value.run (F := Ideal) m ρ)
theorem frame_ref_pre : Cert.quiescent_InprojRefIdeal_pre_finite_w := fun m ρ _ => frame_ref m ρ trivial

/-- An array of rows is a function of its rows and columns. -/
theorem rows_ext {a b : ℕ} {α : Type} (f : (⟨2, ![a, b]⟩ : Shape).Idx → α) (g : Fin a → Fin b → α) (h : ∀ T j, f (ix2 T j) = g T j) (i : (⟨2, ![a, b]⟩ : Shape).Idx) : f i = g (i 0) (i 1) :=
  (congrArg f (eq_ix2 (n0 := a) (n1 := b) i)).trans (h (i 0) (i 1))

/-- **The input projection**: the kernel's seven results are the reference's. -/
theorem algebraic : Cert.algebraic_InprojIdeal_InprojRefIdeal_pre_finite_w := by
  intro m ρ m' ρ' hpre hagree
  have hf : ∀ c, Cert.InprojIdeal.Block.Finite m c := fun c => isReal_params (hpre c)
  refine ⟨fun c => Cert.InprojIdeal.Array.result8 m c, fun c => Cert.InprojIdeal.Array.result9 m c, fun c => Cert.InprojIdeal.Array.result10 m c, fun c => Cert.InprojIdeal.Array.result11 m c,
    fun c => Cert.InprojIdeal.Array.result12 m c, fun c => Cert.InprojIdeal.Array.result13 m c, fun c => Cert.InprojIdeal.Array.result14 m c, ?_, ?_⟩
  · refine (θ_run Cert.InprojIdeal.defs _ _).mono (fun r h c => ?_) (Cert.InprojIdeal.Value.run_blocks (F := Ideal) m ρ)
    obtain ⟨e8, e9, e10, e11, e12, e13, e14, hargs⟩ := h c
    exact ⟨e8.trans (Cert.InprojIdeal.Array.array_eq8 m c (hf c)), e9.trans (Cert.InprojIdeal.Array.array_eq9 m c (hf c)), e10.trans (Cert.InprojIdeal.Array.array_eq10 m c),
      e11.trans (Cert.InprojIdeal.Array.array_eq11 m c), e12.trans (Cert.InprojIdeal.Array.array_eq12 m c), e13.trans (Cert.InprojIdeal.Array.array_eq13 m c), e14.trans (Cert.InprojIdeal.Array.array_eq14 m c), hargs⟩
  · refine (θ_run Cert.InprojRefIdeal.defs _ _).mono (fun r h c => ?_) (Cert.InprojRefIdeal.Value.run (F := Ideal) m' ρ')
    obtain ⟨e8, e9, e10, e11, e12, e13, e14, hargs⟩ := h c
    obtain ⟨h0, h1, h2, h3, h4⟩ := hagree c
    rw [Cert.InprojRefIdeal.Read.val_main_v211_eq] at e8
    rw [Cert.InprojRefIdeal.Read.val_main_v213_eq] at e9
    rw [Cert.InprojRefIdeal.Read.val_main_v214_eq] at e10
    rw [Cert.InprojRefIdeal.Read.val_main_v17_eq] at e11
    rw [Cert.InprojRefIdeal.Read.val_main_v217_eq] at e12
    rw [Cert.InprojRefIdeal.Read.val_main_v218_eq] at e13
    rw [Cert.InprojRefIdeal.Read.val_main_v219_eq] at e14
    refine ⟨e8.trans ((congr (congr (congrArg₂ _ h0 h1) h2) h3).trans (funext fun i => ?_)), e9.trans ((congr (congr (congrArg₂ _ h0 h1) h2) h4).trans (funext fun i => ?_)),
      e10.trans ((congr (congrArg₂ _ h0 h1) h2).trans (funext fun i => ?_)), e11.trans ((congr (congrArg₂ _ h0 h1) h2).trans (funext fun i => ?_)), e12.trans ((congr (congrArg₂ _ h0 h1) h2).trans (funext fun i => ?_)),
      e13.trans ((congr (congrArg₂ _ h0 h1) h2).trans (funext fun i => ?_)), e14.trans ((congr (congrArg₂ _ h0 h1) h2).trans (funext fun i => ?_)), hargs⟩
    · exact rows_ext (a := 32768) (b := 512) _ _ (Cert.InprojRefIdeal.Array.queries_apply _ _ _ _) i
    · exact rows_ext (a := 32768) (b := 128) _ _ (Cert.InprojRefIdeal.Array.keys_apply _ _ _ _) i
    · exact rows_ext (a := 32768) (b := 128) _ _ (Cert.InprojRefIdeal.Array.vals_apply _ _ _) i
    · exact rows_ext (a := 32768) (b := 512) _ _ (Cert.InprojRefIdeal.Array.up_apply _ _ _) i
    · exact rows_ext (a := 32768) (b := 512) _ _ (Cert.InprojRefIdeal.Array.qc_apply _ _ _) i
    · exact rows_ext (a := 32768) (b := 512) _ _ (Cert.InprojRefIdeal.Array.kc_apply _ _ _) i
    · exact rows_ext (a := 32768) (b := 512) _ _ (Cert.InprojRefIdeal.Array.vc_apply _ _ _) i

end Cert.InprojSpec

end
-- ==== Proof.PoolSpec.lean ====
/-
  The pool mixer's arithmetic: a window's mean over a sequence cut at its ends, less the token, projected group by group.
-/
module

public import proofs.«01_k».proof.Proof.RowNorm
public import Idealize.ShloMosaic.Lib.KernelVsHost

@[expose] public section

noncomputable section

namespace Cert.PoolSpec

open Idealize.ShloMosaic Idealize.ShloMosaic.ValueIdx
open scoped BigOperators

/-- The first position of a window of half-width `h` around `t`. -/
def lo (h t : ℕ) : ℕ := t - h

/-- The position after the window's last. -/
def hi (h t : ℕ) : ℕ := min (t + h) 2048

/-- How many positions the window holds. -/
def count (h t : ℕ) : EReal := FloatOps.sitofp (F := Ideal) .f32 (BitVec.ofNat 32 (hi h t - lo h t))

/-- The window's sum of a sequence's column. -/
def total (h t : ℕ) (x : Fin 2048 → EReal) : EReal := ∑ s : Fin 2048, if lo h t ≤ s.val ∧ s.val < hi h t then x s else 0

/-- Column `d` of group `g`. -/
def col (g : Fin 4) (d : Fin 128) : Fin 512 := ⟨g.val * 128 + d.val, by have := g.isLt; have := d.isLt; omega⟩

/-- The mixer at token `t` of a sequence, column `e` of group `g`. -/
def mixed (x : Fin 2048 → Fin 512 → EReal) (w : Fin 4 → Fin 128 → Fin 128 → EReal) (s : Fin 512 → EReal) (t : Fin 2048) (g : Fin 4) (e : Fin 128) : EReal :=
  (∑ d : Fin 128, (Ideal.div (total (2 ^ g.val) t.val (fun r => x r (col g d))) (count (2 ^ g.val) t.val) - x t (col g d)) * w g d e) * s (col g e)

/-- The mixer at token `t`, column `j`. -/
def out (x : Fin 2048 → Fin 512 → EReal) (w : Fin 4 → Fin 128 → Fin 128 → EReal) (s : Fin 512 → EReal) (t : Fin 2048) (j : Fin 512) : EReal :=
  mixed x w s t ⟨j.val / 128, by have := j.isLt; omega⟩ ⟨j.val % 128, Nat.mod_lt _ (by decide)⟩

/-- The mixer's result on the whole stream, row `T`, column `j`. -/
def result (A : (⟨2, ![32768, 512]⟩ : Shape).Idx → EReal) (w : (⟨3, ![4, 128, 128]⟩ : Shape).Idx → EReal) (s : (⟨2, ![1, 512]⟩ : Shape).Idx → EReal) (T : Fin 32768) (j : Fin 512) : EReal :=
  out (fun r k => A (ix2 (⟨2048 * (T.val / 2048) + r.val, by have := T.isLt; have := r.isLt; omega⟩ : Fin 32768) k)) (fun g d e => w (ix3 g d e)) (fun k => s (ix2 (0 : Fin 1) k))
    ⟨T.val % 2048, Nat.mod_lt _ (by decide)⟩ j

/-- The result in sequence `b`, from that sequence. -/
theorem result_at (A : (⟨2, ![32768, 512]⟩ : Shape).Idx → EReal) (w : (⟨3, ![4, 128, 128]⟩ : Shape).Idx → EReal) (s : (⟨2, ![1, 512]⟩ : Shape).Idx → EReal) (x : Fin 2048 → Fin 512 → EReal) (T : Fin 32768) (b : ℕ) (t : Fin 2048) (j : Fin 512)
    (hT : T.val = 2048 * b + t.val) (hx : ∀ (r : Fin 2048) (k : Fin 512) (R : Fin 32768), R.val = 2048 * b + r.val → x r k = A (ix2 R k)) :
    out x (fun g d e => w (ix3 g d e)) (fun k => s (ix2 (0 : Fin 1) k)) t j = result A w s T j := by
  have ht := t.isLt
  unfold result
  have e : t = (⟨T.val % 2048, Nat.mod_lt _ (by decide)⟩ : Fin 2048) := Fin.ext (by show t.val = T.val % 2048; omega)
  rw [← e]
  exact congrArg (fun x => out x _ _ t j) (funext fun r => funext fun k => hx r k _ (by show 2048 * (T.val / 2048) + r.val = 2048 * b + r.val; omega))

/-- A column with sixteen zeros before it and after it. -/
def padded (x : Fin 2048 → EReal) (r : ℕ) : EReal := if h : 16 ≤ r ∧ r < 2064 then x ⟨r - 16, by omega⟩ else 0

theorem padded_mid (x : Fin 2048 → EReal) (r : ℕ) (s : Fin 2048) (h : r = 16 + s.val) : padded x r = x s := by
  have hs := s.isLt
  unfold padded
  rw [dif_pos ⟨by omega, by omega⟩]
  exact congrArg x (Fin.ext (by show r - 16 = s.val; omega))

theorem padded_off (x : Fin 2048 → EReal) (r : ℕ) (h : r < 16 ∨ 2064 ≤ r) : padded x r = 0 := by
  unfold padded
  exact dif_neg (by omega)

/-- A window's sum is that of the padded column, from the window's first position uncut. -/
theorem total_padded (h t : ℕ) (hh : h ≤ 16) (ht : t < 2048) (x : Fin 2048 → EReal) :
    ∑ i ∈ Finset.range (2 * h), padded x (16 + t - h + i) = total h t x := by
  have inner : total h t x = ∑ s ∈ Finset.range 2048, if lo h t ≤ s ∧ s < hi h t then padded x (16 + s) else 0 := by
    unfold total
    rw [← Fin.sum_univ_eq_sum_range (fun s => if lo h t ≤ s ∧ s < hi h t then padded x (16 + s) else 0) 2048]
    refine Finset.sum_congr rfl fun s _ => if_congr Iff.rfl ?_ rfl
    have hs := s.isLt
    unfold padded
    rw [dif_pos ⟨by omega, by omega⟩]
    exact congrArg x (Fin.ext (by show s.val = 16 + s.val - 16; omega))
  have shift : ∑ i ∈ Finset.range (2 * h), padded x (16 + t - h + i) = ∑ r ∈ Finset.Ico (16 + t - h) (16 + t + h), padded x r := by
    rw [Finset.sum_Ico_eq_sum_range]
    exact Finset.sum_congr (congrArg Finset.range (by omega)) fun _ _ => rfl
  have shift' : (∑ s ∈ Finset.range 2048, if lo h t ≤ s ∧ s < hi h t then padded x (16 + s) else 0)
      = ∑ r ∈ Finset.Ico 16 2064, if 16 + t - h ≤ r ∧ r < 16 + t + h then padded x r else 0 := by
    rw [Finset.sum_Ico_eq_sum_range]
    refine Finset.sum_congr rfl fun s hs => if_congr ?_ rfl rfl
    have := Finset.mem_range.mp hs
    unfold lo hi
    omega
  rw [shift, inner, shift']
  rw [← Finset.sum_filter]
  refine (Finset.sum_subset (fun r hr => ?_) fun r hr hn => ?_).symm
  · obtain ⟨_, h2⟩ := Finset.mem_filter.mp hr
    exact Finset.mem_Ico.mpr h2
  · have h2 := Finset.mem_Ico.mp hr
    unfold padded
    refine dif_neg fun h1 => hn (Finset.mem_filter.mpr ⟨Finset.mem_Ico.mpr h1, h2⟩)

end Cert.PoolSpec

end
-- ==== Proof.PoolChunk.lean ====
/-
  The pool mixer's body on a sequence: the padded copy in its scratch, and one stored piece read at an index.
-/
module

public import proofs.«01_k».proof.Proof.PoolSpec
public import proofs.«01_k».proof.Proof.MergeArray
public import proofs.«01_k».proof.Proof.Gen.PoolIdeal.Value

@[expose] public section

set_option maxRecDepth 16384

noncomputable section

namespace Cert.PoolIdeal.Chunk

open Cert.PoolIdeal Cert.PoolIdeal.Gen Idealize.ShloMosaic Idealize.ShloMosaic.ValueIdx Cert.RowNorm Cert.PoolSpec
open Cert.MergeIdeal.Array (ld2_apply)
open scoped BigOperators

/-! ## The scratch -/

/-- The scratch's contents: the sequence with sixteen rows of zeros before it and after it. -/
def stored (u : FVec Ideal S2048x512 .f32) : S2080x512.Idx → Elt Ideal .f32 := fun y => padded (fun s => u (ix2 s (y 1))) (y 0).val

/-- The three stores, last first. -/
def stores (u : FVec Ideal S2048x512 .f32) : List (View.Piece (Elt Ideal) S2080x512 .f32) :=
  [⟨Rect.unit (s := S2080x512) ![16, 0] S2048x512.size inb_S2080x512_S2048x512_16_0, k0_pay5 (F := Ideal) (View.ld (S := S2048x512) (e' := .f32) (Val := Elt Ideal) u (Rect.unit (s := S2048x512) ![0, 0] S2048x512.size inb_S2048x512_S2048x512_0_0))⟩,
    ⟨Rect.unit (s := S2080x512) ![2064, 0] S16x512.size inb_S2080x512_S16x512_2064_0, k0_pay4 (F := Ideal)⟩,
    ⟨Rect.unit (s := S2080x512) ![0, 0] S16x512.size inb_S2080x512_S16x512_0_0, k0_pay3 (F := Ideal)⟩]

/-- A stored zero. -/
theorem zeros_apply (x : S16x512.Idx) : (k0_pay3 (F := Ideal) x : EReal) = 0 :=
  (shapeCast_apply (k0_pay2 (F := Ideal)) shapeCasts_S16x512_S16x512 x x rfl).trans Ideal.ofBits_zero_f32

theorem stores_canon (u : FVec Ideal S2048x512 .f32) (y : S2080x512.Idx) : View.canon (Val := Elt Ideal) (stores u) y = stored u y := by
  have h0 : (y 0).val < 2080 := (y 0).isLt
  have h1 : (y 1).val < 512 := (y 1).isLt
  refine View.canon_apply_of_pieces (Val := Elt Ideal) (stored u) _ ?_ y ?_
  · intro p hp x
    simp only [stores, List.mem_cons, List.not_mem_nil, or_false] at hp
    rcases hp with rfl | rfl | rfl
    · have hx : (x 0).val < 2048 := (x 0).isLt
      refine (shapeCast_apply (View.ld (S := S2048x512) (e' := .f32) (Val := Elt Ideal) u (Rect.unit (s := S2048x512) ![0, 0] S2048x512.size inb_S2048x512_S2048x512_0_0)) shapeCasts_S2048x512_S2048x512 x x rfl).trans ?_
      refine Eq.trans ?_ (padded_mid _ _ (x 0) (show 16 + 1 * (x 0).val = 16 + (x 0).val by omega)).symm
      refine congrArg u (funext fun a => Fin.ext ?_)
      match a with
      | ⟨0, _⟩ => show 0 + 1 * (x 0).val = (x 0).val; omega
      | ⟨1, _⟩ => rfl
    · refine (zeros_apply x).trans (Eq.symm ?_)
      exact padded_off _ _ (Or.inr (show 2064 ≤ 2064 + 1 * (x 0).val by omega))
    · have hx : (x 0).val < 16 := (x 0).isLt
      refine (zeros_apply x).trans (Eq.symm ?_)
      exact padded_off _ _ (Or.inl (show 0 + 1 * (x 0).val < 16 by omega))
  · by_cases c1 : (y 0).val < 16
    · refine ⟨_, .tail _ (.tail _ (.head _)), ?_⟩
      rw [Rect.mem_set_unit]
      intro a
      match a with
      | ⟨0, _⟩ => exact ⟨Nat.zero_le _, by show (y 0).val < 0 + 16; omega⟩
      | ⟨1, _⟩ => exact ⟨Nat.zero_le _, by show (y 1).val < 0 + 512; omega⟩
    by_cases c2 : (y 0).val < 2064
    · refine ⟨_, .head _, ?_⟩
      rw [Rect.mem_set_unit]
      intro a
      match a with
      | ⟨0, _⟩ => exact ⟨by show 16 ≤ (y 0).val; omega, by show (y 0).val < 16 + 2048; omega⟩
      | ⟨1, _⟩ => exact ⟨Nat.zero_le _, by show (y 1).val < 0 + 512; omega⟩
    · refine ⟨_, .tail _ (.head _), ?_⟩
      rw [Rect.mem_set_unit]
      intro a
      match a with
      | ⟨0, _⟩ => exact ⟨by show 2064 ≤ (y 0).val; omega, by show (y 0).val < 2064 + 16; omega⟩
      | ⟨1, _⟩ => exact ⟨Nat.zero_le _, by show (y 1).val < 0 + 512; omega⟩

/-- Rows from `o` and columns from `j` of the padded sequence. -/
def slab (u : FVec Ideal S2048x512 .f32) (j o : ℕ) : FVec Ideal S256x128 .f32 :=
  fun x => if h : j + (x 1).val < 512 then padded (fun s => u (ix2 s (⟨j + (x 1).val, h⟩ : Fin 512))) (o + (x 0).val) else (0 : EReal)

/-- A load of the scratch after its stores. -/
theorem load_eq {sig' : RefSig} {κ : Kind} {sp : Space} (v : View sig' κ sp S2080x512 .f32) (u : FVec Ideal S2048x512 .f32) (o j : ℕ)
    (inb : ∀ a, (![o, j] : Fin 2 → ℕ) a + S256x128.size a ≤ S2080x512.size a) :
    v.readCov (Val := Elt Ideal) (stores u) (Rect.unit (s := S2080x512) ![o, j] S256x128.size inb).toLoadRect = slab u j o := by
  have hj : j + 128 ≤ 512 := inb 1
  rw [View.readCov_eq_canon']
  funext x
  have hx : (x 1).val < 128 := (x 1).isLt
  refine (stores_canon u _).trans ?_
  unfold stored slab
  rw [dif_pos (by omega)]
  refine congrArg₂ padded (funext fun s => congrArg u (congrArg (ix2 s) (Fin.ext ?_))) ?_
  · show j + 1 * (x 1).val = j + (x 1).val; omega
  · show o + 1 * (x 0).val = o + (x 0).val; omega

/-- The same of the stores written out. -/
theorem load_apply {sig' : RefSig} {κ : Kind} {sp : Space} (v : View sig' κ sp S2080x512 .f32) (u : FVec Ideal S2048x512 .f32) (o j : ℕ)
    (inb : ∀ a, (![o, j] : Fin 2 → ℕ) a + S256x128.size a ≤ S2080x512.size a) :
    v.readCov (Val := Elt Ideal) [⟨Rect.unit (s := S2080x512) ![16, 0] S2048x512.size inb_S2080x512_S2048x512_16_0, k0_pay5 (F := Ideal) (View.ld (S := S2048x512) (e' := .f32) (Val := Elt Ideal) u (Rect.unit (s := S2048x512) ![0, 0] S2048x512.size inb_S2048x512_S2048x512_0_0))⟩,
      ⟨Rect.unit (s := S2080x512) ![2064, 0] S16x512.size inb_S2080x512_S16x512_2064_0, k0_pay4 (F := Ideal)⟩,
      ⟨Rect.unit (s := S2080x512) ![0, 0] S16x512.size inb_S2080x512_S16x512_0_0, k0_pay3 (F := Ideal)⟩] (Rect.unit (s := S2080x512) ![o, j] S256x128.size inb).toLoadRect = slab u j o :=
  load_eq v u o j inb

/-! ## One stored piece -/

/-- The slabs from row `o` on, `n + 1` of them, summed in order. -/
def summed (u : FVec Ideal S2048x512 .f32) (j o : ℕ) : ℕ → FVec Ideal S256x128 .f32
  | 0 => slab u j o
  | n + 1 => addf (summed u j o n) (slab u j (o + (n + 1)))

theorem summed_apply (u : FVec Ideal S2048x512 .f32) (j o n : ℕ) (r : Fin 256) (d : Fin 128) (k : Fin 512) (hk : k.val = j + d.val) :
    summed u j o n (ix2 r d) = ∑ i ∈ Finset.range (n + 1), padded (fun s => u (ix2 s k)) (o + r.val + i) := by
  have one : ∀ i, slab u j (o + i) (ix2 r d) = padded (fun s => u (ix2 s k)) (o + r.val + i) := fun i => by
    have hlt : j + d.val < 512 := by have := k.isLt; omega
    unfold slab
    refine (dif_pos (show j + ((ix2 r d : S256x128.Idx) 1).val < 512 from hlt)).trans ?_
    refine congrArg₂ padded (funext fun s => congrArg u (congrArg (ix2 s) (Fin.ext hk.symm))) ?_
    show o + i + r.val = o + r.val + i; omega
  induction n with
  | zero => rw [Finset.sum_range_one]; exact one 0
  | succ n ih => rw [Finset.sum_range_succ, ← ih, ← one (n + 1)]; rfl

/-- A window's length, in words. -/
def lengthOf (h b : BitVec 32) : BitVec 32 := IntOp.subi (IntOp.minsi (IntOp.addi b h) 2048#32) (IntOp.maxsi (IntOp.subi b h) 0#32)

theorem lengthOf_eq : ∀ (g : Fin 4) (t : Fin 2048), lengthOf (BitVec.ofNat 32 (2 ^ g.val)) (BitVec.ofNat 32 t.val) = BitVec.ofNat 32 (hi (2 ^ g.val) t.val - lo (2 ^ g.val) t.val) := by
  unfold lengthOf hi lo
  decide +kernel

/-- What is stored of a piece: the sums over the windows' lengths, less the tokens, projected and scaled. -/
def cell (r0 h : BitVec 32) (acc us : FVec Ideal S256x128 .f32) (w : FVec Ideal S1x128x128 .bf16) (s : FVec Ideal S1x128 .f32) : FVec Ideal S256x128 .bf16 :=
  truncf .bf16 (mulf (matmul dot_S256x128_S128x128_S256x128_1_0_0_1_n_n none
    (truncf .bf16 (subf (divf acc (sitofp .f32 (subi
      (minsi (addi (addi (broadcast S256x128 r0) (iota .tc S256x128 32 [0] iota_S256x128_d0_w32)) (broadcast S256x128 h)) (broadcast S256x128 2048#32))
      (maxsi (subi (addi (broadcast S256x128 r0) (iota .tc S256x128 32 [0] iota_S256x128_d0_w32)) (broadcast S256x128 h)) (broadcast S256x128 0#32))))) us) bitsLt_bf16_f32)
    (shapeCast S128x128 w shapeCasts_S1x128x128_S128x128) (constant S256x128 .f32 0x00000000#32))
    (broadcastTo S256x128 s broadcasts_S1x128_S256x128)) bitsLt_bf16_f32

theorem slab_cast (w : FVec Ideal S1x128x128 .bf16) (d e : Fin 128) :
    shapeCast S128x128 w shapeCasts_S1x128x128_S128x128 (ix2 d e) = w (ix3 (0 : Fin 1) d e) := by
  refine shapeCast_apply w shapeCasts_S1x128x128_S128x128 (ix2 d e) (ix3 (0 : Fin 1) d e) ?_
  rw [Shape.rowMajor_val_two, Shape.rowMajor_val_three]
  show (0 * 128 + d.val) * 128 + e.val = d.val * 128 + e.val
  omega

theorem cell_apply (r0 : ℕ) (h : BitVec 32) (acc us : FVec Ideal S256x128 .f32) (w : FVec Ideal S1x128x128 .bf16) (s : FVec Ideal S1x128 .f32) (r : Fin 256) (e : Fin 128) :
    (cell (BitVec.ofNat 32 r0) h acc us w s (ix2 r e) : EReal)
      = (∑ d : Fin 128, (Ideal.div (acc (ix2 r d)) (FloatOps.sitofp (F := Ideal) .f32 (lengthOf h (BitVec.ofNat 32 (r0 + r.val)))) - us (ix2 r d)) * w (ix3 (0 : Fin 1) d e)) * s (ix2 (0 : Fin 1) e) := by
  refine congrArg₂ (fun a b : EReal => a * b) ((product_apply _ _ r e).trans (Finset.sum_congr rfl fun d _ => congrArg₂ (fun a b : EReal => a * b) ?_ (slab_cast w d e)))
    (row_apply (by decide) s broadcasts_S1x128_S256x128 r e)
  have hi : addi (broadcast S256x128 (BitVec.ofNat 32 r0)) (iota .tc S256x128 32 [0] iota_S256x128_d0_w32) (ix2 r d) = BitVec.ofNat 32 (r0 + r.val) := by
    refine (congrArg (IntOp.addi (BitVec.ofNat 32 r0)) (iota_single_apply .tc S256x128 32 0 iota_S256x128_d0_w32 (ix2 r d))).trans ?_
    exact (BitVec.ofNat_add r0 r.val).symm
  exact congrArg (fun b : BitVec 32 => (Ideal.div (acc (ix2 r d)) (FloatOps.sitofp (F := Ideal) .f32 (lengthOf h b)) - us (ix2 r d) : EReal)) hi

/-- **A stored piece**: rows from `r0`, group `g`. -/
theorem piece_apply (u : FVec Ideal S2048x512 .f32) (w : FVec Ideal S4x128x128 .bf16) (s : FVec Ideal S1x512 .f32) (r0 : ℕ) (g : Fin 4) (j o n : ℕ)
    (hj : j = g.val * 128) (ho : o + 2 ^ g.val = 16 + r0) (hn : n + 1 = 2 * 2 ^ g.val)
    (iu : ∀ a, (![r0, j] : Fin 2 → ℕ) a + S256x128.size a ≤ S2048x512.size a)
    (iw : ∀ a, (![g.val, 0, 0] : Fin 3 → ℕ) a + S1x128x128.size a ≤ S4x128x128.size a)
    (is : ∀ a, (![0, j] : Fin 2 → ℕ) a + S1x128.size a ≤ S1x512.size a) (x : S256x128.Idx) :
    (cell (BitVec.ofNat 32 r0) (BitVec.ofNat 32 (2 ^ g.val)) (summed u j o n)
      (View.ld (S := S2048x512) (e' := .f32) (Val := Elt Ideal) u (Rect.unit (s := S2048x512) ![r0, j] S256x128.size iu))
      (View.ld (S := S4x128x128) (e' := .bf16) (Val := Elt Ideal) w (Rect.unit (s := S4x128x128) ![g.val, 0, 0] S1x128x128.size iw))
      (View.ld (S := S1x512) (e' := .f32) (Val := Elt Ideal) s (Rect.unit (s := S1x512) ![0, j] S1x128.size is)) x : EReal)
      = out (fun r k => u (ix2 r k)) (fun g d e => w (ix3 g d e)) (fun k => s (ix2 (0 : Fin 1) k))
          ((Rect.unit (s := S2048x512) ![r0, j] S256x128.size iu).emb x 0) ((Rect.unit (s := S2048x512) ![r0, j] S256x128.size iu).emb x 1) := by
  have hr : r0 + 256 ≤ 2048 := iu 0
  have h0 : (x 0).val < 256 := (x 0).isLt
  have h1 : (x 1).val < 128 := (x 1).isLt
  have hgl := g.isLt
  have hg : 2 ^ g.val ≤ 8 := (by decide : ∀ g : Fin 4, 2 ^ g.val ≤ 8) g
  have hx : x = (ix2 (x 0) (x 1) : S256x128.Idx) := eq_ix2 (n0 := 256) (n1 := 128) x
  have et : (Rect.unit (s := S2048x512) ![r0, j] S256x128.size iu).emb x 0 = (⟨r0 + (x 0).val, by omega⟩ : Fin 2048) := Fin.ext (by show r0 + 1 * (x 0).val = r0 + (x 0).val; omega)
  have ec : ∀ d : Fin 128, (col g d).val = j + d.val := fun d => by show g.val * 128 + d.val = j + d.val; omega
  have eg : (⟨((Rect.unit (s := S2048x512) ![r0, j] S256x128.size iu).emb x 1).val / 128, by
      have : ((Rect.unit (s := S2048x512) ![r0, j] S256x128.size iu).emb x 1).val < 512 := ((Rect.unit (s := S2048x512) ![r0, j] S256x128.size iu).emb x 1).isLt
      omega⟩ : Fin 4) = g := Fin.ext (by show (j + 1 * (x 1).val) / 128 = g.val; omega)
  have ee : (⟨((Rect.unit (s := S2048x512) ![r0, j] S256x128.size iu).emb x 1).val % 128, Nat.mod_lt _ (by decide)⟩ : Fin 128) = (x 1 : Fin 128) :=
    Fin.ext (by show (j + 1 * (x 1).val) % 128 = (x 1).val; omega)
  unfold out
  rw [et, eg, ee]
  refine (congrArg (cell _ _ _ _ _ _) hx).trans ((cell_apply r0 _ _ _ _ _ (x 0) (x 1)).trans ?_)
  refine congrArg₂ (fun a b : EReal => a * b) (Finset.sum_congr rfl fun d _ => congrArg₂ (fun a b : EReal => a * b) (congrArg₂ (fun a b : EReal => a - b) (congrArg₂ Ideal.div ?_ ?_) ?_) ?_) ?_
  · refine (summed_apply u j o n (x 0) d (col g d) (ec d)).trans ?_
    rw [hn]
    refine Eq.trans ?_ (total_padded (2 ^ g.val) (r0 + (x 0).val) (by omega) (by omega) (fun r => u (ix2 r (col g d))))
    exact Finset.sum_congr rfl fun i _ => congrArg (padded _) (by omega)
  · exact congrArg (FloatOps.sitofp (F := Ideal) .f32) (lengthOf_eq g (⟨r0 + (x 0).val, by omega⟩ : Fin 2048))
  · exact ld2_apply (φ := .f32) u r0 j iu (x 0) d ⟨r0 + (x 0).val, by omega⟩ (col g d) rfl (ec d)
  · refine congrArg w (funext fun a => Fin.ext ?_)
    match a with
    | ⟨0, _⟩ => show g.val + 1 * 0 = g.val; omega
    | ⟨1, _⟩ => show 0 + 1 * d.val = d.val; omega
    | ⟨2, _⟩ => show 0 + 1 * (x 1).val = (x 1).val; omega
  · exact ld2_apply (φ := .f32) s 0 j is 0 (x 1) 0 (col g (x 1)) rfl (ec (x 1))

end Cert.PoolIdeal.Chunk

end
-- ==== Proof.PoolArray.lean ====
/-
  The pool mixer's result array after its run, index by index. A grid point stores one sequence; the sequences tile
  the array.
-/
module

public import proofs.«01_k».proof.Proof.PoolChunk
public import Idealize.ShloMosaic.Lib.Pipeline.ValueKit.Tiles

@[expose] public section

set_option maxRecDepth 16384

noncomputable section

namespace Cert.PoolIdeal.Array

open Cert.PoolIdeal Cert.PoolIdeal.Gen Idealize.ShloMosaic Idealize.ShloMosaic.TcCoe Idealize.ShloMosaic.Tactic Idealize.ShloMosaic.ValueIdx
open Cert.PoolIdeal.Chunk
open Idealize.ShloMosaic.Pipeline (Dat)

variable (m : (ℓ : Loc nD τ sig) → Buf (Elt Ideal) ℓ) (c : Dev nD)

/-- The mixer's block of a sequence. -/
def blockOf (x0 : Vec Ideal S2048x512 .f32) (x1 : Vec Ideal S4x128x128 .bf16) (x2 : Vec Ideal S1x512 .f32) : S2048x512.Idx → Elt Ideal .bf16 := fun y =>
  PoolSpec.out (fun r k => x0 (ix2 r k)) (fun g d e => x1 (ix3 g d e)) (fun k => x2 (ix2 (0 : Fin 1) k)) (y 0) (y 1)

/-- A stored piece, its constants given as numerals. -/
theorem piece_at (u : FVec Ideal S2048x512 .f32) (w : FVec Ideal S4x128x128 .bf16) (s : FVec Ideal S1x512 .f32) (g : Fin 4) (r0 q j h n : ℕ)
    (hq : q = g.val) (hh : h = 2 ^ g.val) (hj : j = g.val * 128) (hb : h ≤ 16) (hn : n + 1 = 2 * h)
    (iu : ∀ a, (![r0, j] : Fin 2 → ℕ) a + S256x128.size a ≤ S2048x512.size a)
    (iw : ∀ a, (![q, 0, 0] : Fin 3 → ℕ) a + S1x128x128.size a ≤ S4x128x128.size a)
    (is : ∀ a, (![0, j] : Fin 2 → ℕ) a + S1x128.size a ≤ S1x512.size a) (x : S256x128.Idx) :
    (cell (BitVec.ofNat 32 r0) (BitVec.ofNat 32 h) (summed u j (16 + r0 - h) n)
      (View.ld (S := S2048x512) (e' := .f32) (Val := Elt Ideal) u (Rect.unit (s := S2048x512) ![r0, j] S256x128.size iu))
      (View.ld (S := S4x128x128) (e' := .bf16) (Val := Elt Ideal) w (Rect.unit (s := S4x128x128) ![q, 0, 0] S1x128x128.size iw))
      (View.ld (S := S1x512) (e' := .f32) (Val := Elt Ideal) s (Rect.unit (s := S1x512) ![0, j] S1x128.size is)) x : EReal)
      = blockOf u w s ((Rect.unit (s := S2048x512) ![r0, j] S256x128.size iu).emb x) := by
  subst hq hh
  exact piece_apply u w s r0 g j _ n hj (by omega) hn iu iw is x

/-- Every stored piece is the block's. -/
theorem pieces (i : grid0.Coords) (arg1 : Memref sig .tc .vmem S2048x512 .f32) (harg1 : arg1.IsWhole) (arg2 : Memref sig .tc .vmem S4x128x128 .bf16) (harg2 : arg2.IsWhole)
    (arg3 : Memref sig .tc .vmem S1x512 .f32) (harg3 : arg3.IsWhole) (arg4 : Memref sig .tc .vmem S2048x512 .bf16) (harg4 : arg4.IsWhole) (arg5 : Memref sig .tc .vmem S2080x512 .f32) (harg5 : arg5.IsWhole)
    (x0 : Vec Ideal S2048x512 .f32) (x1 : Vec Ideal S4x128x128 .bf16) (x2 : Vec Ideal S1x512 .f32) :
    ∀ p ∈ (kernelRun0_A (F := Ideal) c i arg1 harg1 arg2 harg2 arg3 harg3 arg4 harg4 arg5 harg5 x0 x1 x2).1, ∀ x : p.1.shape.Idx, p.2 x = blockOf x0 x1 x2 (p.1.emb x) := by
  unfold kernelRun0_A
  have hl := fun o j inb => load_apply arg5.view x0 o j inb
  dsimp only at hl
  dsimp only
  sl_unfold_words
  simp only [View.readAt_eq_ld, harg1.read_unread, harg2.read_unread, harg3.read_unread, hl]
  dsimp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
  iterate 8
    refine List.forall_mem_cons.2 ⟨fun x => ?_, ?_⟩
    · dsimp only
      refine Eq.trans ?_ (piece_at x0 x1 x2 3 _ 3 384 8 15 rfl rfl rfl (by decide) rfl _ inb_S4x128x128_S1x128x128_3_0_0 inb_S1x512_S1x128_0_384 x)
      simp only [summed, cell, Nat.reduceAdd, Nat.reduceSub]
    refine List.forall_mem_cons.2 ⟨fun x => ?_, ?_⟩
    · dsimp only
      refine Eq.trans ?_ (piece_at x0 x1 x2 2 _ 2 256 4 7 rfl rfl rfl (by decide) rfl _ inb_S4x128x128_S1x128x128_2_0_0 inb_S1x512_S1x128_0_256 x)
      simp only [summed, cell, Nat.reduceAdd, Nat.reduceSub]
    refine List.forall_mem_cons.2 ⟨fun x => ?_, ?_⟩
    · dsimp only
      refine Eq.trans ?_ (piece_at x0 x1 x2 1 _ 1 128 2 3 rfl rfl rfl (by decide) rfl _ inb_S4x128x128_S1x128x128_1_0_0 inb_S1x512_S1x128_0_128 x)
      simp only [summed, cell, Nat.reduceAdd, Nat.reduceSub]
    refine List.forall_mem_cons.2 ⟨fun x => ?_, ?_⟩
    · dsimp only
      refine Eq.trans ?_ (piece_at x0 x1 x2 0 _ 0 0 1 1 rfl rfl rfl (by decide) rfl _ inb_S4x128x128_S1x128x128_0_0_0 inb_S1x512_S1x128_0_0 x)
      simp only [summed, cell, Nat.reduceAdd, Nat.reduceSub]
  exact List.forall_mem_nil _

/-- Where the blocks sit at a grid point. -/
theorem idx_blk : ∀ t : Fin cfg0.N, (win0_0.index t 0 = t.val ∧ win0_0.index t 1 = 0) ∧ (win0_1.index t 0 = 0 ∧ win0_1.index t 1 = 0 ∧ win0_1.index t 2 = 0) ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0 ∧ win0_1.index t 2 = 0) ∧ (win0_2.index t 0 = 0 ∧ win0_2.index t 1 = 0) ∧ (win0_3.index t 0 = t.val ∧ win0_3.index t 1 = 0))

/-- A point's block of the result. -/
theorem point (t : Fin cfg0.N) (y : S2048x512.Idx) : outsAt0 m c t y = blockOf (iblk m c 0 t) (iblk m c 1 t) (iblk m c 2 t) y := by
  unfold outsAt0 out0_A_3
  rw [View.read_writes_eq_canon _ _ _ (cover0_A_3 c _ _ _ _ _ _ _ _ _ _ _ _ _ _)]
  exact View.canon_apply_of_pieces (Val := Elt Ideal) (blockOf (iblk m c 0 t) (iblk m c 1 t) (iblk m c 2 t)) _
    (pieces c _ _ _ _ _ _ _ _ _ _ _ _ _ _) y (cover0_A_3 c _ _ _ _ _ _ _ _ _ _ _ _ _ _ y)

/-- The mixer's result as one function of the arguments. -/
def result : Buf (Elt Ideal) ((c : Thread nD τ).loc main_v0) := fun i =>
  PoolSpec.result (m ((c : Thread nD τ).loc main_arg0)) (m ((c : Thread nD τ).loc main_arg1)) (m ((c : Thread nD τ).loc main_arg2)) (i 0) (i 1)

theorem iblk0_apply (t : Fin cfg0.N) (r : Fin 2048) (k : Fin 512) (R : Fin 32768) (hR : R.val = 2048 * t.val + r.val) :
    iblk m c 0 t (ix2 r k) = m ((c : Thread nD τ).loc main_arg0) (ix2 R k) := by
  obtain ⟨⟨ha, hb⟩, -⟩ := idx_blk t
  refine congrArg (m ((c : Thread nD τ).loc main_arg0)) (funext fun a => Fin.ext ?_)
  match a with
  | ⟨0, _⟩ => show win0_0.index t 0 * 2048 + 1 * r.val = R.val; rw [ha]; omega
  | ⟨1, _⟩ => show win0_0.index t 1 * 512 + 1 * k.val = k.val; rw [hb]; omega

theorem iblk1_apply (t : Fin cfg0.N) (g : Fin 4) (d e : Fin 128) : iblk m c 1 t (ix3 g d e) = m ((c : Thread nD τ).loc main_arg1) (ix3 g d e) := by
  obtain ⟨-, ⟨ha, hb, hc⟩, -⟩ := idx_blk t
  refine congrArg (m ((c : Thread nD τ).loc main_arg1)) (funext fun a => Fin.ext ?_)
  match a with
  | ⟨0, _⟩ => show win0_1.index t 0 * 4 + 1 * g.val = g.val; rw [ha]; omega
  | ⟨1, _⟩ => show win0_1.index t 1 * 128 + 1 * d.val = d.val; rw [hb]; omega
  | ⟨2, _⟩ => show win0_1.index t 2 * 128 + 1 * e.val = e.val; rw [hc]; omega

theorem iblk2_apply (t : Fin cfg0.N) (r : Fin 1) (k : Fin 512) : iblk m c 2 t (ix2 r k) = m ((c : Thread nD τ).loc main_arg2) (ix2 r k) := by
  obtain ⟨-, -, ⟨ha, hb⟩, -⟩ := idx_blk t
  refine congrArg (m ((c : Thread nD τ).loc main_arg2)) (funext fun a => Fin.ext ?_)
  match a with
  | ⟨0, _⟩ => show win0_2.index t 0 * 1 + 1 * r.val = r.val; rw [ha]; omega
  | ⟨1, _⟩ => show win0_2.index t 1 * 512 + 1 * k.val = k.val; rw [hb]; omega

/-- A point's block is its part of the result. -/
theorem blockOf_eq (t : Fin cfg0.N) (y : S2048x512.Idx) (T : Fin 32768) (hT : T.val = 2048 * t.val + (y 0).val) :
    blockOf (iblk m c 0 t) (iblk m c 1 t) (iblk m c 2 t) y
      = PoolSpec.result (m ((c : Thread nD τ).loc main_arg0)) (m ((c : Thread nD τ).loc main_arg1)) (m ((c : Thread nD τ).loc main_arg2)) T (y 1) := by
  have e1 : (fun (g : Fin 4) (d e : Fin 128) => (iblk m c 1 t (ix3 g d e) : EReal)) = fun g d e => m ((c : Thread nD τ).loc main_arg1) (ix3 g d e) :=
    funext fun g => funext fun d => funext fun e => iblk1_apply m c t g d e
  have e2 : (fun k : Fin 512 => (iblk m c 2 t (ix2 (0 : Fin 1) k) : EReal)) = fun k => m ((c : Thread nD τ).loc main_arg2) (ix2 (0 : Fin 1) k) :=
    funext fun k => iblk2_apply m c t 0 k
  exact (congrArg₂ (fun w s => PoolSpec.out (fun r k => iblk m c 0 t (ix2 r k)) w s (y 0) (y 1)) e1 e2).trans
    (PoolSpec.result_at _ _ _ (fun r k => iblk m c 0 t (ix2 r k)) T t.val (y 0) (y 1) hT fun r k R hR => iblk0_apply m c t r k R hR)

/-- What a point writes back is its block of the result. -/
theorem flushed_eq (t : Fin cfg0.N) : (dats m 0 c).flushed 3 t = ((cfg0.win 3).blk t).view.read (Elt Ideal) (result m c) := by
  rw [Value.flushed3]
  obtain ⟨-, -, -, ha, hb⟩ := idx_blk t
  funext y
  have h0 : (y 0).val < 2048 := (y 0).isLt
  have ht : t.val < 16 := t.isLt
  refine (point m c t y).trans ((blockOf_eq m c t y ⟨2048 * t.val + (y 0).val, by omega⟩ rfl).trans (congrArg₂ (PoolSpec.result _ _ _) (Fin.ext ?_) (Fin.ext ?_)))
  · show 2048 * t.val + (y 0).val = win0_3.index t 0 * 2048 + 1 * (y 0).val; rw [ha]; omega
  · show (y 1).val = win0_3.index t 1 * 512 + 1 * (y 1).val; rw [hb]; omega

theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v0).slice (win0_3.rect t)).set ↔ _
  rw [View.set_slice_whole, Rect.mem_set_unit]
  exact Iff.rfl

/-- **The mixer's result after the run.** -/
theorem array_eq : (dats m 0 c).arrAt 3 cfg0.N = result m c := by
  refine (dats m 0 c).arrAt_eq_of_cover 3 (result m c) (fun t _ => flushed_eq m c t) fun i => ?_
  have h0 : (i 0).val < 32768 := (i 0).isLt
  have h1 : (i 1).val < 512 := (i 1).isLt
  let t : Fin cfg0.N := ⟨(i 0).val / 2048, by show _ < 16; omega⟩
  obtain ⟨-, -, -, ha, hb⟩ := idx_blk t
  refine ⟨t, flush0_3 t, ?_⟩
  rw [mem_blk]
  intro a
  match a with
  | ⟨0, _⟩ =>
    show win0_3.index t 0 * 2048 ≤ (i 0).val ∧ (i 0).val < win0_3.index t 0 * 2048 + 2048
    rw [ha]; show (i 0).val / 2048 * 2048 ≤ _ ∧ _ < (i 0).val / 2048 * 2048 + 2048; omega
  | ⟨1, _⟩ =>
    show win0_3.index t 1 * 512 ≤ (i 1).val ∧ (i 1).val < win0_3.index t 1 * 512 + 512
    rw [hb]; omega

end Cert.PoolIdeal.Array

end
-- ==== Proof.PoolRef.lean ====
/-
  The pool reference's result at an index: `PoolSpec.result` of its arguments.
-/
module

public import proofs.«01_k».proof.Proof.PoolSpec
public import proofs.«01_k».proof.Proof.Gen.PoolRefIdeal.Read
public import Idealize.ShloMosaic.Lib.WordCmp

@[expose] public section

noncomputable section

namespace Cert.PoolRefIdeal.Array

open Cert.PoolRefIdeal Cert.PoolRefIdeal.Gen Cert.PoolRefIdeal.Read Idealize.ShloMosaic Idealize.ShloMosaic.TcCoe Idealize.ShloMosaic.ValueIdx Cert.PoolSpec
open scoped BigOperators

variable (x0 : (⟨S32768x512, .f32⟩ : BufTy).Contents (Elt Ideal)) (x1 : (⟨S4x128x128, .bf16⟩ : BufTy).Contents (Elt Ideal)) (x2 : (⟨S1x512, .f32⟩ : BufTy).Contents (Elt Ideal))

/-! ## The windows -/

theorem lo_words : ∀ (g : Fin 4) (t : Fin 2048),
    IntOp.minsi 2048#32 (IntOp.maxsi 0#32 (IntOp.subi (BitVec.ofNat 32 t.val) (IntOp.shli .host 1#32 (BitVec.ofNat 32 g.val)))) = BitVec.ofNat 32 (lo (2 ^ g.val) t.val) := by
  unfold lo
  decide +kernel

theorem hi_words : ∀ (g : Fin 4) (t : Fin 2048),
    IntOp.minsi 2048#32 (IntOp.maxsi 0#32 (IntOp.addi (BitVec.ofNat 32 t.val) (IntOp.shli .host 1#32 (BitVec.ofNat 32 g.val)))) = BitVec.ofNat 32 (hi (2 ^ g.val) t.val) := by
  unfold hi
  decide +kernel

/-- A window's first position. -/
theorem lo_apply (g : Fin 4) (t : Fin 2048) : val_main_v10 (F := Ideal) (ix2 g t) = BitVec.ofNat 32 (lo (2 ^ g.val) t.val) := by
  rw [val_main_v10_apply, val_main_call0_v4_apply, val_main_call0_v3_apply, val_main_c_1_apply, val_main_call0_v2_apply, val_main_call0_v1_apply, val_main_call0_v0_apply, val_main_c_0_apply,
    val_main_v9_apply, val_main_v7_apply, val_main_v6_apply, val_main_v5_apply, val_main_v8_apply, val_main_v4_apply, val_main_v3_apply, val_main_v2_apply, val_main_c_apply, val_main_v1_apply]
  exact lo_words g t

/-- The position after a window's last. -/
theorem hi_apply (g : Fin 4) (t : Fin 2048) : val_main_v15 (F := Ideal) (ix2 g t) = BitVec.ofNat 32 (hi (2 ^ g.val) t.val) := by
  rw [val_main_v15_apply, val_main_call1_v4_apply, val_main_call1_v3_apply, val_main_c_3_apply, val_main_call1_v2_apply, val_main_call1_v1_apply, val_main_call1_v0_apply, val_main_c_2_apply,
    val_main_v14_apply, val_main_v12_apply, val_main_v11_apply, val_main_v5_apply, val_main_v13_apply, val_main_v4_apply, val_main_v3_apply, val_main_v2_apply, val_main_c_apply, val_main_v1_apply]
  exact hi_words g t

/-- How many positions a window holds. -/
theorem count_words : ∀ (g : Fin 4) (t : Fin 2048),
    IntOp.subi (BitVec.ofNat 32 (hi (2 ^ g.val) t.val)) (BitVec.ofNat 32 (lo (2 ^ g.val) t.val)) = BitVec.ofNat 32 (hi (2 ^ g.val) t.val - lo (2 ^ g.val) t.val) := by
  unfold hi lo
  decide +kernel

theorem count_apply (b : Fin 16) (t : Fin 2048) (g : Fin 4) (d : Fin 128) : (val_main_v35 (F := Ideal) (ix4 b t g d) : EReal) = count (2 ^ g.val) t.val := by
  have e : idx_main_v32 (idx_main_v33 (idx_main_v34 (idx_main_v35 (ix4 b t g d)))) = ix2 g t := funext fun a => Fin.ext (by
    match a with
    | ⟨0, _⟩ => rfl
    | ⟨1, _⟩ => rfl)
  rw [val_main_v35_apply, val_main_v34_apply, val_main_v33_apply, val_main_v32_apply, e, val_main_v31_apply, val_main_v30_apply, hi_apply, lo_apply]
  exact congrArg (FloatOps.sitofp (F := Ideal) .f32) (count_words g t)

/-- Whether a position lies in a window. -/
theorem inside_apply (g : Fin 4) (t s : Fin 2048) :
    (val_main_v27 (F := Ideal) (ix3 g t s) : EReal) = if lo (2 ^ g.val) t.val ≤ s.val ∧ s.val < hi (2 ^ g.val) t.val then 1 else 0 := by
  have ht := t.isLt
  have hs := s.isLt
  have hl : lo (2 ^ g.val) t.val < 2 ^ (32 - 1) := Nat.lt_of_le_of_lt (Nat.sub_le _ _) (by omega)
  have hh : hi (2 ^ g.val) t.val < 2 ^ (32 - 1) := by unfold hi; omega
  have e1 : idx_main_v16 (idx_main_v18 (ix3 g t s)) = ix2 g t := funext fun a => Fin.ext (by
    match a with
    | ⟨0, _⟩ => rfl
    | ⟨1, _⟩ => rfl)
  have e2 : idx_main_v21 (idx_main_v24 (ix3 g t s)) = ix2 g t := funext fun a => Fin.ext (by
    match a with
    | ⟨0, _⟩ => rfl
    | ⟨1, _⟩ => rfl)
  rw [val_main_v27_apply, val_main_v26_apply, val_main_v20_apply, val_main_v25_apply, val_main_v18_apply, val_main_v16_apply, e1, lo_apply, val_main_v19_apply, val_main_v17_apply, val_main_v5_apply,
    val_main_v23_apply, val_main_v22_apply, val_main_v5_apply, val_main_v24_apply, val_main_v21_apply, e2, hi_apply]
  have one : IntOp.cmpi .sle (BitVec.ofNat 32 (lo (2 ^ g.val) t.val)) (BitVec.ofNat 32 s.val) = BitVec.ofBool (decide (lo (2 ^ g.val) t.val ≤ s.val)) := WordCmp.cmpi_sle_ofNat hl (by omega)
  have two : IntOp.cmpi .slt (BitVec.ofNat 32 s.val) (BitVec.ofNat 32 (hi (2 ^ g.val) t.val)) = BitVec.ofBool (decide (s.val < hi (2 ^ g.val) t.val)) := WordCmp.cmpi_slt_ofNat (by omega) hh
  refine (congrArg₂ (fun a b : BitVec 1 => (FloatOps.uitofp (F := Ideal) .f32 (IntOp.andi a b) : EReal)) one two).trans ?_
  by_cases c1 : lo (2 ^ g.val) t.val ≤ s.val <;> by_cases c2 : s.val < hi (2 ^ g.val) t.val
  · rw [if_pos ⟨c1, c2⟩, decide_eq_true c1, decide_eq_true c2]
    show (((1 : ℕ) : ℝ) : EReal) = 1
    simp
  · rw [if_neg (fun h => c2 h.2), decide_eq_true c1, decide_eq_false c2]
    show (((0 : ℕ) : ℝ) : EReal) = 0
    simp
  · rw [if_neg (fun h => c1 h.1), decide_eq_false c1, decide_eq_true c2]
    show (((0 : ℕ) : ℝ) : EReal) = 0
    simp
  · rw [if_neg (fun h => c1 h.1), decide_eq_false c1, decide_eq_false c2]
    show (((0 : ℕ) : ℝ) : EReal) = 0
    simp

/-! ## The values -/

/-- The stream's row of sequence `b` at token `t`. -/
def row (b : Fin 16) (t : Fin 2048) : Fin 32768 := ⟨2048 * b.val + t.val, by have := b.isLt; have := t.isLt; omega⟩

theorem token_apply (b : Fin 16) (t : Fin 2048) (g : Fin 4) (d : Fin 128) : val_main_v0 (F := Ideal) x0 (ix4 b t g d) = x0 (ix2 (row b t) (col g d)) := by
  have hb := b.isLt
  have ht := t.isLt
  have hg := g.isLt
  have hd := d.isLt
  rw [val_main_v0_apply]
  refine congrArg x0 (funext fun a => Fin.ext ?_)
  match a with
  | ⟨0, _⟩ => show (((b.val * 2048 + t.val) * 4 + g.val) * 128 + d.val) / 512 = 2048 * b.val + t.val; omega
  | ⟨1, _⟩ => show (((b.val * 2048 + t.val) * 4 + g.val) * 128 + d.val) % 512 = g.val * 128 + d.val; omega

/-- A window's sum. -/
theorem total_apply (b : Fin 16) (t : Fin 2048) (g : Fin 4) (d : Fin 128) :
    (val_main_v29 (F := Ideal) x0 (ix4 b t g d) : EReal) = total (2 ^ g.val) t.val (fun r => x0 (ix2 (row b r) (col g d))) := by
  rw [val_main_v29_apply, val_main_v28_apply]
  unfold total
  refine Finset.sum_congr rfl fun s _ => ?_
  have el : lidx_main_v28 (idx_main_v29 (ix4 b t g d)) s = ix4 b s g d := funext fun a => Fin.ext (by
    match a with
    | ⟨0, _⟩ => rfl
    | ⟨1, _⟩ => rfl
    | ⟨2, _⟩ => rfl
    | ⟨3, _⟩ => rfl)
  have er : ridx_main_v28 (idx_main_v29 (ix4 b t g d)) s = ix3 g t s := funext fun a => Fin.ext (by
    match a with
    | ⟨0, _⟩ => rfl
    | ⟨1, _⟩ => rfl
    | ⟨2, _⟩ => rfl)
  rw [el, er, inside_apply, token_apply]
  by_cases h : lo (2 ^ g.val) t.val ≤ s.val ∧ s.val < hi (2 ^ g.val) t.val
  · rw [if_pos h, if_pos h]; exact mul_one (x0 (ix2 (row b s) (col g d)) : EReal)
  · rw [if_neg h, if_neg h]; exact mul_zero (x0 (ix2 (row b s) (col g d)) : EReal)

/-- A group's projection. -/
theorem mixed_apply (b : Fin 16) (t : Fin 2048) (g : Fin 4) (e : Fin 128) :
    (val_main_v40 (F := Ideal) x0 x1 (ix4 b t g e) : EReal)
      = ∑ d : Fin 128, (Ideal.div (total (2 ^ g.val) t.val (fun r => x0 (ix2 (row b r) (col g d)))) (count (2 ^ g.val) t.val) - x0 (ix2 (row b t) (col g d))) * x1 (ix3 g d e) := by
  rw [val_main_v40_apply, val_main_v39_apply]
  refine Finset.sum_congr rfl fun d _ => ?_
  have el : lidx_main_v39 (idx_main_v40 (ix4 b t g e)) d = ix3 g d e := funext fun a => Fin.ext (by
    match a with
    | ⟨0, _⟩ => rfl
    | ⟨1, _⟩ => rfl
    | ⟨2, _⟩ => rfl)
  have er : ridx_main_v39 (idx_main_v40 (ix4 b t g e)) d = ix4 b t g d := funext fun a => Fin.ext (by
    match a with
    | ⟨0, _⟩ => rfl
    | ⟨1, _⟩ => rfl
    | ⟨2, _⟩ => rfl
    | ⟨3, _⟩ => rfl)
  rw [el, er, val_main_v38_apply, val_main_v37_apply, val_main_v36_apply, total_apply, count_apply, token_apply]
  exact mul_comm (x1 (ix3 g d e) : EReal) _

/-- **The reference's result** at row `T`, column `j`. -/
theorem result_apply (T : Fin 32768) (j : Fin 512) : val_main_v44 (F := Ideal) x0 x1 x2 (ix2 T j) = PoolSpec.result x0 x1 x2 T j := by
  have hT := T.isLt
  have hj := j.isLt
  let b : Fin 16 := ⟨T.val / 2048, by omega⟩
  let t : Fin 2048 := ⟨T.val % 2048, by omega⟩
  let g : Fin 4 := ⟨j.val / 128, by omega⟩
  let e : Fin 128 := ⟨j.val % 128, by omega⟩
  have e41 : idx_main_v41 (ix2 T j) = ix4 b t g e := funext fun a => Fin.ext (by
    match a with
    | ⟨0, _⟩ => show (T.val * 512 + j.val) / 1048576 = T.val / 2048; omega
    | ⟨1, _⟩ => show (T.val * 512 + j.val) / 512 % 2048 = T.val % 2048; omega
    | ⟨2, _⟩ => show (T.val * 512 + j.val) / 128 % 4 = j.val / 128; omega
    | ⟨3, _⟩ => show (T.val * 512 + j.val) % 128 = j.val % 128; omega)
  have e42 : idx_main_v42 (ix2 T j) = ix2 (0 : Fin 1) (col g e) := funext fun a => Fin.ext (by
    match a with
    | ⟨0, _⟩ => rfl
    | ⟨1, _⟩ => show j.val = j.val / 128 * 128 + j.val % 128; omega)
  rw [val_main_v44_apply, val_main_v43_apply, val_main_v41_apply, e41, mixed_apply, val_main_v42_apply, e42]
  exact PoolSpec.result_at x0 x1 x2 (fun r k => x0 (ix2 (row b r) k)) T b.val t j (by show T.val = 2048 * (T.val / 2048) + T.val % 2048; omega)
    fun r k R hR => congrArg x0 (congrArg (fun R => ix2 R k) (Fin.ext hR.symm))

end Cert.PoolRefIdeal.Array

end
-- ==== Proof.PoolClaims.lean ====
/-
  The claims about the pool mixer: its frames, and that the kernel and the reference compute the same result.
-/
module

public import proofs.«01_k».proof.Proof.PoolArray
public import proofs.«01_k».proof.Proof.PoolRef
public import proofs.«01_k».proof.Proof.Gen.Pool.Frame
public import proofs.«01_k».proof.Proof.Gen.PoolRefIdeal.Run
public import proofs.«01_k».proof.Defs

@[expose] public section

noncomputable section

namespace Cert.PoolSpec

open Idealize.ShloMosaic Idealize.SL.Sem Idealize.ShloMosaic.ValueIdx

theorem frame_kernel : Cert.quiescent_Pool := fun m ρ _ => Cert.Pool.Gen.frame m ρ
theorem frame_ideal : Cert.quiescent_PoolIdeal := fun m ρ _ => Cert.PoolIdeal.Gen.frame m ρ

/-- The reference's arguments end unchanged; it declares no semaphore. -/
theorem frame_ref : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- **The pool mixer**: the kernel's result is the reference's. -/
theorem algebraic : Cert.algebraic_PoolIdeal_PoolRefIdeal := by
  intro m ρ m' ρ' _ hagree
  refine ⟨fun c => Cert.PoolIdeal.Array.result m c, ?_, ?_⟩
  · exact (θ_run Cert.PoolIdeal.defs _ _).mono (fun r h c => ⟨(h c).1.trans (Cert.PoolIdeal.Array.array_eq m c), (h c).2⟩)
      (Cert.PoolIdeal.Value.run_blocks (F := Ideal) m ρ)
  · refine (θ_run Cert.PoolRefIdeal.defs _ _).mono (fun r h c => ⟨(h c).1.trans ?_, (h c).2⟩) (Cert.PoolRefIdeal.Value.run (F := Ideal) m' ρ')
    rw [Cert.PoolRefIdeal.Read.val_main_v44_eq]
    obtain ⟨h0, h1, h2⟩ := hagree c
    refine (congr (congrArg₂ _ h0 h1) h2).trans ?_
    funext i
    exact (congrArg _ (eq_ix2 (n0 := 32768) (n1 := 512) i)).trans (Cert.PoolRefIdeal.Array.result_apply _ _ _ (i 0) (i 1))

end Cert.PoolSpec

end
-- ==== Proof.lean ====
/-
  The proof of `Cert.Claim`: each conjunct is a theorem of the call it speaks of.
-/
module

public import proofs.«01_k».proof.Defs
public import proofs.«01_k».proof.Proof.AttnClaims
public import proofs.«01_k».proof.Proof.MergeClaims
public import proofs.«01_k».proof.Proof.FfnClaims
public import proofs.«01_k».proof.Proof.InprojClaims
public import proofs.«01_k».proof.Proof.PoolClaims
public import proofs.«01_k».proof.Proof.Gen.Inproj.Frame
public import proofs.«01_k».proof.Proof.Gen.Pool.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.Ffn.Frame
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.Attention.Frame
public import proofs.«01_k».proof.Proof.Gen.AttentionIdeal.Value
public import proofs.«01_k».proof.Proof.Gen.AttentionRefIdeal.Run
public import proofs.«01_k».proof.Proof.Gen.AttentionRefIdeal.Read
public import proofs.«01_k».proof.Proof.Gen.Pre_finite_qk
public import proofs.«01_k».proof.Proof.Gen.Pre_finite_w

@[expose] public section

noncomputable section

namespace Cert.Proof

open Idealize.ShloMosaic Idealize.SL.Sem

theorem claim : Cert.Claim := ⟨Cert.Attention.Gen.facts, Cert.AttentionIdeal.Gen.facts, Cert.AttentionRefIdeal.Gen.facts,
  Cert.Merge.Gen.facts, Cert.MergeIdeal.Gen.facts, Cert.MergeRefIdeal.Gen.facts, Cert.Ffn.Gen.facts, Cert.FfnIdeal.Gen.facts, Cert.FfnRefIdeal.Gen.facts,
  Cert.Inproj.Gen.facts, Cert.InprojIdeal.Gen.facts, Cert.InprojRefIdeal.Gen.facts,
  Cert.Pool.Gen.facts, Cert.PoolIdeal.Gen.facts, Cert.PoolRefIdeal.Gen.facts, Cert.Pre_finite_qk.Gen.facts, Cert.Pre_finite_w.Gen.facts,
  Cert.Attn.frame_kernel, Cert.Attn.frame_ideal, Cert.Attn.frame_ideal_pre, Cert.Attn.frame_ref, Cert.Attn.frame_ref_pre,
  Cert.MergeSpec.frame_kernel, Cert.MergeSpec.frame_ideal, Cert.MergeSpec.frame_ref,
  Cert.FfnSpec.frame_kernel, Cert.FfnSpec.frame_ideal, Cert.FfnSpec.frame_ref,
  Cert.InprojSpec.frame_kernel, Cert.InprojSpec.frame_ideal, Cert.InprojSpec.frame_ideal_pre, Cert.InprojSpec.frame_ref, Cert.InprojSpec.frame_ref_pre,
  Cert.PoolSpec.frame_kernel, Cert.PoolSpec.frame_ideal, Cert.PoolSpec.frame_ref,
  trivial, Cert.Attn.algebraic, trivial, Cert.MergeSpec.algebraic, trivial, Cert.FfnSpec.algebraic,
  trivial, Cert.InprojSpec.algebraic, trivial, Cert.PoolSpec.algebraic⟩

end Cert.Proof

end
